-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) (m ((c.tc : Thread Cert.Kernel20Ideal.nD Cert.Kernel20Ideal.τ).loc Cert.Kernel20Ideal.main_arg7)) (m ((c.tc : Thread Cert.Kernel20Ideal.nD Cert.Kernel20Ideal.τ).loc Cert.Kernel20Ideal.main_arg8))).1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) (m ((c.tc : Thread Cert.Kernel20Ideal.nD Cert.Kernel20Ideal.τ).loc Cert.Kernel20Ideal.main_arg7)) (m ((c.tc : Thread Cert.Kernel20Ideal.nD Cert.Kernel20Ideal.τ).loc Cert.Kernel20Ideal.main_arg8))).2.1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) (m ((c.tc : Thread Cert.Kernel20Ideal.nD Cert.Kernel20Ideal.τ).loc Cert.Kernel20Ideal.main_arg7)) (m ((c.tc : Thread Cert.Kernel20Ideal.nD Cert.Kernel20Ideal.τ).loc Cert.Kernel20Ideal.main_arg8))).2.2.1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) (m ((c.tc : Thread Cert.Kernel20Ideal.nD Cert.Kernel20Ideal.τ).loc Cert.Kernel20Ideal.main_arg7)) (m ((c.tc : Thread Cert.Kernel20Ideal.nD Cert.Kernel20Ideal.τ).loc Cert.Kernel20Ideal.main_arg8))).2.2.2 = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6)) (m ((c.tc : Thread Cert.Reference20Ideal.nD Cert.Reference20Ideal.τ).loc Cert.Reference20Ideal.main_arg7)) (m ((c.tc : Thread Cert.Reference20Ideal.nD Cert.Reference20Ideal.τ).loc Cert.Reference20Ideal.main_arg8))).1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6)) (m ((c.tc : Thread Cert.Reference20Ideal.nD Cert.Reference20Ideal.τ).loc Cert.Reference20Ideal.main_arg7)) (m ((c.tc : Thread Cert.Reference20Ideal.nD Cert.Reference20Ideal.τ).loc Cert.Reference20Ideal.main_arg8))).2.1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6)) (m ((c.tc : Thread Cert.Reference20Ideal.nD Cert.Reference20Ideal.τ).loc Cert.Reference20Ideal.main_arg7)) (m ((c.tc : Thread Cert.Reference20Ideal.nD Cert.Reference20Ideal.τ).loc Cert.Reference20Ideal.main_arg8))).2.2.1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6)) (m ((c.tc : Thread Cert.Reference20Ideal.nD Cert.Reference20Ideal.τ).loc Cert.Reference20Ideal.main_arg7)) (m ((c.tc : Thread Cert.Reference20Ideal.nD Cert.Reference20Ideal.τ).loc Cert.Reference20Ideal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7)
      ∧ r.2.mem ((c.tc : Thread Cert.Kernel20.nD Cert.Kernel20.τ).loc Cert.Kernel20.main_arg8) = m ((c.tc : Thread Cert.Kernel20.nD Cert.Kernel20.τ).loc Cert.Kernel20.main_arg8))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
      ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
      ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7)
      ∧ r.2.mem ((c.tc : Thread Cert.Reference20Ideal.nD Cert.Reference20Ideal.τ).loc Cert.Reference20Ideal.main_arg8) = m ((c.tc : Thread Cert.Reference20Ideal.nD Cert.Reference20Ideal.τ).loc Cert.Reference20Ideal.main_arg8))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7)
      ∧ r.2.mem ((c.tc : Thread Cert.Reference20Ideal.nD Cert.Reference20Ideal.τ).loc Cert.Reference20Ideal.main_arg8) = m ((c.tc : Thread Cert.Reference20Ideal.nD Cert.Reference20Ideal.τ).loc Cert.Reference20Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)) (v6 : (c : Dev Cert.KernelIdeal.nD) → Buf (Elt Ideal) ((c.tc : Thread Cert.KernelIdeal.nD Cert.KernelIdeal.τ).loc Cert.KernelIdeal.main_v8_6)) (v7 : (c : Dev Cert.KernelIdeal.nD) → Buf (Elt Ideal) ((c.tc : Thread Cert.KernelIdeal.nD Cert.KernelIdeal.τ).loc Cert.KernelIdeal.main_v8_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_v8_6) = v6 c
          ∧ r.2.mem ((c.tc : Thread Cert.KernelIdeal.nD Cert.KernelIdeal.τ).loc Cert.KernelIdeal.main_v8_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v45) = v4 c
          ∧ r.2.mem ((c.tc : Thread Cert.ReferenceIdeal.nD Cert.ReferenceIdeal.τ).loc Cert.ReferenceIdeal.main_v61) = v5 c
          ∧ r.2.mem ((c.tc : Thread Cert.ReferenceIdeal.nD Cert.ReferenceIdeal.τ).loc Cert.ReferenceIdeal.main_v68) = v6 c
          ∧ r.2.mem ((c.tc : Thread Cert.ReferenceIdeal.nD Cert.ReferenceIdeal.τ).loc Cert.ReferenceIdeal.main_v65) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_v8) = v1 c
          ∧ r.2.mem ((c.tc : Thread Cert.Reference7Ideal.nD Cert.Reference7Ideal.τ).loc Cert.Reference7Ideal.main_v11) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v48) = v0 c
          ∧ r.2.mem ((c.tc : Thread Cert.Reference18Ideal.nD Cert.Reference18Ideal.τ).loc Cert.Reference18Ideal.main_v32) = v1 c
          ∧ r.2.mem ((c.tc : Thread Cert.Reference18Ideal.nD Cert.Reference18Ideal.τ).loc Cert.Reference18Ideal.main_v49) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v100) = v0 c
          ∧ r.2.mem ((c.tc : Thread Cert.Reference19Ideal.nD Cert.Reference19Ideal.τ).loc Cert.Reference19Ideal.main_v103) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)
      ∧ m' ((c.tc : Thread Cert.Reference20Ideal.nD Cert.Reference20Ideal.τ).loc Cert.Reference20Ideal.main_arg8) = m ((c.tc : Thread Cert.Kernel20Ideal.nD Cert.Kernel20Ideal.τ).loc Cert.Kernel20Ideal.main_arg8)) →
    ∃ (v0 : (c : Dev Cert.Kernel20Ideal.nD) → Buf (Elt Ideal) ((c.tc : Thread Cert.Kernel20Ideal.nD Cert.Kernel20Ideal.τ).loc Cert.Kernel20Ideal.main_v8)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v8) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
          ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v39) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7)
          ∧ r.2.mem ((c.tc : Thread Cert.Reference20Ideal.nD Cert.Reference20Ideal.τ).loc Cert.Reference20Ideal.main_arg8) = m' ((c.tc : Thread Cert.Reference20Ideal.nD Cert.Reference20Ideal.τ).loc Cert.Reference20Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite2 : Cert.Pre_finite2.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite20 (hKernel20Ideal := hKernel20Ideal) (hReference20Ideal := hReference20Ideal) (hPre_finite20 := hPre_finite20)
-- ==== Pre_finite.lean ====
abbrev S4096x512 : Shape := ⟨2, ![4096, 512]⟩
abbrev S1x512 : Shape := ⟨2, ![1, 512]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  bcast_S_S1x512 : S_.BroadcastsInDim S1x512 (![] : Fin 0 → Fin S1x512.rank)
  bcast_S_S4096x1024 : S_.BroadcastsInDim S4096x1024 (![] : Fin 0 → Fin S4096x1024.rank)

variable [Facts]

def fn_part1 {F : FTy → Type} [FloatOps F] (main_arg6 : FVec F S1x512 .f32) (main_arg7 : FVec F S1x512 .f32) (main_arg8 : FVec F S4096x1024 .f32) (main_v2 : IVec S4096x512 1) (main_v5 : IVec S4096x512 1) (main_v8 : IVec S4096x512 1) (main_v11 : IVec S4096x512 1) (main_v14 : IVec S4096x512 1) (main_v17 : IVec S1x512 1) : IVec S4096x512 1 × IVec S4096x512 1 × IVec S4096x512 1 × IVec S4096x512 1 × IVec S4096x512 1 × IVec S1x512 1 × IVec S1x512 1 × IVec S1x512 1 × IVec S4096x1024 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S1x512 .f32 := Host.absf main_arg7
  let main_cst_6 : FVec F S_ .f32 := constant S_ .f32 0x7F800000#32
  let main_v22 : FVec F S1x512 .f32 := broadcastInDim S1x512 ![] bcast_S_S1x512 main_cst_6
  let main_v23 : IVec S1x512 1 := cmpf .olt main_v21 main_v22
  let main_v24 : FVec F S4096x1024 .f32 := Host.absf main_arg8
  let main_cst_7 : FVec F S_ .f32 := constant S_ .f32 0x7F800000#32
  let main_v25 : FVec F S4096x1024 .f32 := broadcastInDim S4096x1024 ![] bcast_S_S4096x1024 main_cst_7
  let main_v26 : IVec S4096x1024 1 := cmpf .olt main_v24 main_v25
  (main_v2, main_v5, main_v8, main_v11, main_v14, main_v17, main_v20, main_v23, main_v26)

def fn {F : FTy → Type} [FloatOps F] (main_arg0 : FVec F S4096x512 .f32) (main_arg1 : FVec F S4096x512 .f32) (main_arg2 : FVec F S4096x512 .f32) (main_arg3 : FVec F S4096x512 .f32) (main_arg4 : FVec F S4096x512 .f32) (main_arg5 : FVec F S1x512 .f32) (main_arg6 : FVec F S1x512 .f32) (main_arg7 : FVec F S1x512 .f32) (main_arg8 : FVec F S4096x1024 .f32) : IVec S4096x512 1 × IVec S4096x512 1 × IVec S4096x512 1 × IVec S4096x512 1 × IVec S4096x512 1 × IVec S1x512 1 × IVec S1x512 1 × IVec S1x512 1 × IVec S4096x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg6 main_arg7 main_arg8 main_v2 main_v5 main_v8 main_v11 main_v14 main_v17
-- ==== Pre_finite2.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .f32) (main_arg1 : FVec F S2816x1024 .bf16) (main_arg2 : FVec F S4096x2816 .bf16) (main_arg3 : FVec F S4096x2816 .bf16) : IVec S4096x1024 1 × IVec S2816x1024 1 × IVec S4096x2816 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2816x1024 .f32 := (extf .f32 · bitsLt_bf16_f32) main_arg1
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S4096x2816 .f32 := (extf .f32 · bitsLt_bf16_f32) main_arg2
  let main_v8 : FVec F S4096x2816 .f32 := Host.absf main_v7
  let main_cst_1 : FVec F S_ .f32 := constant S_ .f32 0x7F800000#32
  let main_v9 : FVec F S4096x2816 .f32 := broadcastInDim S4096x2816 ![] bcast_S_S4096x2816 main_cst_1
  let main_v10 : IVec S4096x2816 1 := cmpf .olt main_v8 main_v9
  let main_v11 : FVec F S4096x2816 .f32 := (extf .f32 · bitsLt_bf16_f32) main_arg3
  let main_v12 : FVec F S4096x2816 .f32 := Host.absf main_v11
  let main_cst_2 : FVec F S_ .f32 := constant S_ .f32 0x7F800000#32
  let main_v13 : FVec F S4096x2816 .f32 := broadcastInDim S4096x2816 ![] bcast_S_S4096x2816 main_cst_2
  let main_v14 : IVec S4096x2816 1 := cmpf .olt main_v12 main_v13
  (main_v2, main_v6, main_v10, main_v14)
-- ==== Pre_finite20.lean ====
abbrev S4096x512 : Shape := ⟨2, ![4096, 512]⟩
abbrev S1x512 : Shape := ⟨2, ![1, 512]⟩
abbrev S_ : Shape := ⟨0, ![]⟩

class Facts : Prop where
  bcast_S_S4096x512 : S_.BroadcastsInDim S4096x512 (![] : Fin 0 → Fin S4096x512.rank)
  bcast_S_S1x512 : S_.BroadcastsInDim S1x512 (![] : Fin 0 → Fin S1x512.rank)

variable [Facts]

def fn {F : FTy → Type} [FloatOps F] (main_arg0 : FVec F S4096x512 .f32) (main_arg1 : FVec F S4096x512 .f32) (main_arg2 : FVec F S4096x512 .f32) (main_arg3 : FVec F S4096x512 .f32) (main_arg4 : FVec F S4096x512 .f32) (main_arg5 : FVec F S4096x512 .f32) (main_arg6 : FVec F S1x512 .f32) (main_arg7 : FVec F S1x512 .f32) (main_arg8 : FVec F S1x512 .f32) : IVec S4096x512 1 × IVec S4096x512 1 × IVec S4096x512 1 × IVec S1x512 1 :=
  let main_v0 : FVec F S4096x512 .f32 := Host.absf main_arg1
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg2
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg3
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S1x512 .f32 := Host.absf main_arg6
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  (main_v2, main_v5, main_v8, main_v11)
-- ==== Kernel.lean ====
abbrev S4096x512 : Shape := ⟨2, ![4096, 512]⟩
abbrev S1x512 : Shape := ⟨2, ![1, 512]⟩
abbrev S4096x1024 : Shape := ⟨2, ![4096, 1024]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S512 : Shape := ⟨1, ![512]⟩

abbrev nBuf : Space → Nat
  | .hbm => 32
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S4096x1024, .f32⟩
  | .hbm, ⟨9, _⟩ => ⟨S8x8, .i32⟩
  | .hbm, ⟨10, _⟩ => ⟨S8x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8, .f32⟩
  | .hbm, ⟨16, _⟩ => ⟨S_, .f32⟩
  | .hbm, ⟨17, _⟩ => ⟨S64x64, .f32⟩
  | .hbm, ⟨18, _⟩ => ⟨S8x1x8x1, .f32⟩
  | .hbm, ⟨19, _⟩ => ⟨S1x64x1x64, .f32⟩
  | .hbm, ⟨20, _⟩ => ⟨S8x64x8x64, .f32⟩
  | .hbm, ⟨21, _⟩ => ⟨S8x64x8x64, .f32⟩
  | .hbm, ⟨22, _⟩ => ⟨S8x64x8x64, .f32⟩
  | .hbm, ⟨23, _⟩ => ⟨S512x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S1x512, .f32⟩
  | .hbm, ⟨30, _⟩ => ⟨S1x512, .f32⟩
  | .hbm, ⟨31, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_v8_3 : Ref sig .tc := ⟨.hbm, 27, rfl⟩
abbrev main_v8_4 : Ref sig .tc := ⟨.hbm, 28, rfl⟩
abbrev main_v8_5 : Ref sig .tc := ⟨.hbm, 29, rfl⟩
abbrev main_v8_6 : Ref sig .tc := ⟨.hbm, 30, rfl⟩
abbrev main_v8_7 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S4096x512 : Shape := ⟨2, ![4096, 512]⟩
abbrev S1x512 : Shape := ⟨2, ![1, 512]⟩
abbrev S4096x1024 : Shape := ⟨2, ![4096, 1024]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S8x64 : Shape := ⟨2, ![8, 64]⟩
abbrev S1x8x64 : Shape := ⟨3, ![1, 8, 64]⟩
abbrev S512 : Shape := ⟨1, ![512]⟩

abbrev nBuf : Space → Nat
  | .hbm => 130
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S1x512, .f32⟩
  | 6 => ⟨S1x512, .f32⟩
  | 7 => ⟨S1x512, .f32⟩
  | 8 => ⟨S4096x1024, .f32⟩
  | 9 => ⟨S4096x8x64, .f32⟩
  | 10 => ⟨S4096x8x64, .f32⟩
  | 11 => ⟨S4096x8x64, .f32⟩
  | 12 => ⟨S4096x8x64, .f32⟩
  | 13 => ⟨S_, .f32⟩
  | 14 => ⟨S4096x8, .f32⟩
  | 15 => ⟨S4096x8x1, .f32⟩
  | 16 => ⟨S_, .f32⟩
  | 17 => ⟨S4096x8x1, .f32⟩
  | 18 => ⟨S4096x8x1, .f32⟩
  | 19 => ⟨S4096x8x64, .f32⟩
  | 20 => ⟨S4096x8x64, .f32⟩
  | 21 => ⟨S4096x8x64, .f32⟩
  | 22 => ⟨S_, .f32⟩
  | 23 => ⟨S4096x8x64, .f32⟩
  | 24 => ⟨S4096x8x64, .f32⟩
  | 25 => ⟨S_, .f32⟩
  | 26 => ⟨S4096x8, .f32⟩
  | 27 => ⟨S4096x8x1, .f32⟩
  | 28 => ⟨S_, .f32⟩
  | 29 => ⟨S4096x8x1, .f32⟩
  | 30 => ⟨S4096x8x1, .f32⟩
  | 31 => ⟨S4096x8x64, .f32⟩
  | 32 => ⟨S4096x8x64, .f32⟩
  | 33 => ⟨S_, .f32⟩
  | 34 => ⟨S4096x8x1, .f32⟩
  | 35 => ⟨S4096x8x1, .f32⟩
  | 36 => ⟨S4096x8x1, .f32⟩
  | 37 => ⟨S4096x8x1, .f32⟩
  | 38 => ⟨S_, .f32⟩
  | 39 => ⟨S4096x8x1, .f32⟩
  | 40 => ⟨S4096x8x1, .f32⟩
  | 41 => ⟨S4096x8x64, .f32⟩
  | 42 => ⟨S4096x8x64, .f32⟩
  | 43 => ⟨S4096x512, .f32⟩
  | 44 => ⟨S4096x512, .f32⟩
  | 45 => ⟨S4096x512, .f32⟩
  | 46 => ⟨S4096x512, .f32⟩
  | 47 => ⟨S4096x512, .f32⟩
  | 48 => ⟨S4096x8x64, .f32⟩
  | 49 => ⟨S8x64, .f32⟩
  | 50 => ⟨S1x8x64, .f32⟩
  | 51 => ⟨S4096x8x64, .f32⟩
  | 52 => ⟨S4096x8x64, .f32⟩
  | 53 => ⟨S_, .f32⟩
  | 54 => ⟨S4096x8, .f32⟩
  | 55 => ⟨S4096x8x1, .f32⟩
  | 56 => ⟨S4096x8x64, .f32⟩
  | 57 => ⟨S4096x8x64, .f32⟩
  | 58 => ⟨S4096x512, .f32⟩
  | 59 => ⟨S4096x512, .f32⟩
  | 60 => ⟨S4096x512, .f32⟩
  | 61 => ⟨S4096x512, .f32⟩
  | 62 => ⟨S4096x512, .f32⟩
  | 63 => ⟨S4096x512, .f32⟩
  | 64 => ⟨S4096x8x64, .f32⟩
  | 65 => ⟨S4096x8x64, .f32⟩
  | 66 => ⟨S4096x8x64, .f32⟩
  | 67 => ⟨S4096x8x64, .f32⟩
  | 68 => ⟨S_, .f32⟩
  | 69 => ⟨S4096x8, .f32⟩
  | 70 => ⟨S4096x8x1, .f32⟩
  | 71 => ⟨S_, .f32⟩
  | 72 => ⟨S4096x8, .f32⟩
  | 73 => ⟨S4096x8x64, .f32⟩
  | 74 => ⟨S4096x8x64, .f32⟩
  | 75 => ⟨S_, .f32⟩
  | 76 => ⟨S8x64, .f32⟩
  | 77 => ⟨S1x8x64, .f32⟩
  | 78 => ⟨S4096x8x64, .f32⟩
  | 79 => ⟨S4096x8x64, .f32⟩
  | 80 => ⟨S_, .f32⟩
  | 81 => ⟨S8x64, .f32⟩
  | 82 => ⟨S1x512, .f32⟩
  | 83 => ⟨S4096x8x64, .f32⟩
  | 84 => ⟨S4096x8x64, .f32⟩
  | 85 => ⟨S_, .f32⟩
  | 86 => ⟨S512, .f32⟩
  | 87 => ⟨S1x512, .f32⟩
  | 88 => ⟨S4096x512, .f32⟩
  | 89 => ⟨S_, .f32⟩
  | 90 => ⟨S512, .f32⟩
  | 91 => ⟨S1x512, .f32⟩
  | 92 => ⟨S4096x512, .f32⟩
  | 93 => ⟨S4096x512, .f32⟩
  | 94 => ⟨S4096x8x64, .f32⟩
  | 95 => ⟨S4096x8x64, .f32⟩
  | 96 => ⟨S_, .f32⟩
  | 97 => ⟨S4096x8, .f32⟩
  | 98 => ⟨S4096x8x1, .f32⟩
  | 99 => ⟨S4096x8x64, .f32⟩
  | 100 => ⟨S4096x8x64, .f32⟩
  | 101 => ⟨S4096x8x1, .f32⟩
  | 102 => ⟨S4096x8x64, .f32⟩
  | 103 => ⟨S_, .f32⟩
  | 104 => ⟨S4096x8, .f32⟩
  | 105 => ⟨S4096x8x1, .f32⟩
  | 106 => ⟨S_, .f32⟩
  | 107 => ⟨S4096x8x1, .f32⟩
  | 108 => ⟨S4096x8x1, .f32⟩
  | 109 => ⟨S_, .f32⟩
  | 110 => ⟨S4096x8, .f32⟩
  | 111 => ⟨S4096x8x64, .f32⟩
  | 112 => ⟨S4096x8x64, .f32⟩
  | 113 => ⟨S4096x8x64, .f32⟩
  | 114 => ⟨S_, .f32⟩
  | 115 => ⟨S4096x8, .f32⟩
  | 116 => ⟨S4096x8x1, .f32⟩
  | 117 => ⟨S4096x8x64, .f32⟩
  | 118 => ⟨S4096x8x1, .f32⟩
  | 119 => ⟨S_, .f32⟩
  | 120 => ⟨S4096x8x1, .f32⟩
  | 121 => ⟨S4096x8x1, .f32⟩
  | 122 => ⟨S_, .f32⟩
  | 123 => ⟨S4096x8, .f32⟩
  | 124 => ⟨S4096x8x64, .f32⟩
  | 125 => ⟨S4096x8x64, .f32⟩
  | 126 => ⟨S4096x512, .f32⟩
  | 127 => ⟨S4096x512, .f32⟩
  | _ => ⟨S4096x512, .f32⟩

abbrev hbmTy0_1 (i : Nat) : BufTy := match i % 128 with
  | 0 => ⟨S4096x512, .f32⟩
  | 1 => ⟨S4096x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_13 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_14 : Ref sig .tc := ⟨.hbm, 103, rfl⟩
abbrev main_v79 : Ref sig .tc := ⟨.hbm, 104, rfl⟩
abbrev main_v80 : Ref sig .tc := ⟨.hbm, 105, rfl⟩
abbrev main_cst_15 : Ref sig .tc := ⟨.hbm, 106, rfl⟩
abbrev main_v81 : Ref sig .tc := ⟨.hbm, 107, rfl⟩
abbrev main_v82 : Ref sig .tc := ⟨.hbm, 108, rfl⟩
abbrev main_cst_16 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_17 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_18 : Ref sig .tc := ⟨.hbm, 119, rfl⟩
abbrev main_v91 : Ref sig .tc := ⟨.hbm, 120, rfl⟩
abbrev main_v92 : Ref sig .tc := ⟨.hbm, 121, rfl⟩
abbrev main_cst_19 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S4096x2816 : Shape := ⟨2, ![4096, 2816]⟩
abbrev S2048x1024 : Shape := ⟨2, ![2048, 1024]⟩
abbrev S256x1024 : Shape := ⟨2, ![256, 1024]⟩
abbrev S2048x256 : Shape := ⟨2, ![2048, 256]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S2048x1024, .f32⟩
  | .local _ .vmem, ⟨1, _⟩ => ⟨S2048x1024, .f32⟩
  | .local _ .vmem, ⟨2, _⟩ => ⟨S256x1024, .bf16⟩
  | .local _ .vmem, ⟨3, _⟩ => ⟨S256x1024, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S2816x1024, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .bf16⟩
  | .hbm, ⟨36, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .bf16⟩
  | .hbm, ⟨3, _⟩ => ⟨S2816x1024, .bf16⟩
  | .hbm, ⟨4, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S4096x2816 : Shape := ⟨2, ![4096, 2816]⟩
abbrev S2816x1024 : Shape := ⟨2, ![2816, 1024]⟩
abbrev S_ : Shape := ⟨0, ![]⟩
abbrev S4096x1024 : Shape := ⟨2, ![4096, 1024]⟩
abbrev S1024x2816 : Shape := ⟨2, ![1024, 2816]⟩

abbrev nBuf : Space → Nat
  | .hbm => 17
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .bf16⟩
  | .hbm, ⟨3, _⟩ => ⟨S2816x1024, .bf16⟩
  | .hbm, ⟨4, _⟩ => ⟨S_, .f32⟩
  | .hbm, ⟨5, _⟩ => ⟨S4096x1024, .f32⟩
  | .hbm, ⟨6, _⟩ => ⟨S1024x2816, .bf16⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x1024, .f32⟩
  | .hbm, ⟨15, _⟩ => ⟨S4096x1024, .f32⟩
  | .hbm, ⟨16, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference6Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel7.lean ====
abbrev S4096x1024 : Shape := ⟨2, ![4096, 1024]⟩
abbrev S2816x1024 : Shape := ⟨2, ![2816, 1024]⟩
abbrev S4096x2816 : Shape := ⟨2, ![4096, 2816]⟩
abbrev S2048x1024 : Shape := ⟨2, ![2048, 1024]⟩
abbrev S256x1024 : Shape := ⟨2, ![256, 1024]⟩
abbrev S2048x256 : Shape := ⟨2, ![2048, 256]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x1024, .f32⟩
  | .hbm, ⟨4, _⟩ => ⟨S1024x2816, .bf16⟩
  | .hbm, ⟨5, _⟩ => ⟨S1024x2816, .f32⟩
  | .hbm, ⟨6, _⟩ => ⟨S1024x2816, .bf16⟩
  | .hbm, ⟨7, _⟩ => ⟨S1024x2816, .f32⟩
  | .hbm, ⟨8, _⟩ => ⟨S4096x2816, .f32⟩
  | .hbm, ⟨9, _⟩ => ⟨S4096x2816, .f32⟩
  | .hbm, ⟨10, _⟩ => ⟨S4096x2816, .bf16⟩
  | .hbm, ⟨11, _⟩ => ⟨S4096x2816, .bf16⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel8.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S1024x256, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4096x1024 : Shape := ⟨2, ![4096, 1024]⟩
abbrev S1024x1792 : Shape := ⟨2, ![1024, 1792]⟩
abbrev S4096x1792 : Shape := ⟨2, ![4096, 1792]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1792, .bf16⟩
  | .hbm, ⟨2, _⟩ => ⟨S4096x1792, .f32⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S1024x256, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x1792 : Shape := ⟨2, ![1024, 1792]⟩
abbrev S4096x1792 : Shape := ⟨2, ![4096, 1792]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1792, .bf16⟩
  | .hbm, ⟨2, _⟩ => ⟨S4096x1024, .f32⟩
  | .hbm, ⟨3, _⟩ => ⟨S1024x1792, .f32⟩
  | .hbm, ⟨4, _⟩ => ⟨S4096x1792, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S2048x1024, .f32⟩
  | .local _ .vmem, ⟨1, _⟩ => ⟨S2048x1024, .f32⟩
  | .local _ .vmem, ⟨2, _⟩ => ⟨S1024x256, .bf16⟩
  | .local _ .vmem, ⟨3, _⟩ => ⟨S1024x256, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S2048x1024 : Shape := ⟨2, ![2048, 1024]⟩
abbrev S256x1024 : Shape := ⟨2, ![256, 1024]⟩
abbrev S2048x256 : Shape := ⟨2, ![2048, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S2048x1024, .f32⟩
  | .local _ .vmem, ⟨1, _⟩ => ⟨S2048x1024, .f32⟩
  | .local _ .vmem, ⟨2, _⟩ => ⟨S256x1024, .bf16⟩
  | .local _ .vmem, ⟨3, _⟩ => ⟨S256x1024, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x2048 : Shape := ⟨2, ![4096, 2048]⟩
abbrev S1024x2048 : Shape := ⟨2, ![1024, 2048]⟩
abbrev S4096x1792 : Shape := ⟨2, ![4096, 1792]⟩
abbrev S1024x1792 : Shape := ⟨2, ![1024, 1792]⟩
abbrev S4096x1024 : Shape := ⟨2, ![4096, 1024]⟩
abbrev S512x2048 : Shape := ⟨2, ![512, 2048]⟩
abbrev S512x1792 : Shape := ⟨2, ![512, 1792]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S1024x2048, .bf16⟩
  | .hbm, ⟨2, _⟩ => ⟨S4096x1792, .f32⟩
  | .hbm, ⟨3, _⟩ => ⟨S1024x1792, .bf16⟩
  | .hbm, ⟨4, _⟩ => ⟨S4096x1024, .f32⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S512x1792, .f32⟩
  | .local _ .vmem, ⟨4, _⟩ => ⟨S512x1792, .f32⟩
  | .local _ .vmem, ⟨5, _⟩ => ⟨S1024x1792, .bf16⟩
  | .local _ .vmem, ⟨6, _⟩ => ⟨S512x1024, .f32⟩
  | .local _ .vmem, ⟨7, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S4096x2048 : Shape := ⟨2, ![4096, 2048]⟩
abbrev S1024x2048 : Shape := ⟨2, ![1024, 2048]⟩
abbrev S4096x1792 : Shape := ⟨2, ![4096, 1792]⟩
abbrev S1024x1792 : Shape := ⟨2, ![1024, 1792]⟩
abbrev S_ : Shape := ⟨0, ![]⟩
abbrev S4096x1024 : Shape := ⟨2, ![4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .bf16⟩
  | .hbm, ⟨2, _⟩ => ⟨S4096x1792, .f32⟩
  | .hbm, ⟨3, _⟩ => ⟨S1024x1792, .bf16⟩
  | .hbm, ⟨4, _⟩ => ⟨S_, .f32⟩
  | .hbm, ⟨5, _⟩ => ⟨S4096x1024, .f32⟩
  | .hbm, ⟨6, _⟩ => ⟨S1024x2048, .f32⟩
  | .hbm, ⟨7, _⟩ => ⟨S4096x2048, .f32⟩
  | .hbm, ⟨8, _⟩ => ⟨S1024x1792, .f32⟩
  | .hbm, ⟨9, _⟩ => ⟨S4096x1792, .f32⟩
  | .hbm, ⟨10, _⟩ => ⟨S4096x1024, .f32⟩
  | .hbm, ⟨11, _⟩ => ⟨S4096x1024, .f32⟩
  | .hbm, ⟨12, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel15.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S2048x1024, .f32⟩
  | .hbm, ⟨7, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S4096x1024 : Shape := ⟨2, ![4096, 1024]⟩
abbrev S4096x1792 : Shape := ⟨2, ![4096, 1792]⟩
abbrev S1024x1792 : Shape := ⟨2, ![1024, 1792]⟩
abbrev S1024x1024 : Shape := ⟨2, ![1024, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1792, .f32⟩
  | .hbm, ⟨2, _⟩ => ⟨S1024x1792, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .f32⟩
  | .local _ .vmem, ⟨3, _⟩ => ⟨S1024x896, .f32⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S4096x1792 : Shape := ⟨2, ![4096, 1792]⟩
abbrev S_ : Shape := ⟨0, ![]⟩
abbrev S1024x1792 : Shape := ⟨2, ![1024, 1792]⟩
abbrev S1792x1024 : Shape := ⟨2, ![1792, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1792, .f32⟩
  | .hbm, ⟨2, _⟩ => ⟨S_, .f32⟩
  | .hbm, ⟨3, _⟩ => ⟨S1024x1792, .f32⟩
  | .hbm, ⟨4, _⟩ => ⟨S4096x1024, .f32⟩
  | .hbm, ⟨5, _⟩ => ⟨S4096x1792, .f32⟩
  | .hbm, ⟨6, _⟩ => ⟨S1792x1024, .f32⟩
  | .hbm, ⟨7, _⟩ => ⟨S1024x1792, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel18.lean ====
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference18Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel19.lean ====
abbrev S4096x2048 : Shape := ⟨2, ![4096, 2048]⟩
abbrev S1x512 : Shape := ⟨2, ![1, 512]⟩
abbrev S4096x512 : Shape := ⟨2, ![4096, 512]⟩
abbrev S8x4x128x128 : Shape := ⟨4, ![8, 4, 128, 128]⟩
abbrev S512x512 : Shape := ⟨2, ![512, 512]⟩
abbrev S1x4x128x128 : Shape := ⟨4, ![1, 4, 128, 128]⟩
abbrev S4x128x128 : Shape := ⟨3, ![4, 128, 128]⟩
abbrev S1x128x128 : Shape := ⟨3, ![1, 128, 128]⟩
abbrev S128x128 : Shape := ⟨2, ![128, 128]⟩
abbrev S64x128 : Shape := ⟨2, ![64, 128]⟩
abbrev S1x128 : Shape := ⟨2, ![1, 128]⟩
abbrev S64x64 : Shape := ⟨2, ![64, 64]⟩
abbrev S64x1 : Shape := ⟨2, ![64, 1]⟩
abbrev S128 : Shape := ⟨1, ![128]⟩
abbrev S64 : Shape := ⟨1, ![64]⟩

abbrev nBuf : Space → Nat
  | .hbm => 6
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S4096x512, .f32⟩
  | .hbm, ⟨5, _⟩ => ⟨S8x4x128x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S1x4x128x128, .f32⟩
  | .local _ .vmem, ⟨14, _⟩ => ⟨S1x4x128x128, .f32⟩
  | .local _ .vmem, ⟨15, _⟩ => ⟨S4x128x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S4096x2048 : Shape := ⟨2, ![4096, 2048]⟩
abbrev S1x512 : Shape := ⟨2, ![1, 512]⟩
abbrev S2x512 : Shape := ⟨2, ![2, 512]⟩
abbrev S_ : Shape := ⟨0, ![]⟩
abbrev S512 : Shape := ⟨1, ![512]⟩
abbrev S1x4096x2048 : Shape := ⟨3, ![1, 4096, 2048]⟩
abbrev S1x4096x512 : Shape := ⟨3, ![1, 4096, 512]⟩
abbrev S1x1x512 : Shape := ⟨3, ![1, 1, 512]⟩
abbrev S1x4096x4x128 : Shape := ⟨4, ![1, 4096, 4, 128]⟩
abbrev S1x64x64x4x128 : Shape := ⟨5, ![1, 64, 64, 4, 128]⟩
abbrev S1x4x64x64x128 : Shape := ⟨5, ![1, 4, 64, 64, 128]⟩
abbrev S1x4x64x1x128 : Shape := ⟨5, ![1, 4, 64, 1, 128]⟩
abbrev S1x4x64x64x64 : Shape := ⟨5, ![1, 4, 64, 64, 64]⟩
abbrev S64x64 : Shape := ⟨2, ![64, 64]⟩
abbrev S1x4x64x128x128 : Shape := ⟨5, ![1, 4, 64, 128, 128]⟩
abbrev S1x4x64x128 : Shape := ⟨4, ![1, 4, 64, 128]⟩
abbrev S1x4x128x128 : Shape := ⟨4, ![1, 4, 128, 128]⟩
abbrev S64x1x4x128x128 : Shape := ⟨5, ![64, 1, 4, 128, 128]⟩
abbrev S64x1x4x128 : Shape := ⟨4, ![64, 1, 4, 128]⟩
abbrev S1x1x4x128x128 : Shape := ⟨5, ![1, 1, 4, 128, 128]⟩
abbrev S1x1x4x128 : Shape := ⟨4, ![1, 1, 4, 128]⟩
abbrev S1x4x128 : Shape := ⟨3, ![1, 4, 128]⟩
abbrev S1x4x128x1 : Shape := ⟨4, ![1, 4, 128, 1]⟩
abbrev S1x4096x4 : Shape := ⟨3, ![1, 4096, 4]⟩
abbrev S1x4096x4x1 : Shape := ⟨4, ![1, 4096, 4, 1]⟩
abbrev S4096x512 : Shape := ⟨2, ![4096, 512]⟩
abbrev S1x4x8x128x128 : Shape := ⟨5, ![1, 4, 8, 128, 128]⟩
abbrev S4x8x128x128 : Shape := ⟨4, ![4, 8, 128, 128]⟩
abbrev S8x4x128x128 : Shape := ⟨4, ![8, 4, 128, 128]⟩

abbrev nBuf : Space → Nat
  | .hbm => 181
  | .vmem => 0
  | .smem => 0
  | _ => 0

abbrev hbmTy0_0 (i : Nat) : BufTy := match i % 128 with
  | 0 => ⟨S4096x2048, .f32⟩
  | 1 => ⟨S1x512, .f32⟩
  | 2 => ⟨S1x512, .f32⟩
  | 3 => ⟨S1x512, .f32⟩
  | 4 => ⟨S2x512, .f32⟩
  | 5 => ⟨S_, .f32⟩
  | 6 => ⟨S512, .f32⟩
  | 7 => ⟨S_, .f32⟩
  | 8 => ⟨S512, .f32⟩
  | 9 => ⟨S512, .f32⟩
  | 10 => ⟨S1x512, .f32⟩
  | 11 => ⟨S2x512, .f32⟩
  | 12 => ⟨S2x512, .f32⟩
  | 13 => ⟨S2x512, .f32⟩
  | 14 => ⟨S_, .f32⟩
  | 15 => ⟨S512, .f32⟩
  | 16 => ⟨S1x512, .f32⟩
  | 17 => ⟨S2x512, .f32⟩
  | 18 => ⟨S2x512, .f32⟩
  | 19 => ⟨S1x512, .f32⟩
  | 20 => ⟨S512, .f32⟩
  | 21 => ⟨S1x4096x2048, .f32⟩
  | 22 => ⟨S1x4096x512, .f32⟩
  | 23 => ⟨S1x4096x512, .f32⟩
  | 24 => ⟨S1x4096x512, .f32⟩
  | 25 => ⟨S1x4096x512, .f32⟩
  | 26 => ⟨S_, .f32⟩
  | 27 => ⟨S512, .f32⟩
  | 28 => ⟨S512, .f32⟩
  | 29 => ⟨S1x4096x512, .f32⟩
  | 30 => ⟨S1x4096x512, .f32⟩
  | 31 => ⟨S_, .f32⟩
  | 32 => ⟨S1x4096x512, .f32⟩
  | 33 => ⟨S1x4096x512, .f32⟩
  | 34 => ⟨S_, .f32⟩
  | 35 => ⟨S1x4096x512, .f32⟩
  | 36 => ⟨S1x4096x512, .f32⟩
  | 37 => ⟨S1x1x512, .f32⟩
  | 38 => ⟨S1x4096x512, .f32⟩
  | 39 => ⟨S1x4096x512, .f32⟩
  | 40 => ⟨S1x1x512, .f32⟩
  | 41 => ⟨S1x4096x512, .f32⟩
  | 42 => ⟨S1x4096x512, .f32⟩
  | 43 => ⟨S1x4096x512, .f32⟩
  | 44 => ⟨S1x4096x512, .f32⟩
  | 45 => ⟨S_, .f32⟩
  | 46 => ⟨S1x4096x512, .f32⟩
  | 47 => ⟨S1x4096x512, .f32⟩
  | 48 => ⟨S_, .f32⟩
  | 49 => ⟨S1x4096x512, .f32⟩
  | 50 => ⟨S1x4096x512, .f32⟩
  | 51 => ⟨S1x4096x512, .f32⟩
  | 52 => ⟨S1x4096x4x128, .f32⟩
  | 53 => ⟨S_, .f32⟩
  | 54 => ⟨S1x4096x512, .f32⟩
  | 55 => ⟨S1x4096x512, .f32⟩
  | 56 => ⟨S1x4096x4x128, .f32⟩
  | 57 => ⟨S1x4096x4x128, .f32⟩
  | 58 => ⟨S1x4096x512, .f32⟩
  | 59 => ⟨S1x4096x4x128, .f32⟩
  | 60 => ⟨S1x64x64x4x128, .f32⟩
  | 61 => ⟨S1x4x64x64x128, .f32⟩
  | 62 => ⟨S1x64x64x4x128, .f32⟩
  | 63 => ⟨S1x4x64x64x128, .f32⟩
  | 64 => ⟨S1x64x64x4x128, .f32⟩
  | 65 => ⟨S1x4x64x64x128, .f32⟩
  | 66 => ⟨S1x64x64x4x128, .f32⟩
  | 67 => ⟨S1x4x64x64x128, .f32⟩
  | 68 => ⟨S_, .f32⟩
  | 69 => ⟨S_, .f32⟩
  | 70 => ⟨S1x4x64x64x128, .f32⟩
  | 71 => ⟨S1x4x64x1x128, .f32⟩
  | 72 => ⟨S1x4x64x1x128, .f32⟩
  | 73 => ⟨S1x4x64x64x128, .f32⟩
  | 74 => ⟨S1x4x64x64x128, .f32⟩
  | 75 => ⟨S1x4x64x64x128, .f32⟩
  | 76 => ⟨S1x4x64x64x128, .f32⟩
  | 77 => ⟨S1x4x64x64x128, .f32⟩
  | 78 => ⟨S1x4x64x64x128, .f32⟩
  | 79 => ⟨S1x4x64x64x128, .f32⟩
  | 80 => ⟨S1x4x64x64x128, .f32⟩
  | 81 => ⟨S1x4x64x64x64, .f32⟩
  | 82 => ⟨S_, .i1⟩
  | 83 => ⟨S64x64, .i1⟩
  | 84 => ⟨S64x64, .i32⟩
  | 85 => ⟨S_, .i32⟩
  | 86 => ⟨S64x64, .i32⟩
  | 87 => ⟨S64x64, .i32⟩
  | 88 => ⟨S64x64, .i32⟩
  | 89 => ⟨S64x64, .i1⟩
  | 90 => ⟨S_, .i1⟩
  | 91 => ⟨S64x64, .i1⟩
  | 92 => ⟨S64x64, .i1⟩
  | 93 => ⟨S_, .f32⟩
  | 94 => ⟨S_, .f32⟩
  | 95 => ⟨S1x4x64x64x64, .i1⟩
  | 96 => ⟨S1x4x64x64x64, .f32⟩
  | 97 => ⟨S1x4x64x64x64, .f32⟩
  | 98 => ⟨S1x4x64x64x128, .f32⟩
  | 99 => ⟨S1x4x64x64x128, .f32⟩
  | 100 => ⟨S1x4x64x64x128, .f32⟩
  | 101 => ⟨S1x4x64x64x128, .f32⟩
  | 102 => ⟨S1x4x64x64x128, .f32⟩
  | 103 => ⟨S1x4x64x128x128, .f32⟩
  | 104 => ⟨S1x4x64x128, .f32⟩
  | 105 => ⟨S1x4x64x128, .f32⟩
  | 106 => ⟨S_, .f32⟩
  | 107 => ⟨S1x4x128x128, .f32⟩
  | 108 => ⟨S64x1x4x128x128, .f32⟩
  | 109 => ⟨S64x1x4x128, .f32⟩
  | 110 => ⟨S_, .f32⟩
  | 111 => ⟨S64x1x4x128x128, .f32⟩
  | 112 => ⟨S_, .i32⟩
  | 113 => ⟨S64x1x4x128x128, .f32⟩
  | 114 => ⟨S64x1x4x128, .f32⟩
  | 115 => ⟨S_, .i32⟩
  | 116 => ⟨S1x4x128x128, .f32⟩
  | 117 => ⟨S64x1x4x128x128, .f32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S1x1x4x128x128, .f32⟩
  | 125 => ⟨S1x4x128x128, .f32⟩
  | 126 => ⟨S_, .i32⟩
  | 127 => ⟨S_, .i32⟩
  | _ => ⟨S4096x2048, .f32⟩

abbrev hbmTy0_1 (i : Nat) : BufTy := match i % 128 with
  | 0 => ⟨S_, .i32⟩
  | 1 => ⟨S1x1x4x128, .f32⟩
  | 2 => ⟨S1x4x128, .f32⟩
  | 3 => ⟨S1x4x128x1, .f32⟩
  | 4 => ⟨S1x4x128x128, .f32⟩
  | 5 => ⟨S1x4x128x128, .f32⟩
  | 6 => ⟨S1x4x128x128, .f32⟩
  | 7 => ⟨S1x1x4x128x128, .f32⟩
  | 8 => ⟨S_, .i32⟩
  | 9 => ⟨S_, .i32⟩
  | 10 => ⟨S_, .i32⟩
  | 11 => ⟨S_, .i32⟩
  | 12 => ⟨S64x1x4x128x128, .f32⟩
  | 13 => ⟨S_, .i32⟩
  | 14 => ⟨S_, .i32⟩
  | 15 => ⟨S1x4x64x128x128, .f32⟩
  | 16 => ⟨S1x4x64x64x128, .f32⟩
  | 17 => ⟨S1x4x64x64x128, .f32⟩
  | 18 => ⟨S1x4x64x64x128, .f32⟩
  | 19 => ⟨S1x4x64x64x128, .f32⟩
  | 20 => ⟨S1x64x64x4x128, .f32⟩
  | 21 => ⟨S1x4096x4x128, .f32⟩
  | 22 => ⟨S1x4096x4x128, .f32⟩
  | 23 => ⟨S_, .f32⟩
  | 24 => ⟨S1x4096x4, .f32⟩
  | 25 => ⟨S1x4096x4x1, .f32⟩
  | 26 => ⟨S_, .f32⟩
  | 27 => ⟨S1x4096x4x1, .f32⟩
  | 28 => ⟨S1x4096x4x1, .f32⟩
  | 29 => ⟨S_, .f32⟩
  | 30 => ⟨S1x4096x4x1, .f32⟩
  | 31 => ⟨S1x4096x4x1, .f32⟩
  | 32 => ⟨S1x4096x4x1, .f32⟩
  | 33 => ⟨S1x4096x4x128, .f32⟩
  | 34 => ⟨S1x4096x4x128, .f32⟩
  | 35 => ⟨S1x4096x512, .f32⟩
  | 36 => ⟨S1x1x512, .f32⟩
  | 37 => ⟨S1x4096x512, .f32⟩
  | 38 => ⟨S1x4096x512, .f32⟩
  | 39 => ⟨S1x4096x512, .f32⟩
  | 40 => ⟨S1x4096x512, .f32⟩
  | 41 => ⟨S_, .f32⟩
  | 42 => ⟨S1x4096x512, .f32⟩
  | 43 => ⟨S1x4096x512, .f32⟩
  | 44 => ⟨S_, .f32⟩
  | 45 => ⟨S1x4096x512, .f32⟩
  | 46 => ⟨S1x4096x512, .f32⟩
  | 47 => ⟨S1x4096x512, .f32⟩
  | 48 => ⟨S1x4096x512, .f32⟩
  | 49 => ⟨S4096x512, .f32⟩
  | 50 => ⟨S1x4x8x128x128, .f32⟩
  | 51 => ⟨S4x8x128x128, .f32⟩
  | 52 => ⟨S8x4x128x128, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_call0_cst : Ref sig .tc := ⟨.hbm, 68, rfl⟩
abbrev main_call1_call0_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c : Ref sig .tc := ⟨.hbm, 82, rfl⟩
abbrev main_v61 : Ref sig .tc := ⟨.hbm, 83, rfl⟩
abbrev main_call2_v0 : Ref sig .tc := ⟨.hbm, 84, rfl⟩
abbrev main_call2_c : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_c_0 : Ref sig .tc := ⟨.hbm, 90, rfl⟩
abbrev main_call2_v5 : Ref sig .tc := ⟨.hbm, 91, rfl⟩
abbrev main_v62 : Ref sig .tc := ⟨.hbm, 92, rfl⟩
abbrev main_cst_6 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_7 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_8 : Ref sig .tc := ⟨.hbm, 110, rfl⟩
abbrev main_v75 : Ref sig .tc := ⟨.hbm, 111, rfl⟩
abbrev main_c_9 : Ref sig .tc := ⟨.hbm, 112, rfl⟩
abbrev main_v76_0 : Ref sig .tc := ⟨.hbm, 113, rfl⟩
abbrev main_v76_1 : Ref sig .tc := ⟨.hbm, 114, rfl⟩
abbrev main_v76_2 : Ref sig .tc := ⟨.hbm, 115, rfl⟩
abbrev main_v76_3 : Ref sig .tc := ⟨.hbm, 116, rfl⟩
abbrev main_v76_4 : Ref sig .tc := ⟨.hbm, 117, rfl⟩
abbrev main_while0c_c_17 : Ref sig .tc := ⟨.hbm, 118, rfl⟩
abbrev main_while0c_v104 : Ref sig .tc := ⟨.hbm, 119, rfl⟩
abbrev main_while0b_call4_c : Ref sig .tc := ⟨.hbm, 120, rfl⟩
abbrev main_while0b_call4_c_0 : Ref sig .tc := ⟨.hbm, 121, rfl⟩
abbrev main_while0b_call4_c_1 : Ref sig .tc := ⟨.hbm, 122, rfl⟩
abbrev main_while0b_call4_c_2 : Ref sig .tc := ⟨.hbm, 123, rfl⟩
abbrev main_while0b_call4_v0 : Ref sig .tc := ⟨.hbm, 124, rfl⟩
abbrev main_while0b_v104 : Ref sig .tc := ⟨.hbm, 125, rfl⟩
abbrev main_while0b_call5_c : Ref sig .tc := ⟨.hbm, 126, rfl⟩
abbrev main_while0b_call5_c_0 : Ref sig .tc := ⟨.hbm, 127, rfl⟩
abbrev main_while0b_call5_c_1 : Ref sig .tc := ⟨.hbm, 128, rfl⟩
abbrev main_while0b_call5_v0 : Ref sig .tc := ⟨.hbm, 129, rfl⟩
abbrev main_while0b_v105 : Ref sig .tc := ⟨.hbm, 130, rfl⟩
abbrev main_while0b_v106 : Ref sig .tc := ⟨.hbm, 131, rfl⟩
abbrev main_while0b_v107 : Ref sig .tc := ⟨.hbm, 132, rfl⟩
abbrev main_while0b_v108 : Ref sig .tc := ⟨.hbm, 133, rfl⟩
abbrev main_while0b_v109 : Ref sig .tc := ⟨.hbm, 134, rfl⟩
abbrev main_while0b_call6_v0 : Ref sig .tc := ⟨.hbm, 135, rfl⟩
abbrev main_while0b_call6_c : Ref sig .tc := ⟨.hbm, 136, rfl⟩
abbrev main_while0b_call6_c_0 : Ref sig .tc := ⟨.hbm, 137, rfl⟩
abbrev main_while0b_call6_c_1 : Ref sig .tc := ⟨.hbm, 138, rfl⟩
abbrev main_while0b_call6_c_2 : Ref sig .tc := ⟨.hbm, 139, rfl⟩
abbrev main_while0b_v110 : Ref sig .tc := ⟨.hbm, 140, rfl⟩
abbrev main_while0b_c_17 : Ref sig .tc := ⟨.hbm, 141, rfl⟩
abbrev main_while0b_v111 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_cst_10 : Ref sig .tc := ⟨.hbm, 151, rfl⟩
abbrev main_v85 : Ref sig .tc := ⟨.hbm, 152, rfl⟩
abbrev main_v86 : Ref sig .tc := ⟨.hbm, 153, rfl⟩
abbrev main_cst_11 : Ref sig .tc := ⟨.hbm, 154, rfl⟩
abbrev main_v87 : Ref sig .tc := ⟨.hbm, 155, rfl⟩
abbrev main_v88 : Ref sig .tc := ⟨.hbm, 156, rfl⟩
abbrev main_cst_12 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_call7_v0 : Ref sig .tc := ⟨.hbm, 167, rfl⟩
abbrev main_call7_v1 : Ref sig .tc := ⟨.hbm, 168, rfl⟩
abbrev main_call7_cst : Ref sig .tc := ⟨.hbm, 169, rfl⟩
abbrev main_call7_v2 : Ref sig .tc := ⟨.hbm, 170, rfl⟩
abbrev main_call7_v3 : Ref sig .tc := ⟨.hbm, 171, rfl⟩
abbrev main_call7_cst_0 : Ref sig .tc := ⟨.hbm, 172, rfl⟩
abbrev main_call7_v4 : Ref sig .tc := ⟨.hbm, 173, rfl⟩
abbrev main_call7_v5 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩

abbrev nD : Nat := 1
abbrev τ : Topo := Topo.v7x

variable {F : FTy → Type} [FloatOps F]

abbrev main_while0_count : Scf.Loop 32 := ⟨0#32, 64#32, 1#32⟩
-- ==== Kernel20.lean ====
abbrev S4096x512 : Shape := ⟨2, ![4096, 512]⟩
abbrev S1x512 : Shape := ⟨2, ![1, 512]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S4096x1024 : Shape := ⟨2, ![4096, 1024]⟩
abbrev S512x1024 : Shape := ⟨2, ![512, 1024]⟩

abbrev nBuf : Space → Nat
  | .hbm => 25
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S8x8, .i32⟩
  | .hbm, ⟨10, _⟩ => ⟨S8x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8, .f32⟩
  | .hbm, ⟨16, _⟩ => ⟨S_, .f32⟩
  | .hbm, ⟨17, _⟩ => ⟨S64x64, .f32⟩
  | .hbm, ⟨18, _⟩ => ⟨S8x1x8x1, .f32⟩
  | .hbm, ⟨19, _⟩ => ⟨S1x64x1x64, .f32⟩
  | .hbm, ⟨20, _⟩ => ⟨S8x64x8x64, .f32⟩
  | .hbm, ⟨21, _⟩ => ⟨S8x64x8x64, .f32⟩
  | .hbm, ⟨22, _⟩ => ⟨S8x64x8x64, .f32⟩
  | .hbm, ⟨23, _⟩ => ⟨S512x512, .f32⟩
  | .hbm, ⟨24, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x512, .f32⟩
  | .local _ .vmem, ⟨16, _⟩ => ⟨S512x1024, .f32⟩
  | .local _ .vmem, ⟨17, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference20Ideal.lean ====
abbrev S4096x512 : Shape := ⟨2, ![4096, 512]⟩
abbrev S1x512 : Shape := ⟨2, ![1, 512]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S8x64 : Shape := ⟨2, ![8, 64]⟩
abbrev S1x8x64 : Shape := ⟨3, ![1, 8, 64]⟩
abbrev S4096x1024 : Shape := ⟨2, ![4096, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S4096x8x64, .f32⟩
  | .hbm, ⟨10, _⟩ => ⟨S4096x8x64, .f32⟩
  | .hbm, ⟨11, _⟩ => ⟨S4096x8x64, .f32⟩
  | .hbm, ⟨12, _⟩ => ⟨S4096x8x64, .f32⟩
  | .hbm, ⟨13, _⟩ => ⟨S_, .f32⟩
  | .hbm, ⟨14, _⟩ => ⟨S4096x8, .f32⟩
  | .hbm, ⟨15, _⟩ => ⟨S4096x8x1, .f32⟩
  | .hbm, ⟨16, _⟩ => ⟨S_, .f32⟩
  | .hbm, ⟨17, _⟩ => ⟨S4096x8x1, .f32⟩
  | .hbm, ⟨18, _⟩ => ⟨S4096x8x1, .f32⟩
  | .hbm, ⟨19, _⟩ => ⟨S4096x8x64, .f32⟩
  | .hbm, ⟨20, _⟩ => ⟨S4096x8x64, .f32⟩
  | .hbm, ⟨21, _⟩ => ⟨S4096x8x64, .f32⟩
  | .hbm, ⟨22, _⟩ => ⟨S_, .f32⟩
  | .hbm, ⟨23, _⟩ => ⟨S4096x8, .f32⟩
  | .hbm, ⟨24, _⟩ => ⟨S4096x8x1, .f32⟩
  | .hbm, ⟨25, _⟩ => ⟨S_, .f32⟩
  | .hbm, ⟨26, _⟩ => ⟨S4096x8x1, .f32⟩
  | .hbm, ⟨27, _⟩ => ⟨S4096x8x1, .f32⟩
  | .hbm, ⟨28, _⟩ => ⟨S4096x8x64, .f32⟩
  | .hbm, ⟨29, _⟩ => ⟨S4096x8x64, .f32⟩
  | .hbm, ⟨30, _⟩ => ⟨S_, .f32⟩
  | .hbm, ⟨31, _⟩ => ⟨S4096x8x1, .f32⟩
  | .hbm, ⟨32, _⟩ => ⟨S4096x8x1, .f32⟩
  | .hbm, ⟨33, _⟩ => ⟨S4096x8x1, .f32⟩
  | .hbm, ⟨34, _⟩ => ⟨S4096x8x64, .f32⟩
  | .hbm, ⟨35, _⟩ => ⟨S4096x8x64, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x8x64, .f32⟩
  | .hbm, ⟨42, _⟩ => ⟨S8x64, .f32⟩
  | .hbm, ⟨43, _⟩ => ⟨S1x8x64, .f32⟩
  | .hbm, ⟨44, _⟩ => ⟨S4096x8x64, .f32⟩
  | .hbm, ⟨45, _⟩ => ⟨S4096x8x64, .f32⟩
  | .hbm, ⟨46, _⟩ => ⟨S_, .f32⟩
  | .hbm, ⟨47, _⟩ => ⟨S4096x8, .f32⟩
  | .hbm, ⟨48, _⟩ => ⟨S4096x8x1, .f32⟩
  | .hbm, ⟨49, _⟩ => ⟨S4096x8x64, .f32⟩
  | .hbm, ⟨50, _⟩ => ⟨S4096x8x64, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Proof.Reals.lean ====
/- Facts about the extended reals used by several calls: the values of the constants, a constant
   taken into a sum, and sums and products of reals. -/
module

public import Idealize.ShloMosaic.PureOps.Ideal
public import Idealize.ShloMosaic.Lib.IdealHost

@[expose] public section

open Idealize.ShloMosaic
open scoped BigOperators

namespace Cert.Reals

/-- The pattern `0x3F000000` is one half. -/
theorem ofBits_half : Ideal.ofBits .f32 0x3F000000#32 = ((1 / 2 : ℝ) : EReal) := by
  simp [Ideal.ofBits, Ideal.ieee, -EReal.coe_mul]; norm_num

/-- The pattern `0xBF000000` is minus one half. -/
theorem ofBits_neg_half : Ideal.ofBits .f32 0xBF000000#32 = ((-(1 / 2) : ℝ) : EReal) := by
  simp [Ideal.ofBits, Ideal.ieee, -EReal.coe_mul, -EReal.coe_neg]; norm_num

/-- The pattern `0x40000000` is two. -/
theorem ofBits_two : Ideal.ofBits .f32 0x40000000#32 = ((2 : ℝ) : EReal) := by
  simp [Ideal.ofBits, Ideal.ieee, -EReal.coe_mul]; norm_num

/-- The pattern `0x3C800000` is one sixty-fourth. -/
theorem ofBits_inv64 : Ideal.ofBits .f32 0x3C800000#32 = ((1 / 64 : ℝ) : EReal) := by
  simp [Ideal.ofBits, Ideal.ieee, -EReal.coe_mul]; norm_num

/-- The pattern `0x42800000` is sixty-four. -/
theorem ofBits_64 : Ideal.ofBits .f32 0x42800000#32 = ((64 : ℝ) : EReal) := by
  simp [Ideal.ofBits, Ideal.ieee, -EReal.coe_mul]; norm_num

/-- The pattern `0x44800000` is one thousand and twenty-four. -/
theorem ofBits_1024 : Ideal.ofBits .f32 0x44800000#32 = ((1024 : ℝ) : EReal) := by
  simp [Ideal.ofBits, Ideal.ieee, -EReal.coe_mul]; norm_num

/-- The pattern `0x3A800000` is the inverse of one thousand and twenty-four. -/
theorem ofBits_inv1024 : Ideal.ofBits .f32 0x3A800000#32 = ((1 / 1024 : ℝ) : EReal) := by
  simp [Ideal.ofBits, Ideal.ieee, -EReal.coe_mul]; norm_num

/-- The pattern of one, as a real. -/
theorem ofBits_one : Ideal.ofBits .f32 0x3F800000#32 = ((1 : ℝ) : EReal) := by
  simp [Ideal.ofBits, Ideal.ieee, -EReal.coe_mul]; norm_num

/-- The pattern of zero, as a real. -/
theorem ofBits_zero : Ideal.ofBits .f32 0x00000000#32 = ((0 : ℝ) : EReal) := by
  simp [Ideal.ofBits, Ideal.ieee]

/-- The pattern `0x3A27C5AC`, the group norm's epsilon, as a real. -/
theorem ofBits_gn_eps : Ideal.ofBits .f32 0x3A27C5AC#32 = ((10995116 / 2 ^ 34 : ℝ) : EReal) := by
  simp [Ideal.ofBits, Ideal.ieee, -EReal.coe_mul]; norm_num

/-- The pattern `0x358637BD`, the norm's epsilon, as a real. -/
theorem ofBits_eps : Ideal.ofBits .f32 0x358637BD#32 = ((8796093 / 2 ^ 43 : ℝ) : EReal) := by
  simp [Ideal.ofBits, Ideal.ieee, -EReal.coe_mul]; norm_num

/-- A real factor that is not negative may be taken into a sum, whatever the summands are. -/
theorem coe_mul_sum {c : ℝ} (hc : 0 ≤ c) {ι : Type*} (s : Finset ι) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The sum of reals is a real. -/
theorem sum_coe {ι : Type*} (s : Finset ι) (f : ι → ℝ) :
    ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- Where the comparison `|x| < ∞` holds, `x` is a real. -/
theorem exists_coe {x : Ideal .f32}
    (h : FloatOps.cmpf .olt (FloatOps.absf x) (Ideal.ofBits .f32 0x7F800000#32) = 1#1) : ∃ r : ℝ, (x : EReal) = r := by
  have ht : Ideal.ofBits .f32 0x7F800000#32 = (⊤ : EReal) := by simp [Ideal.ofBits, Ideal.ieee]
  rw [Ideal.cmpf_def, Ideal.absf_def, ht] at h
  have hlt : max (x : EReal) (-x) < ⊤ := by
    by_contra hn
    simp [Ideal.cmp, hn] at h
  obtain ⟨h1, h2⟩ := max_lt_iff.mp hlt
  exact ⟨EReal.toReal x, (EReal.coe_toReal h1.ne fun hb => by simp [hb] at h2).symm⟩

/-- The logistic function of a real: one over one plus the exponential of minus the argument. -/
noncomputable def sigm (a : ℝ) : ℝ := 1 / (1 + Real.exp (-a))

/-- The quotient that computes the logistic function, at a real. -/
theorem div_exp (a : ℝ) :
    Ideal.div (1 : EReal) (1 + Ideal.exp (-(a : EReal))) = ((sigm a : ℝ) : EReal) := by
  have h : (1 : EReal) + Ideal.exp (-(a : EReal)) = ((1 + Real.exp (-a) : ℝ) : EReal) := by
    rw [← EReal.coe_neg, Ideal.exp_coe, EReal.coe_add, EReal.coe_one]
  rw [h, Ideal.div_coe (by positivity), one_mul, sigm]

end Cert.Reals
-- ==== Proof.Dact.lean ====
/- The backward pass of the gated product of a feed-forward block: what the arrays of the gradients of the gate and up products hold after the run. -/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import Idealize.ShloMosaic.Lib.Pipeline.Value
public import Idealize.ShloMosaic.Lib.StableHlo.Run
public import Idealize.ShloMosaic.Lib.Pipeline.ValueKit
public import Idealize.ShloMosaic.Lib.Pipeline.ReadBack
public import Idealize.ShloMosaic.Lib.Pointwise
public import Idealize.ShloMosaic.PureOps.Ideal
public import proofs.«01_k».proof.Proof.Reals
public import proofs.«01_k».proof.Pre_finite2

@[expose] public section

set_option maxRecDepth 16384

noncomputable section

open Idealize.ShloMosaic Idealize.ShloMosaic.TcCoe Idealize.SL.Sem
open Idealize.ShloMosaic.Pipeline (Dat)
open scoped BigOperators

namespace Cert.Reference2Ideal.Formula

open Cert.Reference2Ideal Cert.Reference2Ideal.Gen

/-- The array of ones. -/
abbrev ones : FVec Ideal S4096x2816 .f32 :=
  broadcastInDim S4096x2816 ![] bcast_S_S4096x2816 (constant S_ .f32 0x3F800000#32)

variable (dout : FVec Ideal S4096x1024 .f32) (wd : FVec Ideal S2816x1024 .bf16) (a u : FVec Ideal S4096x2816 .bf16)

/-- The cotangent of the gated product: half the output's cotangent times the transposed weight. -/
abbrev dact : FVec Ideal S4096x2816 .f32 :=
  Host.dotGeneral dot_S4096x1024_S2816x1024_S4096x2816_1_1_0_0_n_n none
    (mulf (broadcastInDim S4096x1024 ![] bcast_S_S4096x1024 (constant S_ .f32 0x3F000000#32)) dout)
    (extf .f32 wd bitsLt_bf16_f32)

/-- The logistic function of the gate. -/
abbrev logi : FVec Ideal S4096x2816 .f32 :=
  Host.divf ones (addf ones (Host.exp (Host.negf (extf .f32 a bitsLt_bf16_f32))))

/-- The gradient of the gate. -/
abbrev da : FVec Ideal S4096x2816 .bf16 :=
  truncf .bf16 (addf (mulf (mulf (dact dout wd) (extf .f32 u bitsLt_bf16_f32)) (logi a))
    (mulf (mulf (extf .f32 a bitsLt_bf16_f32) (mulf (dact dout wd) (extf .f32 u bitsLt_bf16_f32)))
      (mulf (logi a) (subf ones (logi a))))) bitsLt_bf16_f32

/-- The gradient of the up product. -/
abbrev du : FVec Ideal S4096x2816 .bf16 :=
  truncf .bf16 (mulf (mulf (extf .f32 a bitsLt_bf16_f32) (logi a)) (dact dout wd)) bitsLt_bf16_f32

/-- The gate's gradient at an entry, in the reference's form. -/
def gateGrad (d u a : EReal) : EReal :=
  (d * u) * Ideal.div 1 (1 + Ideal.exp (-a)) + (a * (d * u)) * (Ideal.div 1 (1 + Ideal.exp (-a)) * (1 - Ideal.div 1 (1 + Ideal.exp (-a))))

/-- The up product's gradient at an entry. -/
def upGrad (d a : EReal) : EReal := (a * Ideal.div 1 (1 + Ideal.exp (-a))) * d

theorem da_at (y) : da dout wd a u y = gateGrad (dact dout wd y) (u y) (a y) := by
  unfold gateGrad
  pointwise [da, logi, ones]

theorem du_at (y) : du dout wd a y = upGrad (dact dout wd y) (a y) := by
  unfold upGrad
  pointwise [du, logi, ones]

end Cert.Reference2Ideal.Formula

namespace Cert.Dact

open Cert.Kernel2Ideal Cert.Kernel2Ideal.Gen

variable (m : (ℓ : Loc nD τ sig) → Buf (Elt Ideal) ℓ)

open Cert.Reference2Ideal.Formula

/-- The block indices of the windows at a grid point. -/
theorem idx : ∀ t : Fin cfg0.N, win0_0.index t = ![t.val / 11, 0]
    ∧ win0_1.index t = ![t.val % 11, 0]
    ∧ win0_2.index t = ![t.val / 11, t.val % 11]
    ∧ win0_3.index t = ![t.val / 11, t.val % 11]
    ∧ win0_4.index t = ![t.val / 11, t.val % 11]
    ∧ win0_5.index t = ![t.val / 11, t.val % 11] :=
  (by decide +kernel : ∀ t : Fin grid0.N, _)

/-- The product the body computes at a point, halved, is the reference's block there. -/
theorem dact_blk (c : Dev nD) (t : Fin cfg0.N) (y) :
    k0_pay1 (iblk m c 0 t) (iblk m c 1 t) y = dact (m ((c : Thread nD τ).loc main_arg0)) (m ((c : Thread nD τ).loc main_arg1)) (((cfg0.win 4).blk t).view.emb y) := by
  pointwise [k0_pay1, dact]
  rw [Reals.ofBits_half, Reals.coe_mul_sum (by norm_num), ← Reals.ofBits_half]
  simp only [← mul_assoc]
  blk_point [iblk, V, idx t]

/-- The block of the gate's values at a point. -/
theorem a_blk (c : Dev nD) (t : Fin cfg0.N) (y) :
    (iblk m c 2 t) y = (m ((c : Thread nD τ).loc main_arg2)) (((cfg0.win 4).blk t).view.emb y) := by
  blk_point [iblk, V, idx t]

/-- The block of the up product's values at a point. -/
theorem u_blk (c : Dev nD) (t : Fin cfg0.N) (y) :
    (iblk m c 3 t) y = (m ((c : Thread nD τ).loc main_arg3)) (((cfg0.win 4).blk t).view.emb y) := by
  blk_point [iblk, V, idx t]

/-- The gate's gradient at an entry, in the kernel's form. -/
def gateGradK (d u a : EReal) : EReal :=
  (d * u) * (Ideal.div 1 (1 + Ideal.exp (-a)) * (1 + a * (1 - Ideal.div 1 (1 + Ideal.exp (-a)))))

/-- The two forms of the gate's gradient agree at reals. -/
theorem gate_grad (d u a : ℝ) : gateGradK d u a = gateGrad d u a := by
  unfold gateGradK gateGrad
  rw [Reals.div_exp, ← EReal.coe_one]
  simp only [← EReal.coe_mul, ← EReal.coe_sub, ← EReal.coe_add]
  congr 1
  ring

/-- The side conditions of the precondition's operations. -/
instance pre_facts : Cert.Pre_finite2.Facts := by constructor <;> decide

/-- The precondition: every entry of every argument is a real. -/
theorem reals_of_pre (x : FVec Ideal Cert.Pre_finite2.S4096x1024 .f32) (w : FVec Ideal Cert.Pre_finite2.S2816x1024 .bf16)
    (a u : FVec Ideal Cert.Pre_finite2.S4096x2816 .bf16)
    (h : (Cert.Pre_finite2.fn x w a u).1 = (fun _ => 1#1) ∧ (Cert.Pre_finite2.fn x w a u).2.1 = (fun _ => 1#1)
      ∧ (Cert.Pre_finite2.fn x w a u).2.2.1 = (fun _ => 1#1) ∧ (Cert.Pre_finite2.fn x w a u).2.2.2 = (fun _ => 1#1)) :
    (∀ i, ∃ r : ℝ, (x i : EReal) = r) ∧ (∀ i, ∃ r : ℝ, (w i : EReal) = r)
      ∧ (∀ i, ∃ r : ℝ, (a i : EReal) = r) ∧ (∀ i, ∃ r : ℝ, (u i : EReal) = r) := by
  exact ⟨fun i => Reals.exists_coe (congrFun h.1 i), fun i => Reals.exists_coe (congrFun h.2.1 i),
    fun i => Reals.exists_coe (congrFun h.2.2.1 i), fun i => Reals.exists_coe (congrFun h.2.2.2 i)⟩

/-- The cotangent of the gated product is real where the arguments are. -/
theorem dact_real (x : FVec Ideal Cert.Reference2Ideal.S4096x1024 .f32) (w : FVec Ideal Cert.Reference2Ideal.S2816x1024 .bf16)
    (hx : ∀ i, ∃ r : ℝ, (x i : EReal) = r) (hw : ∀ i, ∃ r : ℝ, (w i : EReal) = r) (i) :
    ∃ r : ℝ, (dact x w i : EReal) = r := by
  choose f hf using hx
  choose g hg using hw
  pointwise [dact]
  simp only [Reals.ofBits_half, hf, hg, ← EReal.coe_mul, Reals.sum_coe]
  exact ⟨_, rfl⟩

/-- The gate's gradient as the body computes it, at an entry. -/
theorem pay4_at (x : FVec Ideal S2048x1024 .f32) (w : FVec Ideal S256x1024 .bf16) (a u : FVec Ideal S2048x256 .bf16) (y) :
    k0_pay4 (F := Ideal) x w a u y = gateGradK (k0_pay1 (F := Ideal) x w y) (u y) (a y) := by
  unfold gateGradK
  pointwise [k0_pay4, k0_pay3, k0_pay2]
  simp only [zero_sub]

/-- The up product's gradient as the body computes it, at an entry. -/
theorem pay5_at (x : FVec Ideal S2048x1024 .f32) (w : FVec Ideal S256x1024 .bf16) (a : FVec Ideal S2048x256 .bf16) (y) :
    k0_pay5 (F := Ideal) x w a y = upGrad (k0_pay1 (F := Ideal) x w y) (a y) := by
  unfold upGrad
  pointwise [k0_pay5, k0_pay3, k0_pay2]
  simp only [zero_sub]
  rw [mul_comm]

/-- What the run leaves in the array of the gate's gradient, where the arguments are real. -/
theorem final_4 (c : Dev nD) (h0 : ∀ i, ∃ r : ℝ, (m ((c : Thread nD τ).loc main_arg0)) i = (r : EReal)) (h1 : ∀ i, ∃ r : ℝ, (m ((c : Thread nD τ).loc main_arg1)) i = (r : EReal))
    (h2 : ∀ i, ∃ r : ℝ, (m ((c : Thread nD τ).loc main_arg2)) i = (r : EReal)) (h3 : ∀ i, ∃ r : ℝ, (m ((c : Thread nD τ).loc main_arg3)) i = (r : EReal)) :
    (dats m 0 c).arrAt 4 (cfgs 0).N = da (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  obtain ⟨d, hd⟩ := dact_real _ _ h0 h1 (((cfg0.win 4).blk t).view.emb y)
  obtain ⟨a, ha⟩ := h2 (((cfg0.win 4).blk t).view.emb y)
  obtain ⟨u, hu⟩ := h3 (((cfg0.win 4).blk t).view.emb y)
  refine (pay4_at _ _ _ _ y).trans (Eq.trans ?_ (da_at _ _ _ _ _).symm)
  rw [dact_blk, a_blk, u_blk, hd, ha, hu]
  exact gate_grad d u a

/-- What the run leaves in the array of the up product's gradient. -/
theorem final_5 (c : Dev nD) : (dats m 0 c).arrAt 5 (cfgs 0).N = du (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  have e : ((cfg0.win 5).blk t).view.emb y = ((cfg0.win 4).blk t).view.emb y := by
    blk_ext [idx t]
  rw [e]
  refine (pay5_at _ _ _ y).trans (Eq.trans ?_ (du_at _ _ _ _).symm)
  rw [dact_blk, a_blk]

end Cert.Dact

end
-- ==== Proof.Dwd.lean ====
/- The gradient of the down weights of a feed-forward block: what the array holds after the run. -/
module

public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import Idealize.ShloMosaic.Lib.Pipeline.Value
public import Idealize.ShloMosaic.Lib.StableHlo.Run
public import Idealize.ShloMosaic.Lib.Pipeline.ValueKit
public import Idealize.ShloMosaic.Lib.Pipeline.ReadBack
public import Idealize.ShloMosaic.Lib.Pointwise
public import proofs.«01_k».proof.Proof.Reals
public import Idealize.ShloMosaic.PureOps.Ideal

@[expose] public section

set_option maxRecDepth 16384

noncomputable section

open Idealize.ShloMosaic Idealize.ShloMosaic.TcCoe Idealize.SL.Sem
open Idealize.ShloMosaic.Pipeline (Dat)
open scoped BigOperators

namespace Cert.Dwd

open Cert.Kernel3Ideal Cert.Kernel3Ideal.Gen

variable (m : (ℓ : Loc nD τ sig) → Buf (Elt Ideal) ℓ)

/-- The reference: the halved second array, transposed, times the first, transposed back. -/
abbrev REF (a0 : FVec Ideal Cert.Reference3Ideal.S4096x2816 .bf16) (a1 : FVec Ideal Cert.Reference3Ideal.S4096x1024 .f32) : FVec Ideal Cert.Reference3Ideal.S2816x1024 .f32 :=
  transpose Cert.Reference3Ideal.S2816x1024 [1, 0]
    (Host.dotGeneral Cert.Reference3Ideal.dot_S4096x1024_S4096x2816_S1024x2816_0_0_1_1_n_n none
      (mulf (broadcastInDim Cert.Reference3Ideal.S4096x1024 ![] Cert.Reference3Ideal.Gen.bcast_S_S4096x1024
        (constant Cert.Reference3Ideal.S_ .f32 0x3F000000#32)) a1)
      (extf .f32 a0 Cert.Reference3Ideal.Gen.bitsLt_bf16_f32))
    Cert.Reference3Ideal.Gen.transposes_S1024x2816_S2816x1024_1_0

/-- The block indices of the windows at a grid point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The product of the transposed block `x` with the block `w`, at one entry. -/
abbrev dotT (x : FVec Ideal S1024x1408 .bf16) (w : FVec Ideal S1024x1024 .f32) (j : S1408x1024.Idx) : EReal :=
  ∑ k, (x (ix2 k (j 0)) : EReal) * w (ix2 k (j 1))

/-- The accumulator after the last point of a run: the sum of the run's four products. -/
theorem acc (c : Dev nD) (t : Fin cfg0.N) (h : t.val % 4 = 3) (j) :
    (outsAt0 m c t.val t.isLt).2 j = (0 : EReal) + ∑ s : Fin 4,
      dotT (iblk m c 0 ⟨4 * (t.val / 4) + s.val, Pipeline.run_point_lt_of_flush t h s⟩)
        (iblk m c 1 ⟨4 * (t.val / 4) + s.val, Pipeline.run_point_lt_of_flush t h s⟩) j := by
  refine Pipeline.eq_sum_fin_of_reset_step_apply_of_flush (M := EReal) (fun n h => (outsAt0 m c n h).2) 4 (fun _ => 0)
    (fun t j => dotT (iblk m c 0 t) (iblk m c 1 t) j) (fun t h0 j => ?_) (fun t h0 j => ?_) t h j
  · have h1 : ¬t.val % 4 = 3 := by omega
    rw [outsAt0_A m c t h0 h1]
    frame_out
    pointwise [k0_pay1, k0_pay2, dotT]
  · by_cases h1 : t.val % 4 = 3
    · rw [outsAt0_C m c t h0 h1]
      frame_out
      rw [read_unread_whole]
      pointwise [k0_pay2, dotT]
    · rw [outsAt0_B m c t h0 h1]
      frame_out
      rw [read_unread_whole]
      pointwise [k0_pay2, dotT]

/-- Half the product of the transposed block `x` with the block `w` is that product with `w` halved. -/
theorem half_dotT (x : FVec Ideal S1024x1408 .bf16) (w : FVec Ideal S1024x1024 .f32) (j : S1408x1024.Idx) :
    (((1 / 2 : ℝ) : ℝ) : EReal) * dotT x w j
      = ∑ k, (((1 / 2 : ℝ) : EReal) * (w (ix2 k (j 1)) : EReal)) * (x (ix2 k (j 0)) : EReal) := by
  unfold dotT
  rw [Reals.coe_mul_sum (by norm_num)]
  refine Finset.sum_congr rfl fun k _ => ?_
  rw [mul_comm (x _ : EReal), mul_assoc]

/-- What the last point of a run stores: the accumulator, halved. -/
theorem pay3 (x) (j) : k0_pay3 (F := Ideal) x j = (((1 / 2 : ℝ) : ℝ) : EReal) * x j := by
  rw [← Reals.ofBits_half]
  pointwise [k0_pay3]
  rw [mul_comm]

/-- What the run leaves in the result is the reference's value. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h := (flush0_2 t).mp hf
  have h0 : ¬t.val % 4 = 0 := by omega
  blk_simp; rw [after0_2]
  have e : (outsAt0 m c t.val t.isLt).1 = k0_pay3 (outsAt0 m c t.val t.isLt).2 := by
    rw [outsAt0_C m c t h0 h]; frame_out
  rw [e, pay3, acc m c t h y, zero_add, Reals.coe_mul_sum (by norm_num)]
  simp only [half_dotT]
  rw [← Reals.ofBits_half]
  pointwise [REF]
  refine Fin.sum_mul_add_congr fun s k hl => ?_
  blk_point [iblk, V, idx t, idx ⟨_, Pipeline.run_point_lt_of_flush t h s⟩]

end Cert.Dwd

end
-- ==== Proof.Dwg.lean ====
/- The gradient of the gate (and of the up) weights of a feed-forward block: what the array holds after the run. -/
module

public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import Idealize.ShloMosaic.Lib.Pipeline.Value
public import Idealize.ShloMosaic.Lib.StableHlo.Run
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)
open scoped BigOperators

namespace Cert.Dwg

open Cert.Kernel4Ideal Cert.Kernel4Ideal.Gen

variable (m : (ℓ : Loc nD τ sig) → Buf (Elt Ideal) ℓ)

/-- The reference: the transposed first array times the second. -/
abbrev REF (a0 : FVec Ideal Cert.Reference4Ideal.S4096x2816 .bf16) (a1 : FVec Ideal Cert.Reference4Ideal.S4096x1024 .bf16) : FVec Ideal Cert.Reference4Ideal.S2816x1024 .f32 :=
  transpose Cert.Reference4Ideal.S2816x1024 [1, 0] (transpose Cert.Reference4Ideal.S1024x2816 [1, 0]
    (Host.dotGeneral Cert.Reference4Ideal.dot_S4096x2816_S4096x1024_S2816x1024_0_0_1_1_n_n none
      (extf .f32 a0 Cert.Reference4Ideal.Gen.bitsLt_bf16_f32) (extf .f32 a1 Cert.Reference4Ideal.Gen.bitsLt_bf16_f32))
    Cert.Reference4Ideal.Gen.transposes_S2816x1024_S1024x2816_1_0)
    Cert.Reference4Ideal.Gen.transposes_S1024x2816_S2816x1024_1_0

/-- The block indices of the windows at a grid point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The product of the transposed block `x` with the block `w`, at one entry. -/
abbrev dotT (x : FVec Ideal S1024x1408 .bf16) (w : FVec Ideal S1024x1024 .bf16) (j : S1408x1024.Idx) : EReal :=
  ∑ k, (x (ix2 k (j 0)) : EReal) * w (ix2 k (j 1))

/-- The accumulator after the last point of a run: the sum of the run's four products. -/
theorem acc (c : Dev nD) (t : Fin cfg0.N) (h : t.val % 4 = 3) (j) :
    (outsAt0 m c t.val t.isLt).2 j = (0 : EReal) + ∑ s : Fin 4,
      dotT (iblk m c 0 ⟨4 * (t.val / 4) + s.val, Pipeline.run_point_lt_of_flush t h s⟩)
        (iblk m c 1 ⟨4 * (t.val / 4) + s.val, Pipeline.run_point_lt_of_flush t h s⟩) j := by
  refine Pipeline.eq_sum_fin_of_reset_step_apply_of_flush (M := EReal) (fun n h => (outsAt0 m c n h).2) 4 (fun _ => 0)
    (fun t j => dotT (iblk m c 0 t) (iblk m c 1 t) j) (fun t h0 j => ?_) (fun t h0 j => ?_) t h j
  · have h1 : ¬t.val % 4 = 3 := by omega
    rw [outsAt0_A m c t h0 h1]
    frame_out
    pointwise [k0_pay1, k0_pay2, dotT]
  · by_cases h1 : t.val % 4 = 3
    · rw [outsAt0_C m c t h0 h1]
      frame_out
      rw [read_unread_whole]
      pointwise [k0_pay2, dotT]
    · rw [outsAt0_B m c t h0 h1]
      frame_out
      rw [read_unread_whole]
      pointwise [k0_pay2, dotT]

/-- What the run leaves in the result is the reference's value. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h := (flush0_2 t).mp hf
  have h0 : ¬t.val % 4 = 0 := by omega
  blk_simp; rw [after0_2]
  have e : (outsAt0 m c t.val t.isLt).1 = (outsAt0 m c t.val t.isLt).2 := by
    rw [outsAt0_C m c t h0 h]; frame_out
  rw [e, acc m c t h y, zero_add]
  pointwise [REF, dotT]
  refine Fin.sum_mul_add_congr fun s k hl => ?_
  blk_point [iblk, V, idx t, idx ⟨_, Pipeline.run_point_lt_of_flush t h s⟩]

end Cert.Dwg

end
-- ==== Proof.Dh.lean ====
/- The gradient of a feed-forward block's normalised input: what the array holds after the run. -/
module

public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import Idealize.ShloMosaic.Lib.Pipeline.Value
public import Idealize.ShloMosaic.Lib.StableHlo.Run
public import Idealize.ShloMosaic.Lib.Pipeline.ValueKit
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)
open scoped BigOperators

namespace Cert.Dh

open Cert.Kernel5Ideal Cert.Kernel5Ideal.Gen

variable (m : (ℓ : Loc nD τ sig) → Buf (Elt Ideal) ℓ)

/-- The reference: the two cotangents times the transposed weights, added. -/
abbrev REF (a0 : FVec Ideal Cert.Reference5Ideal.S4096x2816 .bf16) (a1 : FVec Ideal Cert.Reference5Ideal.S2816x1024 .bf16) (a2 : FVec Ideal Cert.Reference5Ideal.S4096x2816 .bf16) (a3 : FVec Ideal Cert.Reference5Ideal.S2816x1024 .bf16) : FVec Ideal Cert.Reference5Ideal.S4096x1024 .f32 :=
  addf (Host.dotGeneral Cert.Reference5Ideal.dot_S4096x2816_S1024x2816_S4096x1024_1_1_0_0_n_n none (extf .f32 a2 Cert.Reference5Ideal.Gen.bitsLt_bf16_f32)
      (extf .f32 (transpose Cert.Reference5Ideal.S1024x2816 [1, 0] a3 Cert.Reference5Ideal.Gen.transposes_S2816x1024_S1024x2816_1_0) Cert.Reference5Ideal.Gen.bitsLt_bf16_f32))
    (Host.dotGeneral Cert.Reference5Ideal.dot_S4096x2816_S1024x2816_S4096x1024_1_1_0_0_n_n none (extf .f32 a0 Cert.Reference5Ideal.Gen.bitsLt_bf16_f32)
      (extf .f32 (transpose Cert.Reference5Ideal.S1024x2816 [1, 0] a1 Cert.Reference5Ideal.Gen.transposes_S2816x1024_S1024x2816_1_0) Cert.Reference5Ideal.Gen.bitsLt_bf16_f32))

/-- The block indices of the windows at a grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0] :=
  (by decide +kernel : ∀ t : Fin grid0.N, _)

/-- What the body stores at block index `y` of point `t` is the reference at the array index `y` sits at. -/
theorem point (c : Dev nD) (t : Fin cfg0.N) (y) :
    k0_pay1 (iblk m c 0 t) (iblk m c 1 t) (iblk m c 2 t) (iblk m c 3 t) y
      = REF (m ((c : Thread nD τ).loc main_arg0)) (m ((c : Thread nD τ).loc main_arg1)) (m ((c : Thread nD τ).loc
        main_arg2)) (m ((c : Thread nD τ).loc main_arg3)) (((cfg0.win 4).blk t).view.emb y) := by
  pointwise [k0_pay1, REF]
  rw [add_comm]
  blk_point [iblk, V, idx t]

/-- What the run leaves in the result is the reference's value. -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

end Cert.Dh

end
-- ==== Proof.Drms.lean ====
/- The backward pass of a norm over rows: what the arrays of the gradients of its input and its weight hold after the run. -/
module

public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import Idealize.ShloMosaic.Lib.Pipeline.Value
public import Idealize.ShloMosaic.Lib.StableHlo.Run
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)
open scoped BigOperators

namespace Cert.Reference6Ideal.Formula

open Cert.Reference6Ideal Cert.Reference6Ideal.Gen

variable (x : FVec Ideal S4096x1024 .f32) (g : FVec Ideal S1x1024 .f32) (dh dout : FVec Ideal S4096x1024 .f32)

/-- A row's sum, of each row. -/
abbrev rowSum : FVec Ideal S4096 .f32 :=
  Host.reduceAdd x (constant S_ .f32 0x00000000#32) reducesTo_S4096x1024_S4096_d1 h_S_

/-- The mean of a row's squares plus epsilon. -/
abbrev meanSq : FVec Ideal S4096x1 .f32 :=
  addf (Host.divf (broadcastInDim S4096x1 ![0] bcast_S4096_S4096x1_0 (rowSum (mulf x x)))
    (broadcastInDim S4096x1 ![] bcast_S_S4096x1 (constant S_ .f32 0x44800000#32)))
    (broadcastInDim S4096x1 ![] bcast_S_S4096x1 (constant S_ .f32 0x358637BD#32))

/-- The cotangent of the normalised row. -/
abbrev dn : FVec Ideal S4096x1024 .f32 :=
  mulf dh (broadcastInDim S4096x1024 ![0, 1] bcast_S1x1024_S4096x1024_0_1 g)

/-- The inverse root, along a row. -/
abbrev rsq : FVec Ideal S4096x1024 .f32 :=
  broadcastInDim S4096x1024 ![0, 1] bcast_S4096x1_S4096x1024_0_1 (Host.rsqrt (meanSq x))

/-- The cotangent of a row's sum of squares, along the row. -/
abbrev dsq : FVec Ideal S4096x1024 .f32 :=
  broadcastInDim S4096x1024 ![0] bcast_S4096_S4096x1024_0
    (Host.reduceAdd (Host.divf (mulf (shapeCast _ (rowSum (mulf x (dn g dh))) shapeCasts_S4096_S4096x1)
        (mulf (broadcastInDim S4096x1 ![] bcast_S_S4096x1 (constant S_ .f32 0xBF000000#32))
          (Host.divf (Host.rsqrt (meanSq x)) (meanSq x))))
      (broadcastInDim S4096x1 ![] bcast_S_S4096x1 (constant S_ .f32 0x44800000#32)))
      (constant S_ .f32 0x00000000#32) reducesTo_S4096x1_S4096_d1 h_S_)

/-- The gradient of the norm's input, with the residual's. -/
abbrev dx : FVec Ideal S4096x1024 .f32 :=
  addf (addf (addf dout (mulf (dn g dh) (rsq x))) (mulf x (dsq x g dh))) (mulf (dsq x g dh) x)

/-- The gradient of the norm's weight. -/
abbrev dg : FVec Ideal S1x1024 .f32 :=
  shapeCast _ (Host.reduceAdd (mulf (mulf x (rsq x)) dh) (constant S_ .f32 0x00000000#32)
    reducesTo_S4096x1024_S1024_d0 h_S_) shapeCasts_S1024_S1x1024

end Cert.Reference6Ideal.Formula

namespace Cert.Drms

open Cert.Kernel6Ideal Cert.Kernel6Ideal.Gen

variable (m : (ℓ : Loc nD τ sig) → Buf (Elt Ideal) ℓ)

open Cert.Reference6Ideal.Formula

/-- The block indices of the windows at a grid point. -/
theorem idx : ∀ t : Fin cfg0.N, win0_0.index t = ![t.val, 0] ∧ win0_1.index t = ![0, 0]
    ∧ win0_2.index t = ![t.val, 0] ∧ win0_3.index t = ![t.val, 0] ∧ win0_4.index t = ![t.val, 0]
    ∧ win0_5.index t = ![0, 0] :=
  (by decide +kernel : ∀ t : Fin grid0.N, _)

/-- The order in which the kernel adds the four terms does not matter. -/
theorem order (a b c d : EReal) : a + b + c + d = d + a + b + c := by ac_rfl

/-- The block of the input's gradient that the body computes at a point is the reference's block there. -/
theorem point_4 (c : Dev nD) (t : Fin cfg0.N) (y) :
    k0_pay6 (iblk m c 0 t) (iblk m c 1 t) (iblk m c 2 t) (iblk m c 3 t) y
      = dx (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay6, k0_pay4, k0_pay3, dx, dsq, dn, rsq, meanSq, rowSum]
  rw [order]
  blk_point [iblk, V, idx t]

/-- What the run leaves in the array of the input's gradient. -/
theorem final_4 (c : Dev nD) : (dats m 0 c).arrAt 4 (cfgs 0).N = dx (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  by_cases h : t.val % 8 = 0
  · rw [outsAt0_A m c t h]; frame_out; exact point_4 m c t y
  · rw [outsAt0_B m c t h]; frame_out; exact point_4 m c t y

/-- The fill of the accumulator. -/
theorem pay1_zero (j) : k0_pay1 (F := Ideal) j = 0 := by pointwise! [k0_pay1]

/-- The accumulator's new value at an entry. -/
theorem pay2_add (v w : FVec Ideal S1x1024 .f32) (j) : k0_pay2 v w j = (w j : EReal) + v j := by
  pointwise [k0_pay2]

/-- What the run leaves in the array of the weight's gradient. -/
theorem final_5 (c : Dev nD) : (dats m 0 c).arrAt 5 (cfgs 0).N = dg (m ((c : Thread nD τ).loc main_arg0)) (m ((c : Thread nD τ).loc main_arg2)) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => 0)
    (fun t j => k0_pay5 (iblk m c 0 t) (iblk m c 2 t) j)
    (fun t h j => by rw [outsAt0_A m c t h]; frame_out; rw [pay2_add, pay1_zero])
    (fun t h j => by rw [outsAt0_B m c t h]; frame_out; rw [pay2_add])
    (le_of_eq N_0) t0_7 rfl j, zero_add]
  pointwise [k0_pay5, k0_pay4, k0_pay3, dg, rsq, meanSq, rowSum]
  refine Fin.sum_mul_add_congr fun s k hl => ?_
  blk_point [iblk, V, idx s]

end Cert.Drms

end
-- ==== Proof.GateUp.lean ====
/- The gate and up products of a feed-forward block with the gated product: what the three arrays hold after the run. -/
module

public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import Idealize.ShloMosaic.Lib.Pipeline.Value
public import Idealize.ShloMosaic.Lib.StableHlo.Run
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)
open scoped BigOperators

namespace Cert.Reference7Ideal.Formula

open Cert.Reference7Ideal Cert.Reference7Ideal.Gen

/-- A product of the reference: `h` times the transpose of the given weight. -/
abbrev prod (h : FVec Ideal S4096x1024 .bf16) (w : FVec Ideal S2816x1024 .bf16) : FVec Ideal S4096x2816 .f32 :=
  Host.dotGeneral dot_S4096x1024_S1024x2816_S4096x2816_1_0_0_1_n_n none (extf .f32 h bitsLt_bf16_f32)
    (extf .f32 (transpose S1024x2816 [1, 0] w transposes_S2816x1024_S1024x2816_1_0) bitsLt_bf16_f32)

/-- The array of ones. -/
abbrev ones : FVec Ideal S4096x2816 .f32 :=
  broadcastInDim S4096x2816 ![] bcast_S_S4096x2816 (constant S_ .f32 0x3F800000#32)

/-- The gated product: `silu a * u`. -/
abbrev gated (a u : FVec Ideal S4096x2816 .f32) : FVec Ideal S4096x2816 .f32 :=
  mulf (mulf a (Host.divf ones (addf ones (Host.exp (Host.negf a))))) u

end Cert.Reference7Ideal.Formula

namespace Cert.GateUp

open Cert.Kernel7Ideal Cert.Kernel7Ideal.Gen

variable (m : (ℓ : Loc nD τ sig) → Buf (Elt Ideal) ℓ)

open Cert.Reference7Ideal.Formula (prod ones gated)

/-- The block indices of the windows at a grid point. -/
theorem idx : ∀ t : Fin cfg0.N, win0_0.index t = ![t.val / 11, 0]
    ∧ win0_1.index t = ![t.val % 11, 0]
    ∧ win0_2.index t = ![t.val % 11, 0]
    ∧ win0_3.index t = ![t.val / 11, t.val % 11]
    ∧ win0_4.index t = ![t.val / 11, t.val % 11]
    ∧ win0_5.index t = ![t.val / 11, t.val % 11] :=
  (by decide +kernel : ∀ t : Fin grid0.N, _)

/-- What the run leaves in result 0. -/
theorem final_3 (c : Dev nD) : (dats m 0 c).arrAt 3 (cfgs 0).N = truncf .bf16 (prod (m ((c : Thread nD τ).loc main_arg0)) (m ((c : Thread nD τ).loc main_arg1))) Cert.Reference7Ideal.Gen.bitsLt_bf16_f32 := by
  refine (dats m 0 c).arrAt_eq_of_covers 3 _ (by decide +kernel) fun t hf y => ?_
  blk_simp; rw [after0_3]; frame_out
  pointwise [k0_pay3, k0_pay1, prod]
  blk_point [iblk, V, idx t]

/-- What the run leaves in result 1. -/
theorem final_4 (c : Dev nD) : (dats m 0 c).arrAt 4 (cfgs 0).N = truncf .bf16 (prod (m ((c : Thread nD τ).loc main_arg0)) (m ((c : Thread nD τ).loc main_arg2))) Cert.Reference7Ideal.Gen.bitsLt_bf16_f32 := by
  refine (dats m 0 c).arrAt_eq_of_covers 4 _ (by decide +kernel) fun t hf y => ?_
  blk_simp; rw [after0_4]; frame_out
  pointwise [k0_pay4, k0_pay2, prod]
  blk_point [iblk, V, idx t]

/-- What the run leaves in result 2. -/
theorem final_5 (c : Dev nD) : (dats m 0 c).arrAt 5 (cfgs 0).N = truncf .bf16 (gated (prod (m ((c : Thread nD τ).loc main_arg0)) (m ((c : Thread nD τ).loc main_arg1))) (prod (m ((c : Thread nD τ).loc main_arg0)) (m ((c : Thread nD τ).loc main_arg2)))) Cert.Reference7Ideal.Gen.bitsLt_bf16_f32 := by
  refine (dats m 0 c).arrAt_eq_of_covers 5 _ (by decide +kernel) fun t hf y => ?_
  blk_simp; rw [after0_5]; frame_out
  pointwise [k0_pay5, k0_pay1, k0_pay2, prod, gated, ones]
  simp only [zero_sub]
  blk_point [iblk, V, idx t]

end Cert.GateUp

end
-- ==== Proof.Down.lean ====
/- The down product of a feed-forward block with its residual: what the array holds after the run. -/
module

public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import Idealize.ShloMosaic.Lib.Pipeline.Value
public import Idealize.ShloMosaic.Lib.StableHlo.Run
public import Idealize.ShloMosaic.Lib.Pipeline.ValueKit
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)
open scoped BigOperators

namespace Cert.Down

open Cert.Kernel8Ideal Cert.Kernel8Ideal.Gen

variable (m : (ℓ : Loc nD τ sig) → Buf (Elt Ideal) ℓ)

/-- The reference: the residual plus half of the product with the down weights. -/
abbrev REF (a0 : FVec Ideal Cert.Reference8Ideal.S4096x2816 .bf16) (a1 : FVec Ideal Cert.Reference8Ideal.S2816x1024 .bf16) (a2 : FVec Ideal Cert.Reference8Ideal.S4096x1024 .f32) : FVec Ideal Cert.Reference8Ideal.S4096x1024 .f32 :=
  addf a2 (mulf (broadcastInDim Cert.Reference8Ideal.S4096x1024 ![] Cert.Reference8Ideal.Gen.bcast_S_S4096x1024 (constant Cert.Reference8Ideal.S_ .f32 0x3F000000#32))
    (Host.dotGeneral Cert.Reference8Ideal.dot_S4096x2816_S2816x1024_S4096x1024_1_0_0_1_n_n none (extf .f32 a0 Cert.Reference8Ideal.Gen.bitsLt_bf16_f32) (extf .f32 a1 Cert.Reference8Ideal.Gen.bitsLt_bf16_f32)))

/-- The block indices of the windows at a grid point. -/
theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-- What the body stores: the residual plus half the accumulator. -/
theorem pay3 (acc x : FVec Ideal S1024x1024 .f32) (j : S1024x1024.Idx) : k0_pay3 acc x j = x j + Ideal.ofBits .f32 0x3F000000#32 * acc j := by
  pointwise [k0_pay3]
  rw [mul_comm]

/-- What the run leaves in the result is the reference's value. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  unfold outsAt0
  frame_out
  rw [pay3]
  pointwise [k0_pay1, k0_pay2, REF]
  blk_point [iblk, V, idx t]

end Cert.Down

end
-- ==== Proof.FeedForward.lean ====
/- The feed-forward block's seven calls, forward and backward: each equals its reference. -/
module

public import proofs.«01_k».proof.Defs
public import proofs.«01_k».proof.Proof.Dact
public import proofs.«01_k».proof.Proof.Dwd
public import proofs.«01_k».proof.Proof.Dwg
public import proofs.«01_k».proof.Proof.Dh
public import proofs.«01_k».proof.Proof.Drms
public import proofs.«01_k».proof.Proof.GateUp
public import proofs.«01_k».proof.Proof.Down
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import Idealize.ShloMosaic.Lib.Claim

@[expose] public section

set_option maxRecDepth 16384

namespace Cert.FeedForward

open Idealize.ShloMosaic Idealize.SL.Sem

/-- The gradients of the gate and up products. -/
theorem dact : Cert.algebraic_Kernel2Ideal_Reference2Ideal_pre_finite2 := by
  pair_intro
  · run_from Cert.Kernel2Ideal.Gen.run_main m g
  · run_from Cert.Reference2Ideal.Value.run m' g'
    · obtain ⟨h0, h1, h2, h3⟩ := Dact.reals_of_pre _ _ _ _ (hpre _)
      exact (Dact.final_4 m _ h0 h1 h2 h3).symm
    · exact (Dact.final_5 m _).symm

/-- The gradient of the down weights. -/
theorem dwd : Cert.algebraic_Kernel3Ideal_Reference3Ideal := by
  pair_intro
  · run_from Cert.Kernel3Ideal.Gen.run_main m g
  · run_from Cert.Reference3Ideal.Value.run m' g'
    exact (Dwd.final m _).symm

/-- The gradient of the gate weights, and of the up weights. -/
theorem dwg : Cert.algebraic_Kernel4Ideal_Reference4Ideal := by
  pair_intro
  · run_from Cert.Kernel4Ideal.Gen.run_main m g
  · run_from Cert.Reference4Ideal.Value.run m' g'
    exact (Dwg.final m _).symm

/-- The gradient of the normalised input. -/
theorem dh : Cert.algebraic_Kernel5Ideal_Reference5Ideal := by
  pair_intro
  · run_from Cert.Kernel5Ideal.Gen.run_main m g
  · run_from Cert.Reference5Ideal.Value.run m' g'
    exact (Dh.final m _).symm

/-- The gradients of the norm's input and weight. -/
theorem drms : Cert.algebraic_Kernel6Ideal_Reference6Ideal := by
  pair_intro
  · run_from Cert.Kernel6Ideal.Gen.run_main m g
  · refine Idealize.ShloMosaic.θ_run_mono (Cert.Reference6Ideal.Value.run m' g') fun r hr c => ?_
    have hc := hr c
    refine ⟨hc.1.trans ?_, hc.2.1.trans ?_, hc.2.2⟩
    · simp only [hagree c]
      exact (Drms.final_4 m c).symm
    · simp only [hagree c]
      exact (Drms.final_5 m c).symm

/-- The gate and up products and the gated product. -/
theorem gate_up : Cert.algebraic_Kernel7Ideal_Reference7Ideal := by
  pair_intro
  · run_from Cert.Kernel7Ideal.Gen.run_main m g
  · run_from Cert.Reference7Ideal.Value.run m' g'
    · exact (GateUp.final_3 m _).symm
    · exact (GateUp.final_4 m _).symm
    · exact (GateUp.final_5 m _).symm

/-- The down product with the residual. -/
theorem down : Cert.algebraic_Kernel8Ideal_Reference8Ideal := by
  pair_intro
  · run_from Cert.Kernel8Ideal.Gen.run_main m g
  · run_from Cert.Reference8Ideal.Value.run m' g'
    exact (Down.final m _).symm

end Cert.FeedForward
-- ==== Proof.FinalRows.lean ====
/- The loss head for one token, over the extended reals: two forms of the gradient of the final norm's input. -/
module

public import Idealize.ShloMosaic.PureOps.Ideal
public import proofs.«01_k».proof.Proof.Reals

@[expose] public section

noncomputable section

open Idealize.ShloMosaic
open scoped BigOperators

namespace Cert.FinalLoss

variable (X G T : Fin 1024 → EReal)

/-- The mean of a row's squares plus epsilon. -/
def ms : EReal := Ideal.div (∑ k, X k * X k) (Ideal.ofBits .f32 0x44800000#32) + Ideal.ofBits .f32 0x358637BD#32

/-- Its inverse root. -/
def rt : EReal := Ideal.rsqrt (ms X)

/-- The error of the normalised row. -/
def err (q : Fin 1024) : EReal := (X q * rt X) * G q - T q

/-- The error's cotangent as the kernel has it. -/
def dyK (q : Fin 1024) : EReal := err X G T q * Ideal.ofBits .f32 0x3A800000#32

/-- The error's cotangent as differentiation gives it. -/
def dyR (q : Fin 1024) : EReal :=
  Ideal.div (Ideal.ofBits .f32 0x3F000000#32) (Ideal.ofBits .f32 0x44800000#32)
    * (Ideal.ofBits .f32 0x40000000#32 * err X G T q)

/-- They agree. -/
theorem dy_eq (q : Fin 1024) : dyK X G T q = dyR X G T q := by
  unfold dyK dyR
  rw [Reals.ofBits_half, Reals.ofBits_1024, Reals.ofBits_two, Reals.ofBits_inv1024,
    Ideal.div_coe (by norm_num), ← EReal.coe_mul, ← mul_assoc, ← EReal.coe_mul, mul_comm]
  congr 2
  norm_num

/-- The gradient of the norm's input as the kernel has it: `D` is the normalised row's cotangent. -/
def dxK (D : Fin 1024 → EReal) (q : Fin 1024) : EReal :=
  rt X * (D q - (X q * rt X) * Ideal.div (∑ k, D k * (X k * rt X)) (Ideal.ofBits .f32 0x44800000#32))

/-- The cotangent of the sum of squares. -/
def dsq (D : Fin 1024 → EReal) : EReal :=
  Ideal.div ((∑ k, X k * D k) * (Ideal.ofBits .f32 0xBF000000#32 * Ideal.div (rt X) (ms X))) (Ideal.ofBits .f32 0x44800000#32)

/-- The gradient of the norm's input as differentiation gives it. -/
def dxR (D : Fin 1024 → EReal) (q : Fin 1024) : EReal := D q * rt X + X q * dsq X D + dsq X D * X q

/-- The mean of squares is a positive real, or infinite. -/
theorem ms_cases : (∃ c : ℝ, 0 < c ∧ ms X = c) ∨ ms X = ⊤ := by
  have h0 : 0 ≤ ∑ k, X k * X k := Finset.sum_nonneg fun k _ => by
    rcases le_total 0 (X k) with h | h
    · exact mul_nonneg h h
    · have := mul_nonneg (EReal.neg_nonneg.mpr h) (EReal.neg_nonneg.mpr h)
      rwa [neg_mul_neg] at this
  unfold ms
  rw [Reals.ofBits_1024, Ideal.div_coe (by norm_num), Reals.ofBits_eps]
  induction h : ∑ k, X k * X k with
  | bot => rw [h] at h0; exact absurd h0 (by decide)
  | top => right; rw [EReal.top_mul_coe_of_pos (by norm_num)]; rfl
  | coe s =>
    left
    rw [h] at h0
    have hs : 0 ≤ s := by exact_mod_cast h0
    refine ⟨s * (1 / 1024) + 8796093 / 2 ^ 43, by positivity, ?_⟩
    rw [← EReal.coe_mul, ← EReal.coe_add]

/-- Twice a term. -/
theorem twice (z : EReal) : z + z = ((2 : ℝ) : EReal) * z := by
  have h := EReal.right_distrib_of_nonneg (a := 1) (b := 1) (c := z) (by norm_num) (by norm_num)
  rw [one_mul] at h
  rw [← h]
  congr 1
  rw [← EReal.coe_one, ← EReal.coe_add]
  norm_num

/-- The two forms of the gradient agree. -/
theorem dx_eq (D : Fin 1024 → EReal) (q : Fin 1024) : dxK X D q = dxR X D q := by
  unfold dxK dxR dsq
  rcases ms_cases X with ⟨c, hc, h⟩ | h
  · have hs : 0 < Real.sqrt c := Real.sqrt_pos.mpr hc
    have hr : rt X = (((Real.sqrt c)⁻¹ : ℝ) : EReal) := by
      unfold rt
      rw [h]
      exact (if_neg hc.not_gt).trans (if_neg hc.ne')
    have hq : (Real.sqrt c)⁻¹ * (1 / c) = (Real.sqrt c)⁻¹ ^ 3 := by
      have e := Real.mul_self_sqrt hc.le
      nth_rw 2 [← e]
      field_simp
    have h0 : 0 ≤ (Real.sqrt c)⁻¹ := (inv_pos.mpr hs).le
    rw [hr, h, Reals.ofBits_1024, Reals.ofBits_neg_half, Ideal.div_coe (by norm_num), Ideal.div_coe (by norm_num), Ideal.div_coe hc.ne',
      ← EReal.coe_mul, hq]
    generalize (Real.sqrt c)⁻¹ = ρ at *
    have e : ∑ k, D k * (X k * (ρ : EReal)) = (ρ : EReal) * ∑ k, X k * D k := by
      rw [Reals.coe_mul_sum h0]
      exact Finset.sum_congr rfl fun k _ => by ac_rfl
    rw [e, sub_eq_add_neg, EReal.left_distrib_of_nonneg_of_ne_top (by exact_mod_cast h0) (EReal.coe_ne_top _), add_assoc]
    generalize ∑ k, X k * D k = S
    have e1 : X q * (S * (((-(1 / 2) : ℝ) : EReal) * ((ρ ^ 3 : ℝ) : EReal)) * ((1 / 1024 : ℝ) : EReal))
        = ((-(1 / 2) * ρ ^ 3 * (1 / 1024) : ℝ) : EReal) * (X q * S) := by
      rw [EReal.coe_mul, EReal.coe_mul]; ac_rfl
    have e2 : (S * (((-(1 / 2) : ℝ) : EReal) * ((ρ ^ 3 : ℝ) : EReal)) * ((1 / 1024 : ℝ) : EReal)) * X q
        = ((-(1 / 2) * ρ ^ 3 * (1 / 1024) : ℝ) : EReal) * (X q * S) := by
      rw [EReal.coe_mul, EReal.coe_mul]; ac_rfl
    have e3 : (ρ : EReal) * -(X q * (ρ : EReal) * ((ρ : EReal) * S * ((1 / 1024 : ℝ) : EReal)))
        = -(((ρ * ρ * ρ * (1 / 1024) : ℝ) : EReal) * (X q * S)) := by
      rw [EReal.coe_mul, EReal.coe_mul, EReal.coe_mul, mul_neg]; congr 1; ac_rfl
    rw [e1, e2, e3, twice, mul_comm (ρ : EReal) (D q)]
    generalize X q * S = z
    rw [← mul_assoc, ← EReal.coe_mul, ← neg_mul, ← EReal.coe_neg]
    congr 3
    ring
  · have hr : rt X = 0 := by
      unfold rt
      rw [h]
      rfl
    have hd : Ideal.div 0 ⊤ = 0 := by
      unfold Ideal.div
      rw [if_neg (by decide), zero_mul]
    rw [hr, h, hd]
    simp only [mul_zero, zero_mul, add_zero, Reals.ofBits_1024]
    rw [Ideal.div_coe (by norm_num)]
    simp only [mul_zero, zero_mul, add_zero]

end Cert.FinalLoss

end
-- ==== Proof.FinalLoss.lean ====
/- The loss head: what the arrays of the loss and of its gradients hold after the run. -/
module

public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import Idealize.ShloMosaic.Lib.Pipeline.Value
public import Idealize.ShloMosaic.Lib.StableHlo.Run
public import Idealize.ShloMosaic.Lib.Pipeline.ValueKit
public import Idealize.ShloMosaic.Lib.Pipeline.ReadBack
public import Idealize.ShloMosaic.Lib.Pointwise
public import Idealize.ShloMosaic.PureOps.Ideal
public import proofs.«01_k».proof.Proof.FinalRows

@[expose] public section

set_option maxRecDepth 16384

noncomputable section

open Idealize.ShloMosaic Idealize.ShloMosaic.TcCoe Idealize.SL.Sem
open Idealize.ShloMosaic.Pipeline (Dat)
open scoped BigOperators

namespace Cert.FinalLoss

/-- A row of an array. -/
def rowAt {n k : ℕ} (x : FVec Ideal ⟨2, ![n, k]⟩ .f32) (p : Fin n) : Fin k → EReal := fun q => x (ix2 p q)

end Cert.FinalLoss

namespace Cert.Reference18Ideal.Formula

open Cert.Reference18Ideal Cert.Reference18Ideal.Gen

variable (x : FVec Ideal S4096x1024 .f32) (g : FVec Ideal S1x1024 .f32) (t : FVec Ideal S4096x1024 .f32)

/-- A row's sum, of each row. -/
abbrev rowSum : FVec Ideal S4096 .f32 :=
  Host.reduceAdd x (constant S_ .f32 0x00000000#32) reducesTo_S4096x1024_S4096_d1 h_S_

/-- The mean of a row's squares plus epsilon. -/
abbrev meanSq : FVec Ideal S4096x1 .f32 :=
  addf (Host.divf (broadcastInDim S4096x1 ![0] bcast_S4096_S4096x1_0 (rowSum (mulf x x)))
    (broadcastInDim S4096x1 ![] bcast_S_S4096x1 (constant S_ .f32 0x44800000#32)))
    (broadcastInDim S4096x1 ![] bcast_S_S4096x1 (constant S_ .f32 0x358637BD#32))

/-- The inverse root, along a row. -/
abbrev rsq : FVec Ideal S4096x1024 .f32 :=
  broadcastInDim S4096x1024 ![0, 1] bcast_S4096x1_S4096x1024_0_1 (Host.rsqrt (meanSq x))

/-- The error. -/
abbrev err : FVec Ideal S4096x1024 .f32 :=
  subf (mulf (mulf x (rsq x)) (broadcastInDim S4096x1024 ![0, 1] bcast_S1x1024_S4096x1024_0_1 g)) t

/-- Its cotangent. -/
abbrev dy : FVec Ideal S4096x1024 .f32 :=
  mulf (broadcastInDim S4096x1024 ![0] bcast_S4096_S4096x1024_0
    (Host.divf (broadcastInDim S4096 ![] bcast_S_S4096 (mulf (constant S_ .f32 0x3F000000#32) (constant S_ .f32 0x3F800000#32)))
      (broadcastInDim S4096 ![] bcast_S_S4096 (constant S_ .f32 0x44800000#32))))
    (mulf (broadcastInDim S4096x1024 ![] bcast_S_S4096x1024 (constant S_ .f32 0x40000000#32)) (err x g t))

/-- The normalised row's cotangent. -/
abbrev dn : FVec Ideal S4096x1024 .f32 :=
  mulf (dy x g t) (broadcastInDim S4096x1024 ![0, 1] bcast_S1x1024_S4096x1024_0_1 g)

/-- The cotangent of a row's sum of squares, along the row. -/
abbrev dsq : FVec Ideal S4096x1024 .f32 :=
  broadcastInDim S4096x1024 ![0] bcast_S4096_S4096x1024_0
    (Host.reduceAdd (Host.divf (mulf (shapeCast _ (rowSum (mulf x (dn x g t))) shapeCasts_S4096_S4096x1)
        (mulf (broadcastInDim S4096x1 ![] bcast_S_S4096x1 (constant S_ .f32 0xBF000000#32))
          (Host.divf (Host.rsqrt (meanSq x)) (meanSq x))))
      (broadcastInDim S4096x1 ![] bcast_S_S4096x1 (constant S_ .f32 0x44800000#32)))
      (constant S_ .f32 0x00000000#32) reducesTo_S4096x1_S4096_d1 h_S_)

/-- The gradient of the norm's input. -/
abbrev dx : FVec Ideal S4096x1024 .f32 :=
  addf (addf (mulf (dn x g t) (rsq x)) (mulf x (dsq x g t))) (mulf (dsq x g t) x)

/-- The gradient of the norm's weight. -/
abbrev dg : FVec Ideal S1x1024 .f32 :=
  shapeCast _ (Host.reduceAdd (mulf (mulf x (rsq x)) (dy x g t)) (constant S_ .f32 0x00000000#32)
    reducesTo_S4096x1024_S1024_d0 h_S_) shapeCasts_S1024_S1x1024

/-- The loss, at every entry of its array. -/
abbrev loss : FVec Ideal S8x128 .f32 :=
  broadcastInDim S8x128 ![] bcast_S_S8x128 (mulf (constant S_ .f32 0x3F000000#32)
    (Host.reduceAdd (Host.divf (rowSum (mulf (err x g t) (err x g t)))
      (broadcastInDim S4096 ![] bcast_S_S4096 (constant S_ .f32 0x44800000#32)))
      (constant S_ .f32 0x00000000#32) reducesTo_S4096_S_d0 h_S_))

open Cert.FinalLoss

/-- The gradient of the norm's input, a row at a time. -/
theorem dx_at (p : Fin 4096) (q : Fin 1024) : dx x g t (ix2 p q)
    = dxR (rowAt x p) (fun k => dyR (rowAt x p) (rowAt g 0) (rowAt t p) k * rowAt g 0 k) q := by
  pointwise [dx, dsq, dn, dy, err, rsq, meanSq, rowSum]
  simp only [Finset.univ_unique, Finset.sum_singleton]
  rfl

/-- The gradient of the norm's weight. -/
theorem dg_at (i : S1x1024.Idx) : dg x g t i
    = ∑ p : Fin 4096, (rowAt x p (i 1) * rt (rowAt x p)) * dyR (rowAt x p) (rowAt g 0) (rowAt t p) (i 1) := by
  pointwise [dg, dy, err, rsq, meanSq, rowSum]
  rfl

/-- The loss. -/
theorem loss_at (i : S8x128.Idx) : loss x g t i
    = Ideal.ofBits .f32 0x3F000000#32 * ∑ p : Fin 4096, Ideal.div (∑ k, FinalLoss.err (rowAt x p) (rowAt g 0) (rowAt t p) k
        * FinalLoss.err (rowAt x p) (rowAt g 0) (rowAt t p) k) (Ideal.ofBits .f32 0x44800000#32) := by
  pointwise [loss, err, rsq, meanSq, rowSum]
  rfl

end Cert.Reference18Ideal.Formula

namespace Cert.FinalLoss

open Cert.Kernel18Ideal Cert.Kernel18Ideal.Gen

variable (x : FVec Ideal S512x1024 .f32) (g : FVec Ideal S1x1024 .f32) (t : FVec Ideal S512x1024 .f32)

/-- The gradient of the norm's input as the body computes it. -/
theorem pay2_at (p : Fin 512) (q : Fin 1024) : k0_pay2 (F := Ideal) g (k0_pay5 x) (k0_pay6 x) (k0_pay9 x g t) (ix2 p q)
    = dxK (rowAt x p) (fun k => dyK (rowAt x p) (rowAt g 0) (rowAt t p) k * rowAt g 0 k) q := by
  pointwise [k0_pay2, k0_pay5, k0_pay6, k0_pay7, k0_pay9]
  rfl

/-- The weight's gradient with a block's added. -/
theorem pay1_at (a : FVec Ideal S1x1024 .f32) (i : S1x1024.Idx) : k0_pay1 (F := Ideal) (k0_pay6 x) (k0_pay9 x g t) a i
    = (a i : EReal) + ∑ p : Fin 512, dyK (rowAt x p) (rowAt g 0) (rowAt t p) (i 1) * (rowAt x p (i 1) * rt (rowAt x p)) := by
  pointwise [k0_pay1, k0_pay5, k0_pay6, k0_pay7, k0_pay9]
  rfl

/-- The loss with a block's added. -/
theorem pay8_at (a : FVec Ideal S8x128 .f32) (i : S8x128.Idx) : k0_pay8 (F := Ideal) x g t a i
    = (a i : EReal) + Ideal.ofBits .f32 0x3F000000#32 * ∑ p : Fin 512, Ideal.div (∑ k, err (rowAt x p) (rowAt g 0) (rowAt t p) k
        * err (rowAt x p) (rowAt g 0) (rowAt t p) k) (Ideal.ofBits .f32 0x44800000#32) := by
  pointwise [k0_pay8, k0_pay5, k0_pay6, k0_pay7, k0_pay9]
  simp only [Finset.univ_unique, Finset.sum_singleton]
  rfl

/-- The fills of the accumulators. -/
theorem pay3_zero (j) : k0_pay3 (F := Ideal) j = 0 := by pointwise! [k0_pay3]

theorem pay4_zero (j) : k0_pay4 (F := Ideal) j = 0 := by pointwise! [k0_pay4]

variable (m : (ℓ : Loc nD τ sig) → Buf (Elt Ideal) ℓ)

open Cert.Reference18Ideal.Formula

/-- The block indices of the windows at a grid point. -/
theorem idx : ∀ t : Fin cfg0.N, win0_0.index t = ![t.val, 0] ∧ win0_1.index t = ![0, 0]
    ∧ win0_2.index t = ![t.val, 0] ∧ win0_3.index t = ![t.val, 0] ∧ win0_4.index t = ![0, 0]
    ∧ win0_5.index t = ![0, 0] :=
  (by decide +kernel : ∀ t : Fin grid0.N, _)

/-- The row of the whole array that a point's block has at `p`. -/
def rowOf (t : Fin cfg0.N) (p : Fin 512) : Fin 4096 :=
  ⟨t.val * 512 + p.val, by have := t.isLt; have : t.val < 8 := this; omega⟩

/-- The block's rows of the input. -/
theorem row_0 (c : Dev nD) (t : Fin cfg0.N) (p : Fin 512) :
    rowAt (n := 512) (k := 1024) (iblk m c 0 t) p = rowAt (n := 4096) (k := 1024) (m ((c : Thread nD τ).loc main_arg0)) (rowOf t p) := by
  funext q
  unfold rowAt rowOf
  blk_point [iblk, V, idx t]

/-- The weight. -/
theorem row_1 (c : Dev nD) (t : Fin cfg0.N) :
    rowAt (n := 1) (k := 1024) (iblk m c 1 t) 0 = rowAt (n := 1) (k := 1024) (m ((c : Thread nD τ).loc main_arg1)) 0 := by
  funext q
  unfold rowAt
  blk_point [iblk, V, idx t]

/-- The block's rows of the target. -/
theorem row_2 (c : Dev nD) (t : Fin cfg0.N) (p : Fin 512) :
    rowAt (n := 512) (k := 1024) (iblk m c 2 t) p = rowAt (n := 4096) (k := 1024) (m ((c : Thread nD τ).loc main_arg2)) (rowOf t p) := by
  funext q
  unfold rowAt rowOf
  blk_point [iblk, V, idx t]

/-- The block of the input's gradient that the body computes at a point is the reference's block there. -/
theorem point_3 (c : Dev nD) (t : Fin cfg0.N) (y) :
    k0_pay2 (F := Ideal) (iblk m c 1 t) (k0_pay5 (iblk m c 0 t)) (k0_pay6 (iblk m c 0 t)) (k0_pay9 (iblk m c 0 t) (iblk m c 1 t) (iblk m c 2 t)) y
      = dx (m ((c : Thread nD τ).loc main_arg0)) (m ((c : Thread nD τ).loc main_arg1)) (m ((c : Thread nD τ).loc main_arg2)) (((cfg0.win 3).blk t).view.emb y) := by
  obtain ⟨p, q, rfl⟩ : ∃ (p : Fin 512) (q : Fin 1024), y = ix2 p q := ⟨y 0, y 1, by funext a; fin_cases a <;> rfl⟩
  have ee : ((cfg0.win 3).blk t).view.emb (ix2 p q) = ix2 (rowOf t p) q := by
    unfold rowOf
    blk_ext [idx t]
  have h := pay2_at (iblk m c 0 t) (iblk m c 1 t) (iblk m c 2 t) p q
  simp only [row_0 m c t p, row_1 m c t, row_2 m c t p, dy_eq, dx_eq] at h
  exact h.trans ((dx_at _ _ _ _ _).symm.trans (congrArg _ ee.symm))

/-- What the run leaves in the array of the input's gradient. -/
theorem final_3 (c : Dev nD) : (dats m 0 c).arrAt 3 (cfgs 0).N = dx (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  by_cases h : t.val % 8 = 0
  · rw [outsAt0_A m c t h]; frame_out; exact point_3 m c t y
  · rw [outsAt0_B m c t h]; frame_out; exact point_3 m c t y

/-- What the run leaves in the array of the weight's gradient. -/
theorem final_4 (c : Dev nD) : (dats m 0 c).arrAt 4 (cfgs 0).N = dg (m ((c : Thread nD τ).loc main_arg0)) (m ((c : Thread nD τ).loc main_arg1)) (m ((c : Thread nD τ).loc main_arg2)) := by
  refine (dats m 0 c).arrAt_eq_of_after_last 4 t0_7 (by decide +kernel) _ fun j => ?_
  blk_simp
  rw [after0_4, Pipeline.eq_sum_fin_of_reset_step_apply_last (fun n h => (outsAt0 m c n h).2.1) 8 (fun _ => 0)
    (fun t j => ∑ p : Fin 512, dyK (rowAt (n := 512) (k := 1024) (iblk m c 0 t) p) (rowAt (n := 1) (k := 1024) (iblk m c 1 t) 0) (rowAt (n := 512) (k := 1024) (iblk m c 2 t) p) (j 1)
      * (rowAt (n := 512) (k := 1024) (iblk m c 0 t) p (j 1) * rt (rowAt (n := 512) (k := 1024) (iblk m c 0 t) p)))
    (fun t h j => by rw [outsAt0_A m c t h]; frame_out; rw [pay1_at, pay3_zero])
    (fun t h j => by rw [outsAt0_B m c t h]; frame_out; rw [pay1_at])
    (le_of_eq N_0) t0_7 rfl j, zero_add, dg_at]
  refine Fin.sum_mul_add_congr fun s k hl => ?_
  rw [row_0, row_1, row_2]
  exact (congrArg (fun z : EReal => z * _) (dy_eq _ _ _ _)).trans (mul_comm _ _)

/-- What the run leaves in the array of the loss. -/
theorem final_5 (c : Dev nD) : (dats m 0 c).arrAt 5 (cfgs 0).N = loss (m ((c : Thread nD τ).loc main_arg0)) (m ((c : Thread nD τ).loc main_arg1)) (m ((c : Thread nD τ).loc main_arg2)) := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0)
    (fun t j => Ideal.ofBits .f32 0x3F000000#32 * ∑ p : Fin 512, Ideal.div (∑ k, err (rowAt (n := 512) (k := 1024) (iblk m c 0 t) p) (rowAt (n := 1) (k := 1024) (iblk m c 1 t) 0) (rowAt (n := 512) (k := 1024) (iblk m c 2 t) p) k
      * err (rowAt (n := 512) (k := 1024) (iblk m c 0 t) p) (rowAt (n := 1) (k := 1024) (iblk m c 1 t) 0) (rowAt (n := 512) (k := 1024) (iblk m c 2 t) p) k) (Ideal.ofBits .f32 0x44800000#32))
    (fun t h j => by rw [outsAt0_A m c t h]; frame_out; rw [pay8_at, pay4_zero])
    (fun t h j => by rw [outsAt0_B m c t h]; frame_out; rw [pay8_at])
    (le_of_eq N_0) t0_7 rfl j, zero_add, loss_at]
  rw [Reals.ofBits_half, ← Reals.coe_mul_sum (by norm_num)]
  congr 1
  refine Fin.sum_mul_add_congr fun s k hl => ?_
  rw [row_0, row_1, row_2]
  rfl

end Cert.FinalLoss

end
-- ==== Proof.FinalClaim.lean ====
/- The loss head: the kernel equals its reference. -/
module

public import proofs.«01_k».proof.Defs
public import proofs.«01_k».proof.Proof.FinalLoss
public import proofs.«01_k».proof.Proof.Gen.Reference18Ideal.Run
public import Idealize.ShloMosaic.Lib.Claim

@[expose] public section

set_option maxRecDepth 16384

namespace Cert.FinalClaim

open Idealize.ShloMosaic Idealize.SL.Sem

/-- The loss and its gradients. -/
theorem claim : Cert.algebraic_Kernel18Ideal_Reference18Ideal := by
  pair_intro
  · run_from Cert.Kernel18Ideal.Gen.run_main m g
  · refine Idealize.ShloMosaic.θ_run_mono (Cert.Reference18Ideal.Value.run m' g') fun r hr c => ?_
    have hc := hr c
    refine ⟨hc.1.trans ?_, hc.2.1.trans ?_, hc.2.2.1.trans ?_, hc.2.2.2⟩
    · unfold Cert.Reference18Ideal.Value.res_main_v48
      simp only [hagree c]
      exact (FinalLoss.final_3 m c).symm
    · simp only [hagree c]
      exact (FinalLoss.final_4 m c).symm
    · simp only [hagree c]
      exact (FinalLoss.final_5 m c).symm

end Cert.FinalClaim
-- ==== Proof.HgrnRows.lean ====
/- The gated linear recurrence of HGRN2 by chunks of sixty-four tokens, over the extended reals: for one
   head of 128 channels, what a chunk's output and the next state are in terms of the chunk's query, forget
   gate and value and of the state before it. -/
module

public import Idealize.ShloMosaic.PureOps.Ideal
public import Idealize.ShloMosaic.Lib.IdealHost

@[expose] public section

noncomputable section

open Idealize.ShloMosaic
open scoped BigOperators

namespace Cert.Hgrn

/-- The logistic function. -/
def sg (x : EReal) : EReal := Ideal.div 1 (1 + Ideal.exp (-x))

/-- The first of two entries' softmax. -/
def low (a b : EReal) : EReal :=
  Ideal.div (Ideal.exp (a - max a b)) (Ideal.exp (a - max a b) + Ideal.exp (b - max a b))

/-- The forget gate: `l` from below, one from above. -/
def fg (l x : EReal) : EReal := l + (1 - l) * sg x

/-- A chunk: a row for each token, a column for each channel of the head. -/
abbrev Chunk := Fin 64 → Fin 128 → EReal

/-- A state: a row for each channel of the key, a column for each channel of the value. -/
abbrev State := Fin 128 → Fin 128 → EReal

variable (Q F V : Chunk) (S : State)

/-- The logarithms of the forget gates. -/
def lg : Chunk := fun t k => Ideal.log (F t k)

/-- Their sums up to each token. -/
def cum : Chunk := fun t k => ∑ s : Fin 64, if s ≤ t then lg F s k else 0

/-- Their sum up to token 32, to which the scores are referred. -/
def mid (k : Fin 128) : EReal := ∑ s : Fin 64, if s ≤ (32 : Fin 64) then lg F s k else 0

/-- Their sum over the chunk. -/
def tot (k : Fin 128) : EReal := ∑ s : Fin 64, lg F s k

/-- The scores of the chunk's tokens among themselves, none of a later one. -/
def score : Fin 64 → Fin 64 → EReal := fun t s =>
  if s ≤ t then ∑ k, (Q t k * Ideal.exp (cum F t k - mid F k)) * ((1 - F s k) * Ideal.exp (mid F k - cum F s k)) else 0

/-- The chunk's output before the norm: from its own tokens and from the state before it. -/
def att : Chunk := fun t j =>
  (∑ s, score Q F t s * V s j) + ∑ k, (Q t k * Ideal.exp (cum F t k)) * S k j

/-- The state after the chunk. -/
def next : State := fun k j =>
  Ideal.exp (tot F k) * S k j + ∑ s, ((1 - F s k) * Ideal.exp (tot F k - cum F s k)) * V s j

/-- The norm's epsilon. -/
def eps : EReal := Ideal.ofBits .f32 0x358637BD#32

/-- The number of a head's channels. -/
def chans : EReal := Ideal.ofBits .f32 0x43000000#32

/-- The norm of each head's rows, its weight, and the gate. -/
def normed (o G : Chunk) (w : Fin 128 → EReal) : Chunk := fun t j =>
  o t j * Ideal.rsqrt (Ideal.div (∑ i, o t i * o t i) chans + eps) * w j * (G t j * sg (G t j))

/-! The whole sequence: 4096 tokens, 64 chunks of four heads. -/

/-- Head `h`'s chunk `n` of an array of 4096 tokens by 512 channels. -/
def chunk (X : Fin 4096 → Fin 512 → EReal) (h : Fin 4) (n : ℕ) : Chunk := fun t k =>
  X ⟨(64 * n + t.val) % 4096, Nat.mod_lt _ (by decide)⟩ ⟨128 * h.val + k.val, by omega⟩

/-- Head `h`'s channels of a row of 512. -/
def head (x : Fin 512 → EReal) (h : Fin 4) : Fin 128 → EReal := fun k => x ⟨128 * h.val + k.val, by omega⟩

/-- The query of a chunk: `x` times its logistic. -/
def query (X : Fin 4096 → Fin 512 → EReal) (h : Fin 4) (n : ℕ) : Chunk := fun t k => chunk X h n t k * sg (chunk X h n t k)

/-- The forget gates of a chunk. -/
def gate (a b : Fin 512 → EReal) (X : Fin 4096 → Fin 512 → EReal) (h : Fin 4) (n : ℕ) : Chunk := fun t k =>
  fg (low (head a h k) (head b h k)) (chunk X h n t k)

/-- Head `h`'s state before chunk `n`. -/
def state (a b : Fin 512 → EReal) (X Y : Fin 4096 → Fin 512 → EReal) (h : Fin 4) : ℕ → State
  | 0 => fun _ _ => 0
  | n + 1 => next (gate a b X h n) (chunk Y h n) (state a b X Y h n)

/-- Head `h`'s output of chunk `n`. -/
def result (a b w : Fin 512 → EReal) (P X Y G : Fin 4096 → Fin 512 → EReal) (h : Fin 4) (n : ℕ) : Chunk :=
  normed (att (query P h n) (gate a b X h n) (chunk Y h n) (state a b X Y h n)) (chunk G h n) (head w h)

/-! A forget gate's logarithm is not `⊤`, so that what is left of it after its own subtraction may be added to it. -/

theorem exp_coe (x : ℝ) : Ideal.exp (x : EReal) = ((Real.exp x : ℝ) : EReal) := rfl

theorem exp_bot : Ideal.exp ⊥ = 0 := rfl

theorem exp_top : Ideal.exp ⊤ = ⊤ := rfl

theorem div_real (x : ℝ) {y : ℝ} (h : y ≠ 0) : Ideal.div (x : EReal) (y : EReal) = ((x * (1 / y) : ℝ) : EReal) := by
  rw [Ideal.div_coe h, ← EReal.coe_mul]

theorem sg_real (x : EReal) : ∃ r : ℝ, sg x = r := by
  unfold sg
  induction x using EReal.rec with
  | bot => exact ⟨0, by rw [EReal.neg_bot, exp_top, show (1 : EReal) + ⊤ = ⊤ from EReal.add_top_of_ne_bot (EReal.coe_ne_bot 1)]; simp [Ideal.div]⟩
  | top => exact ⟨1, by rw [EReal.neg_top, exp_bot]; simp [Ideal.div]⟩
  | coe x =>
    have h : (1 : EReal) + Ideal.exp (-(x : EReal)) = ((1 + Real.exp (-x) : ℝ) : EReal) := by
      rw [← EReal.coe_neg, exp_coe, EReal.coe_add]; rfl
    rw [h]
    have hp : (1 + Real.exp (-x)) ≠ 0 := by positivity
    exact ⟨1 * (1 / (1 + Real.exp (-x))), div_real 1 hp⟩

theorem exp_real {x : EReal} (h : x ≠ ⊤) : ∃ r : ℝ, 0 ≤ r ∧ Ideal.exp x = r := by
  induction x using EReal.rec with
  | bot => exact ⟨0, le_rfl, exp_bot⟩
  | top => exact absurd rfl h
  | coe x => exact ⟨Real.exp x, (Real.exp_pos x).le, rfl⟩

theorem sub_max_ne_top (a b : EReal) : a - max a b ≠ ⊤ := by
  have h : a - max a b ≤ 0 := EReal.sub_nonpos.mpr (le_max_left a b)
  exact ne_top_of_le_ne_top (by simp) h

/-- The softmax's entry is a real, or `⊥` where it divides by zero. -/
theorem low_real (a b : EReal) : low a b = ⊥ ∨ ∃ r : ℝ, low a b = r := by
  obtain ⟨p, hp, e⟩ := exp_real (sub_max_ne_top a b)
  obtain ⟨q, hq, e'⟩ := exp_real (by rw [max_comm]; exact sub_max_ne_top b a : b - max a b ≠ ⊤)
  unfold low
  rw [e, e', ← EReal.coe_add]
  by_cases h : p + q = 0
  · left
    have : p = 0 := by linarith
    rw [h, this]; simp [Ideal.div]
  · right; exact ⟨p * (1 / (p + q)), div_real p h⟩

theorem fg_ne_top (a b x : EReal) : fg (low a b) x ≠ ⊤ := by
  obtain ⟨s, hs⟩ := sg_real x
  unfold fg
  rw [hs]
  rcases low_real a b with h | ⟨r, h⟩
  · rw [h, EReal.bot_add]; exact bot_ne_top
  · rw [h]
    have : (r : EReal) + (1 - r) * s = ((r + (1 - r) * s : ℝ) : EReal) := by push_cast; rfl
    rw [this]; exact EReal.coe_ne_top _

theorem log_ne_top {x : EReal} (h : x ≠ ⊤) : Ideal.log x ≠ ⊤ := by
  induction x using EReal.rec with
  | bot => exact bot_ne_top
  | top => exact absurd rfl h
  | coe x =>
    show (if x ≤ 0 then (⊥ : EReal) else ((Real.log x : ℝ) : EReal)) ≠ ⊤
    split
    · exact bot_ne_top
    · exact EReal.coe_ne_top _

/-- Where `x` is not `⊤`, adding `x - x` to it changes nothing. -/
theorem add_sub_self {x : EReal} (h : x ≠ ⊤) : x + (x - x) = x := by
  induction x using EReal.rec with
  | bot => simp
  | top => exact absurd rfl h
  | coe x => rw [← EReal.coe_sub, ← EReal.coe_add]; simp

theorem lg_ne_top (a b : Fin 512 → EReal) (X : Fin 4096 → Fin 512 → EReal) (h : Fin 4) (n : ℕ) (t : Fin 64) (k : Fin 128) :
    lg (gate a b X h n) t k ≠ ⊤ := log_ne_top (fg_ne_top _ _ _)

end Cert.Hgrn

end
-- ==== Proof.HgrnVec.lean ====
/- The vector operations of the kernel's body on one head's chunk, named, and what each computes. -/
module

public import proofs.«01_k».proof.Proof.Gen.Kernel19Ideal
public import proofs.«01_k».proof.Proof.Gen.Kernel19Ideal.Skeleton
public import proofs.«01_k».proof.Proof.HgrnRows
public import proofs.«01_k».proof.Proof.Reals
public import Idealize.ShloMosaic.Lib.Pipeline.Value
public import Idealize.ShloMosaic.Lib.Pipeline.ValueKit
public import Idealize.ShloMosaic.Lib.Pointwise
public import Idealize.ShloMosaic.Lib.WordCmp
public import Idealize.ShloMosaic.Lib.Pipeline.ReadBack
public import Idealize.ShloMosaic.PureOps.Ideal

@[expose] public section

set_option maxRecDepth 16384

noncomputable section

open Idealize.ShloMosaic Idealize.ShloMosaic.TcCoe Idealize.SL.Sem
open scoped BigOperators

namespace Cert.Hgrn

open Cert.Kernel19Ideal Cert.Kernel19Ideal.Gen

/-! The operations, in the body's order. -/

abbrev one : Ideal .f32 := Scalar.ofBits .f32 0x3F800000#32
abbrev zero : Ideal .f32 := Scalar.ofBits .f32 0x00000000#32

/-- The logistic function of a block. -/
def sgV (x : FVec Ideal S64x128 .f32) : FVec Ideal S64x128 .f32 :=
  divf (broadcast S64x128 one) (addf (broadcast S64x128 one) (exp (subf (broadcast S64x128 zero) x)))

/-- A block times its logistic. -/
def siluV (x : FVec Ideal S64x128 .f32) : FVec Ideal S64x128 .f32 := mulf x (sgV x)

/-- The softmax's row. -/
def lowV (a b : FVec Ideal S1x128 .f32) : FVec Ideal S1x128 .f32 :=
  divf (exp (subf a (maximumf a b))) (addf (exp (subf a (maximumf a b))) (exp (subf b (maximumf a b))))

/-- The forget gates. -/
def gateV (l : FVec Ideal S1x128 .f32) (f : FVec Ideal S64x128 .f32) : FVec Ideal S64x128 .f32 :=
  addf (broadcastTo S64x128 l broadcasts_S1x128_S64x128)
    (mulf (broadcastTo S64x128 (subf (broadcast S1x128 one) l) broadcasts_S1x128_S64x128) (sgV f))

/-- Where the second token is not after the first. -/
def leV : IVec S64x64 1 := cmpi .sle (iota .tc S64x64 32 [1] iota_S64x64_d1_w32) (iota .tc S64x64 32 [0] iota_S64x64_d0_w32)

/-- The same as zeros and ones. -/
def triV : FVec Ideal S64x64 .bf16 := truncf .bf16 (sitofp .f32 (extui 32 leV natLt_1_32) : FVec Ideal S64x64 .f32) bitsLt_bf16_f32

/-- The sums up to each token: a product with the zeros and ones, in two pieces. -/
def cumV (x : FVec Ideal S64x128 .f32) : FVec Ideal S64x128 .f32 :=
  addf (matmul dot_S64x64_S64x128_S64x128_1_0_0_1_n_n none triV (truncf .bf16 x bitsLt_bf16_f32) (constant S64x128 .f32 0x00000000#32))
    (matmul dot_S64x64_S64x128_S64x128_1_0_0_1_n_n none triV
      (truncf .bf16 (subf x (extf .f32 (truncf .bf16 x bitsLt_bf16_f32) bitsLt_bf16_f32)) bitsLt_bf16_f32) (constant S64x128 .f32 0x00000000#32))

/-- The sum up to token 32. -/
def midV (x : FVec Ideal S64x128 .f32) : FVec Ideal S1x128 .f32 :=
  shapeCast S1x128 (multiReduction .add [0] S128
    (select (broadcastTo S64x128 (shapeCast S64x1 (cmpi .sle (iota .tc S64x1 32 [0] iota_S64x1_d0_w32) (broadcast S64x1 32#32)) shapeCasts_S64x1_S64x1)
      broadcasts_S64x1_S64x128) x (broadcast S64x128 zero)) 0x00000000#32 reduces_S64x128_S128 (.inl rfl) rfl) shapeCasts_S128_S1x128

/-- The sum over the chunk. -/
def totV (x : FVec Ideal S64x128 .f32) : FVec Ideal S1x128 .f32 :=
  shapeCast S1x128 (multiReduction .add [0] S128 x 0x00000000#32 reduces_S64x128_S128 (.inl rfl) rfl) shapeCasts_S128_S1x128

/-- The scores. -/
def scoreV (q f : FVec Ideal S64x128 .f32) : FVec Ideal S64x64 .f32 :=
  select leV
    (matmul dot_S64x128_S64x128_S64x64_1_1_0_0_n_n none
      (truncf .bf16 (mulf q (exp (subf (cumV (log f)) (broadcastTo S64x128 (midV (log f)) broadcasts_S1x128_S64x128)))) bitsLt_bf16_f32)
      (truncf .bf16 (mulf (subf (broadcast S64x128 one) f) (exp (subf (broadcastTo S64x128 (midV (log f)) broadcasts_S1x128_S64x128) (cumV (log f))))) bitsLt_bf16_f32)
      (constant S64x64 .f32 0x00000000#32))
    (broadcast S64x64 zero)

/-- The chunk's output before the norm; the state has a row for each channel of the value. -/
def attV (q f v : FVec Ideal S64x128 .f32) (s : FVec Ideal S128x128 .f32) : FVec Ideal S64x128 .f32 :=
  addf (matmul dot_S64x64_S64x128_S64x128_1_0_0_1_n_n none (truncf .bf16 (scoreV q f) bitsLt_bf16_f32) (truncf .bf16 v bitsLt_bf16_f32) (constant S64x128 .f32 0x00000000#32))
    (matmul dot_S64x128_S128x128_S64x128_1_1_0_0_n_n none (truncf .bf16 (mulf q (exp (cumV (log f)))) bitsLt_bf16_f32) (truncf .bf16 s bitsLt_bf16_f32)
      (constant S64x128 .f32 0x00000000#32))

/-- The state after the chunk. -/
def nextV (f v : FVec Ideal S64x128 .f32) (s : FVec Ideal S128x128 .f32) : FVec Ideal S128x128 .f32 :=
  addf (mulf s (broadcastTo S128x128 (exp (totV (log f))) broadcasts_S1x128_S128x128))
    (matmul dot_S64x128_S64x128_S128x128_0_0_1_1_n_n none (truncf .bf16 v bitsLt_bf16_f32)
      (truncf .bf16 (mulf (subf (broadcast S64x128 one) f) (exp (subf (broadcastTo S64x128 (totV (log f)) broadcasts_S1x128_S64x128) (cumV (log f))))) bitsLt_bf16_f32)
      (constant S128x128 .f32 0x00000000#32))

/-- The norm, its weight and the gate. -/
def normV (o g : FVec Ideal S64x128 .f32) (w : FVec Ideal S1x128 .f32) : FVec Ideal S64x128 .f32 :=
  mulf (mulf (mulf o (broadcastTo S64x128 (rsqrt (addf (divf
      (shapeCast S64x1 (multiReduction .add [1] S64 (mulf o o) 0x00000000#32 reduces_S64x128_S64 (.inl rfl) rfl) shapeCasts_S64_S64x1)
      (broadcast S64x1 (Scalar.ofBits .f32 0x43000000#32))) (broadcast S64x1 (Scalar.ofBits .f32 0x358637BD#32)))) broadcasts_S64x1_S64x128))
    (broadcastTo S64x128 w broadcasts_S1x128_S64x128)) (siluV g)

/-! What they compute. -/

/-- An array of extended reals of shape `a × b`. -/
def up {a b : ℕ} {t : FTy} (X : Fin a → Fin b → EReal) : FVec Ideal ⟨2, ![a, b]⟩ t := fun i => X (i 0) (i 1)

/-- A row of extended reals. -/
def upr {b : ℕ} {t : FTy} (x : Fin b → EReal) : FVec Ideal ⟨2, ![1, b]⟩ t := fun i => x (i 1)

/-- A state as the kernel keeps it: a row for each channel of the value. -/
def ups {t : FTy} (S : State) : FVec Ideal S128x128 t := fun i => S (i 1) (i 0)

theorem one_eq : (one : EReal) = 1 := Reals.ofBits_one.trans EReal.coe_one

theorem zero_eq : (zero : EReal) = 0 := Reals.ofBits_zero.trans EReal.coe_zero

theorem sgV_up (X : Chunk) : sgV (up X) = up fun t k => sg (X t k) := by
  funext i
  show Ideal.div one (one + Ideal.exp (zero - X (i 0) (i 1))) = sg (X (i 0) (i 1))
  rw [one_eq, zero_eq, zero_sub]; rfl

theorem siluV_up (X : Chunk) : siluV (up X) = up fun t k => X t k * sg (X t k) := by
  unfold siluV; rw [sgV_up]; rfl

theorem lowV_up (a b : Fin 128 → EReal) : lowV (upr a) (upr b) = upr fun k => low (a k) (b k) := rfl

theorem gateV_up (l : Fin 128 → EReal) (X : Chunk) : gateV (upr l) (up X) = up fun t k => fg (l k) (X t k) := by
  unfold gateV
  rw [sgV_up]
  funext i
  pointwise [up, upr]
  rfl

theorem leV_apply (i : S64x64.Idx) : leV i = BitVec.ofBool (decide ((i 1).val ≤ (i 0).val)) := by
  unfold leV
  pointwise []
  have h0 : (i 0).val < 64 := (i 0).isLt
  have h1 : (i 1).val < 64 := (i 1).isLt
  exact WordCmp.cmpi_sle_ofNat (by omega) (by omega)

theorem select_leV (x y : FVec Ideal S64x64 .f32) (i : S64x64.Idx) :
    select leV x y i = if (i 1).val ≤ (i 0).val then x i else y i := by
  show (if leV i = 1#1 then x i else y i) = _
  rw [leV_apply]
  by_cases h : (i 1).val ≤ (i 0).val <;> simp [h]

theorem triV_apply (i : S64x64.Idx) : (triV i : EReal) = if (i 1).val ≤ (i 0).val then 1 else 0 := by
  unfold triV
  pointwise []
  rw [leV_apply]
  by_cases h : (i 1).val ≤ (i 0).val
  · rw [if_pos h, decide_eq_true h]
    show (((1 : ℤ) : ℝ) : EReal) = 1
    simp
  · rw [if_neg h, decide_eq_false h]
    show (((0 : ℤ) : ℝ) : EReal) = 0
    simp

/-- Sums up to each token. -/
def sumTo (x : Chunk) : Chunk := fun t k => ∑ s : Fin 64, if s ≤ t then x s k else 0

theorem tri_add {a : EReal} (p : Prop) [Decidable p] (h : a ≠ ⊤) :
    (if p then (1 : EReal) else 0) * a + (if p then 1 else 0) * (a - a) = if p then a else 0 := by
  by_cases hp : p
  · rw [if_pos hp, if_pos hp, one_mul, one_mul, add_sub_self h]
  · rw [if_neg hp, if_neg hp, zero_mul, zero_mul, add_zero]

theorem cumV_up (x : Chunk) (hx : ∀ s k, x s k ≠ ⊤) : cumV (up x) = up (sumTo x) := by
  funext i
  unfold cumV
  pointwise [up]
  rw [← Finset.sum_add_distrib]
  refine Finset.sum_congr rfl fun s _ => ?_
  rw [triV_apply]
  exact tri_add _ (hx s (i 1))

theorem midV_up (x : Chunk) : midV (up x) = upr fun k => ∑ s : Fin 64, if s ≤ (32 : Fin 64) then x s k else 0 := by
  funext i
  unfold midV
  pointwise [up, upr]
  refine Finset.sum_congr rfl fun s _ => ?_
  rw [WordCmp.cmpi_sle_ofNat (by omega) (by omega)]
  by_cases h : s ≤ (32 : Fin 64)
  · rw [if_pos h, decide_eq_true (show s.val ≤ 32 from h)]; rfl
  · rw [if_neg h, decide_eq_false (show ¬s.val ≤ 32 from h)]; rfl

theorem totV_up (x : Chunk) : totV (up x) = upr fun k => ∑ s : Fin 64, x s k := by
  funext i
  unfold totV
  pointwise [up, upr]

theorem scoreV_up (Q F : Chunk) (h : ∀ s k, lg F s k ≠ ⊤) : scoreV (up Q) (up F) = up (score Q F) := by
  unfold scoreV
  rw [show log (up F) = up (t := .f32) (lg F) from rfl, cumV_up _ h, midV_up]
  funext i
  rw [select_leV]
  pointwise [up, upr]
  rfl

theorem attV_up (Q F V : Chunk) (S : State) (h : ∀ s k, lg F s k ≠ ⊤) :
    attV (up Q) (up F) (up V) (ups S) = up (att Q F V S) := by
  unfold attV
  rw [scoreV_up Q F h, show log (up F) = up (t := .f32) (lg F) from rfl, cumV_up _ h]
  funext i
  pointwise [up, ups]
  rfl

theorem nextV_up (F V : Chunk) (S : State) (h : ∀ s k, lg F s k ≠ ⊤) :
    nextV (up F) (up V) (ups S) = ups (next F V S) := by
  unfold nextV
  rw [show log (up F) = up (t := .f32) (lg F) from rfl, cumV_up _ h, totV_up]
  funext i
  pointwise [up, ups, upr]
  refine congrArg₂ (· + ·) (mul_comm _ _) (Finset.sum_congr rfl fun s _ => mul_comm _ _)

theorem normV_up (o G : Chunk) (w : Fin 128 → EReal) : normV (up o) (up G) (upr w) = up (normed o G w) := by
  unfold normV
  rw [siluV_up]
  funext i
  pointwise [up, upr]
  rfl

end Cert.Hgrn

end
-- ==== Proof.HgrnKer.lean ====
/- What the kernel's body leaves at a grid point, in terms of the named vector operations: eight chunks of four
   heads, and the state handed on. -/
module

public import proofs.«01_k».proof.Proof.Gen.Kernel19Ideal.Value
public import proofs.«01_k».proof.Proof.HgrnVec

@[expose] public section

set_option maxRecDepth 16384

noncomputable section

open Idealize.ShloMosaic Idealize.ShloMosaic.TcCoe Idealize.ShloMosaic.Tactic Idealize.SL.Sem
open scoped BigOperators

namespace Cert.Hgrn

open Cert.Kernel19Ideal Cert.Kernel19Ideal.Gen

variable (x0 x1 x2 x3 : Vec Ideal S512x512 .f32) (x4 x5 x6 : Vec Ideal S1x512 .f32) (s : Vec Ideal S4x128x128 .f32)

theorem inbB (j : Fin 8) (h : Fin 4) : ∀ a, (![64 * j.val, 128 * h.val] : Fin 2 → ℕ) a + (![64, 128] : Fin 2 → ℕ) a ≤ S512x512.size a := by
  revert j h; decide

theorem inbR (h : Fin 4) : ∀ a, (![0, 128 * h.val] : Fin 2 → ℕ) a + (![1, 128] : Fin 2 → ℕ) a ≤ S1x512.size a := by
  revert h; decide

theorem inbS (h : Fin 4) : ∀ a, (![h.val, 0, 0] : Fin 3 → ℕ) a + (![1, 128, 128] : Fin 3 → ℕ) a ≤ S4x128x128.size a := by
  revert h; decide

/-- Where head `h`'s chunk `j` lies in a point's block. -/
abbrev rectB (j : Fin 8) (h : Fin 4) : Rect S512x512 := Rect.unit ![64 * j.val, 128 * h.val] ![64, 128] (inbB j h)

/-- Where head `h` lies in a row. -/
abbrev rectR (h : Fin 4) : Rect S1x512 := Rect.unit ![0, 128 * h.val] ![1, 128] (inbR h)

/-- Where head `h` lies in the states. -/
abbrev rectS (h : Fin 4) : Rect S4x128x128 := Rect.unit ![h.val, 0, 0] ![1, 128, 128] (inbS h)

def ldB (x : Vec Ideal S512x512 .f32) (j : Fin 8) (h : Fin 4) : FVec Ideal S64x128 .f32 := View.ld x (rectB j h)

def ldR (x : Vec Ideal S1x512 .f32) (h : Fin 4) : FVec Ideal S1x128 .f32 := View.ld x (rectR h)

def ldS (s : Vec Ideal S4x128x128 .f32) (h : Fin 4) : FVec Ideal S128x128 .f32 :=
  shapeCast S128x128 (View.ld s (rectS h) : FVec Ideal S1x128x128 .f32) shapeCasts_S1x128x128_S128x128

/-- A chunk's forget gates. -/
def gateB (j : Fin 8) (h : Fin 4) : FVec Ideal S64x128 .f32 := gateV (lowV (ldR x4 h) (ldR x5 h)) (ldB x1 j h)

/-- Head `h`'s state before the point's chunk `n`. -/
def stateB (h : Fin 4) : (n : ℕ) → n ≤ 8 → FVec Ideal S128x128 .f32
  | 0, _ => ldS s h
  | n + 1, hn => nextV (gateB x1 x4 x5 ⟨n, hn⟩ h) (ldB x2 ⟨n, hn⟩ h) (stateB h n (Nat.le_of_succ_le hn))

/-- The output of head `h`'s chunk `j`. -/
def outB (j : Fin 8) (h : Fin 4) : FVec Ideal S64x128 .f32 :=
  normV (attV (siluV (ldB x0 j h)) (gateB x1 x4 x5 j h) (ldB x2 j h) (stateB x1 x2 x4 x5 s h j.val j.isLt.le)) (ldB x3 j h) (ldR x6 h)

/-- The output's stores, the last first. -/
def stores7 : List (View.Piece (Elt Ideal) S512x512 .f32) :=
  ([3, 2, 1, 0] : List (Fin 4)).flatMap fun h => ([7, 6, 5, 4, 3, 2, 1, 0] : List (Fin 8)).map fun j =>
    ⟨rectB j h, outB x0 x1 x2 x3 x4 x5 x6 s j h⟩

/-- The states' stores, the last first. -/
def storesS : List (View.Piece (Elt Ideal) S4x128x128 .f32) :=
  ([3, 2, 1, 0] : List (Fin 4)).map fun h =>
    ⟨rectS h, shapeCast S1x128x128 (stateB x1 x2 x4 x5 s h 8 le_rfl) shapeCasts_S128x128_S1x128x128⟩

variable (m : (ℓ : Loc nD τ sig) → Buf (Elt Ideal) ℓ)

/-! At the first point the states are set to zero; at a later one they are what the point before left. -/

set_option maxHeartbeats 2000000 in
theorem out_A (c : Dev nD) (t : Fin cfg0.N) (h0 : t.val % 8 = 0) :
    (outsAt0 m c t.val t.isLt).1 = View.canon (stores7 (iblk m c 0 t) (iblk m c 1 t) (iblk m c 2 t) (iblk m c 3 t) (iblk m c 4 t) (iblk m c 5 t) (iblk m c 6 t)
      (k0_pay2 (F := Ideal))) := by
  rw [outsAt0_A m c t h0]
  dsimp only
  unfold out0_A_7
  frame_out
  simp (disch := decide) only [View.readCov_fill]
  sl_kernel_rfl

set_option maxHeartbeats 2000000 in
theorem before_A (c : Dev nD) (t : Fin cfg0.N) (h0 : t.val % 8 = 0) :
    (outsAt0 m c t.val t.isLt).2.1 = k0_pay3 (F := Ideal) (k0_pay2 (F := Ideal)) := by
  rw [outsAt0_A m c t h0]
  dsimp only
  unfold out0_A_8
  frame_out

set_option maxHeartbeats 2000000 in
theorem state_A (c : Dev nD) (t : Fin cfg0.N) (h0 : t.val % 8 = 0) :
    (outsAt0 m c t.val t.isLt).2.2 = View.canon (storesS (iblk m c 1 t) (iblk m c 2 t) (iblk m c 4 t) (iblk m c 5 t)
      (k0_pay2 (F := Ideal))
      ++ [⟨Rect.unit ![0, 0, 0] S4x128x128.size inb_S4x128x128_S4x128x128_0_0_0, k0_pay2 (F := Ideal)⟩]) := by
  rw [outsAt0_A m c t h0]
  dsimp only
  unfold sout0_A_0
  frame_out
  simp (disch := decide) only [View.readCov_fill]
  sl_kernel_rfl

set_option maxHeartbeats 2000000 in
theorem out_B (c : Dev nD) (t : Fin cfg0.N) (h0 : ¬t.val % 8 = 0) :
    (outsAt0 m c t.val t.isLt).1 = View.canon (stores7 (iblk m c 0 t) (iblk m c 1 t) (iblk m c 2 t) (iblk m c 3 t) (iblk m c 4 t) (iblk m c 5 t) (iblk m c 6 t)
      (outsAt0 m c (t.val - 1) (by omega)).2.2) := by
  rw [outsAt0_B m c t h0]
  dsimp only
  unfold out0_B_7
  frame_out
  simp only [read_unread_whole]
  sl_kernel_rfl

set_option maxHeartbeats 2000000 in
theorem before_B (c : Dev nD) (t : Fin cfg0.N) (h0 : ¬t.val % 8 = 0) :
    (outsAt0 m c t.val t.isLt).2.1 = k0_pay3 (F := Ideal) (outsAt0 m c (t.val - 1) (by omega)).2.2 := by
  rw [outsAt0_B m c t h0]
  dsimp only
  unfold out0_B_8
  frame_out
  simp only [read_unread_whole]

set_option maxHeartbeats 2000000 in
theorem state_B (c : Dev nD) (t : Fin cfg0.N) (h0 : ¬t.val % 8 = 0) :
    (outsAt0 m c t.val t.isLt).2.2 = View.canon (storesS (iblk m c 1 t) (iblk m c 2 t) (iblk m c 4 t) (iblk m c 5 t)
      (outsAt0 m c (t.val - 1) (by omega)).2.2) := by
  rw [outsAt0_B m c t h0]
  dsimp only
  unfold sout0_B_0
  frame_out
  simp only [read_unread_whole]
  sl_kernel_rfl

end Cert.Hgrn

end
-- ==== Proof.HgrnPoint.lean ====
/- The run of the kernel's grid: the states after each point, and the two results. -/
module

public import proofs.«01_k».proof.Proof.HgrnKer
public import Idealize.ShloMosaic.Lib.Pipeline.CanonAppend

@[expose] public section

set_option maxRecDepth 16384

noncomputable section

open Idealize.ShloMosaic Idealize.ShloMosaic.TcCoe Idealize.ShloMosaic.Tactic Idealize.SL.Sem
open scoped BigOperators

namespace Cert.Hgrn

open Cert.Kernel19Ideal Cert.Kernel19Ideal.Gen

/-- The four blocks of 512 columns of an array of 2048: query, forget gate, value and output gate. -/
def part (P : Fin 4096 → Fin 2048 → EReal) (n : Fin 4) : Fin 4096 → Fin 512 → EReal := fun p q => P p ⟨512 * n.val + q.val, by omega⟩

/-- The four heads' states as the kernel keeps them. -/
def upS (S : Fin 4 → State) : Vec Ideal S4x128x128 .f32 := fun i => S (i 0) (i 2) (i 1)

/-- One head's state with a leading axis of one. -/
def ups1 (S : State) : FVec Ideal S1x128x128 .f32 := fun i => S (i 2) (i 1)

theorem ups1_cast (S : State) : shapeCast S128x128 (ups1 S) shapeCasts_S1x128x128_S128x128 = ups S := by
  funext i
  pointwise [ups1, ups]

theorem cast_ups1 (S : State) : shapeCast S1x128x128 (ups (t := .f32) S) shapeCasts_S128x128_S1x128x128 = ups1 S := by
  funext i
  pointwise [ups1, ups]

/-- An entry of the states inside head `h`'s rectangle. -/
theorem upS_emb (S : Fin 4 → State) (h : Fin 4) (x : (rectS h).shape.Idx) : upS S ((rectS h).emb x) = ups1 (S h) x := by
  have h0 : (x 0).val < 1 := (x 0).isLt
  have e0 : ((rectS h).emb x) 0 = h := Fin.ext (show h.val + 1 * (x 0).val = h.val by omega)
  have e1 : ((rectS h).emb x) 1 = x 1 := Fin.ext (show 0 + 1 * (x 1).val = (x 1).val by omega)
  have e2 : ((rectS h).emb x) 2 = x 2 := Fin.ext (show 0 + 1 * (x 2).val = (x 2).val by omega)
  unfold upS ups1
  rw [e0, e1, e2]

theorem ldS_upS (S : Fin 4 → State) (h : Fin 4) : ldS (upS S) h = ups (S h) := by
  unfold ldS
  rw [show (View.ld (upS S) (rectS h) : FVec Ideal S1x128x128 .f32) = ups1 (S h) from funext fun x => upS_emb S h x, ups1_cast]

theorem zero_upS : (k0_pay2 (F := Ideal) : Vec Ideal S4x128x128 .f32) = upS fun _ _ _ => 0 := by
  funext i
  pointwise [k0_pay2, upS]

theorem before_upS (S : Fin 4 → State) : (k0_pay3 (F := Ideal) (upS S) : Vec Ideal S1x4x128x128 .f32) = fun i => S (i 1) (i 3) (i 2) := by
  funext i
  pointwise [k0_pay3, upS]

/-! A point's blocks. -/

/-- The array's row at row `p` of block `t`. -/
def rowOf (t : Fin 8) (p : Fin 512) : Fin 4096 := ⟨512 * t.val + p.val, by omega⟩

theorem ldB_up (X : Fin 4096 → Fin 512 → EReal) (t : Fin 8) (j : Fin 8) (h : Fin 4) :
    ldB (up (t := .f32) fun p q => X (rowOf t p) q) j h = up (chunk X h (8 * t.val + j.val)) := by
  funext i
  have h0 : (i 0).val < 64 := (i 0).isLt
  refine congrArg₂ X (Fin.ext ?_) (Fin.ext ?_)
  · show 512 * t.val + (64 * j.val + 1 * (i 0).val) = (64 * (8 * t.val + j.val) + (i 0).val) % 4096
    omega
  · show 128 * h.val + 1 * (i 1).val = 128 * h.val + (i 1).val
    omega

theorem ldR_up (x : Fin 512 → EReal) (h : Fin 4) : ldR (upr (t := .f32) x) h = upr (head x h) := by
  funext i
  refine congrArg x (Fin.ext ?_)
  show 128 * h.val + 1 * (i 1).val = 128 * h.val + (i 1).val
  omega

variable (a b w : Fin 512 → EReal) (P X Y G : Fin 4096 → Fin 512 → EReal) (t : Fin 8)

abbrev blk (X : Fin 4096 → Fin 512 → EReal) (t : Fin 8) : Vec Ideal S512x512 .f32 := up (t := .f32) fun p q => X (rowOf t p) q
abbrev row (x : Fin 512 → EReal) : Vec Ideal S1x512 .f32 := upr (t := .f32) x

theorem gateB_up (j : Fin 8) (h : Fin 4) : gateB (blk X t) (row a) (row b) j h = up (gate a b X h (8 * t.val + j.val)) := by
  unfold gateB
  rw [ldB_up, ldR_up, ldR_up, lowV_up, gateV_up]; rfl

/-- The states before the chunks of point `t`. -/
theorem stateB_up (h : Fin 4) : ∀ (n : ℕ) (hn : n ≤ 8),
    stateB (blk X t) (blk Y t) (row a) (row b) (upS fun h => state a b X Y h (8 * t.val)) h n hn
      = ups (state a b X Y h (8 * t.val + n))
  | 0, _ => ldS_upS _ _
  | n + 1, hn => by
    unfold stateB
    rw [stateB_up h n (Nat.le_of_succ_le hn), gateB_up, ldB_up, nextV_up _ _ _ (fun s k => lg_ne_top a b X h _ s k)]
    rfl

theorem outB_up (j : Fin 8) (h : Fin 4) :
    outB (blk P t) (blk X t) (blk Y t) (blk G t) (row a) (row b) (row w) (upS fun h => state a b X Y h (8 * t.val)) j h
      = up (result a b w P X Y G h (8 * t.val + j.val)) := by
  unfold outB
  rw [stateB_up, gateB_up, ldB_up, ldB_up, ldB_up, siluV_up, ldR_up, attV_up _ _ _ _ (fun s k => lg_ne_top a b X h _ s k), normV_up]
  rfl

/-! The stores of a point put together. -/

theorem storesS_up (L : List (View.Piece (Elt Ideal) S4x128x128 .f32)) :
    View.canon (storesS (blk X t) (blk Y t) (row a) (row b) (upS fun h => state a b X Y h (8 * t.val)) ++ L)
      = upS fun h => state a b X Y h (8 * (t.val + 1)) := by
  funext y
  refine View.canon_append_of_pieces _ L _ ?_ y (View.cover_of_tiledL _ ![1, 128, 128] (by sl_kernel_rfl) y)
  intro p hp
  obtain ⟨h, -, rfl⟩ := List.mem_map.mp hp
  intro x
  show shapeCast S1x128x128 (stateB _ _ _ _ _ h 8 le_rfl) shapeCasts_S128x128_S1x128x128 x = _
  rw [stateB_up, cast_ups1]
  exact (upS_emb (fun h => state a b X Y h (8 * (t.val + 1))) h x).symm

/-- The rows of the output, from the chunks' results. -/
def rows (R : Fin 4 → ℕ → Chunk) : Fin 4096 → Fin 512 → EReal := fun p q =>
  R ⟨q.val / 128, by omega⟩ (p.val / 64) ⟨p.val % 64, Nat.mod_lt _ (by decide)⟩ ⟨q.val % 128, Nat.mod_lt _ (by decide)⟩

theorem rows_at (R : Fin 4 → ℕ → Chunk) (h : Fin 4) (n : ℕ) (s : Fin 64) (k : Fin 128) (p : Fin 4096) (q : Fin 512)
    (hp : p.val = 64 * n + s.val) (hq : q.val = 128 * h.val + k.val) : rows R p q = R h n s k := by
  have e1 : (⟨q.val / 128, by omega⟩ : Fin 4) = h := Fin.ext (show q.val / 128 = h.val by omega)
  have e2 : p.val / 64 = n := by omega
  have e3 : (⟨p.val % 64, Nat.mod_lt _ (by decide)⟩ : Fin 64) = s := Fin.ext (show p.val % 64 = s.val by omega)
  have e4 : (⟨q.val % 128, Nat.mod_lt _ (by decide)⟩ : Fin 128) = k := Fin.ext (show q.val % 128 = k.val by omega)
  unfold rows
  rw [e1, e2, e3, e4]

theorem stores7_up :
    View.canon (stores7 (blk P t) (blk X t) (blk Y t) (blk G t) (row a) (row b) (row w) (upS fun h => state a b X Y h (8 * t.val)))
      = blk (rows (result a b w P X Y G)) t := by
  funext y
  refine View.canon_apply_of_pieces _ _ ?_ y (View.cover_of_tiledL _ ![64, 128] (by sl_kernel_rfl) y)
  intro p hp
  obtain ⟨h, -, hp⟩ := List.mem_flatMap.mp hp
  obtain ⟨j, -, rfl⟩ := List.mem_map.mp hp
  intro x
  show outB _ _ _ _ _ _ _ _ j h x = _
  rw [outB_up]
  refine (rows_at _ h (8 * t.val + j.val) (x 0) (x 1) (rowOf t (((rectB j h).emb x) 0)) (((rectB j h).emb x) 1) ?_ ?_).symm
  · show 512 * t.val + (64 * j.val + 1 * (x 0).val) = 64 * (8 * t.val + j.val) + (x 0).val
    omega
  · show 128 * h.val + 1 * (x 1).val = 128 * h.val + (x 1).val
    omega

/-- The states before each block of eight chunks. -/
def starts (S : Fin 4 → ℕ → State) : Vec Ideal S8x4x128x128 .f32 := fun i => S (i 1) (8 * (i 0).val) (i 3) (i 2)

/-! The run. -/

variable (m : (ℓ : Loc nD τ sig) → Buf (Elt Ideal) ℓ) (c : Dev nD) (A : Fin 4096 → Fin 2048 → EReal)

theorem idx : ∀ t : Fin cfg0.N, win0_0.index t = ![t.val, 0] ∧ win0_1.index t = ![t.val, 1] ∧ win0_2.index t = ![t.val, 2]
    ∧ win0_3.index t = ![t.val, 3] ∧ win0_4.index t = ![0, 0] ∧ win0_5.index t = ![0, 0] ∧ win0_6.index t = ![0, 0]
    ∧ win0_7.index t = ![t.val, 0] ∧ win0_8.index t = ![t.val, 0, 0, 0] :=
  (by decide +kernel : ∀ t : Fin grid0.N, _)

/-- A grid point as one of eight. -/
def pt (t : Fin cfg0.N) : Fin 8 := ⟨t.val, by have := t.isLt; have e : cfg0.N = 8 := N_0; omega⟩

/-- The arguments, as arrays of extended reals. -/
structure Args : Prop where
  h0 : m ((c : Thread nD τ).loc main_arg0) = up (t := .f32) A
  h1 : m ((c : Thread nD τ).loc main_arg1) = upr (t := .f32) a
  h2 : m ((c : Thread nD τ).loc main_arg2) = upr (t := .f32) b
  h3 : m ((c : Thread nD τ).loc main_arg3) = upr (t := .f32) w

variable {m c A a b w} (h : Args a b w m c A)

include h

theorem iblk0 (t : Fin cfg0.N) : iblk m c 0 t = blk (part A 0) (pt t) := by
  funext i
  have e : (blk (part A 0) (pt t)) i
      = m ((c : Thread nD τ).loc main_arg0) (ix2 (rowOf (pt t) (i 0)) ⟨512 * 0 + (i 1).val, by have : (i 1).val < 512 := (i 1).isLt; omega⟩) := by
    rw [h.h0]; rfl
  rw [e]
  blk_point [iblk, V, idx t, rowOf, pt]

theorem iblk1 (t : Fin cfg0.N) : iblk m c 1 t = blk (part A 1) (pt t) := by
  funext i
  have e : (blk (part A 1) (pt t)) i
      = m ((c : Thread nD τ).loc main_arg0) (ix2 (rowOf (pt t) (i 0)) ⟨512 * 1 + (i 1).val, by have : (i 1).val < 512 := (i 1).isLt; omega⟩) := by
    rw [h.h0]; rfl
  rw [e]
  blk_point [iblk, V, idx t, rowOf, pt]

theorem iblk2 (t : Fin cfg0.N) : iblk m c 2 t = blk (part A 2) (pt t) := by
  funext i
  have e : (blk (part A 2) (pt t)) i
      = m ((c : Thread nD τ).loc main_arg0) (ix2 (rowOf (pt t) (i 0)) ⟨512 * 2 + (i 1).val, by have : (i 1).val < 512 := (i 1).isLt; omega⟩) := by
    rw [h.h0]; rfl
  rw [e]
  blk_point [iblk, V, idx t, rowOf, pt]

theorem iblk3 (t : Fin cfg0.N) : iblk m c 3 t = blk (part A 3) (pt t) := by
  funext i
  have e : (blk (part A 3) (pt t)) i
      = m ((c : Thread nD τ).loc main_arg0) (ix2 (rowOf (pt t) (i 0)) ⟨512 * 3 + (i 1).val, by have : (i 1).val < 512 := (i 1).isLt; omega⟩) := by
    rw [h.h0]; rfl
  rw [e]
  blk_point [iblk, V, idx t, rowOf, pt]

theorem iblk4 (t : Fin cfg0.N) : iblk m c 4 t = row a := by
  funext i
  have e : row a i = m ((c : Thread nD τ).loc main_arg1) (ix2 (i 0) (i 1)) := by rw [h.h1]; rfl
  rw [e]
  blk_point [iblk, V, idx t]

theorem iblk5 (t : Fin cfg0.N) : iblk m c 5 t = row b := by
  funext i
  have e : row b i = m ((c : Thread nD τ).loc main_arg2) (ix2 (i 0) (i 1)) := by rw [h.h2]; rfl
  rw [e]
  blk_point [iblk, V, idx t]

theorem iblk6 (t : Fin cfg0.N) : iblk m c 6 t = row w := by
  funext i
  have e : row w i = m ((c : Thread nD τ).loc main_arg3) (ix2 (i 0) (i 1)) := by rw [h.h3]; rfl
  rw [e]
  blk_point [iblk, V, idx t]

/-- The states after a grid point. -/
theorem state_run : ∀ (n : ℕ) (hn : n < cfg0.N), (outsAt0 m c n hn).2.2 = upS fun h => state a b (part A 1) (part A 2) h (8 * (n + 1))
  | 0, hn => by
    rw [state_A m c ⟨0, hn⟩ rfl, iblk1 h, iblk2 h, iblk4 h, iblk5 h, zero_upS]
    exact storesS_up a b (part A 1) (part A 2) (pt ⟨0, hn⟩) _
  | n + 1, hn => by
    have e : cfg0.N = 8 := N_0
    rw [state_B m c ⟨n + 1, hn⟩ (show ¬(n + 1) % 8 = 0 by omega), iblk1 h, iblk2 h, iblk4 h, iblk5 h]
    rw [show (outsAt0 m c (n + 1 - 1) (by omega)).2.2 = _ from state_run n (by omega)]
    have := storesS_up a b (part A 1) (part A 2) (pt ⟨n + 1, hn⟩) []
    rw [List.append_nil] at this
    exact this

/-- The states a grid point starts from. -/
theorem state_before (t : Fin cfg0.N) (h0 : ¬t.val % 8 = 0) :
    (outsAt0 m c (t.val - 1) (by omega)).2.2 = upS fun h => state a b (part A 1) (part A 2) h (8 * (pt t).val) := by
  have e : 8 * (t.val - 1 + 1) = 8 * (pt t).val := by show _ = 8 * t.val; omega
  rw [state_run h, e]

theorem out_run (t : Fin cfg0.N) : (outsAt0 m c t.val t.isLt).1 = blk (rows (result a b w (part A 0) (part A 1) (part A 2) (part A 3))) (pt t) := by
  by_cases h0 : t.val % 8 = 0
  · have e : t = ⟨0, by decide⟩ := Fin.ext (by have := t.isLt; have e : cfg0.N = 8 := N_0; show t.val = 0; omega)
    rw [out_A m c t h0, iblk0 h, iblk1 h, iblk2 h, iblk3 h, iblk4 h, iblk5 h, iblk6 h, zero_upS]
    subst e
    exact stores7_up a b w (part A 0) (part A 1) (part A 2) (part A 3) (pt ⟨0, by decide⟩)
  · rw [out_B m c t h0, iblk0 h, iblk1 h, iblk2 h, iblk3 h, iblk4 h, iblk5 h, iblk6 h, state_before h t h0]
    exact stores7_up a b w (part A 0) (part A 1) (part A 2) (part A 3) (pt t)

theorem before_run (t : Fin cfg0.N) : (outsAt0 m c t.val t.isLt).2.1 = fun i => state a b (part A 1) (part A 2) (i 1) (8 * t.val) (i 3) (i 2) := by
  by_cases h0 : t.val % 8 = 0
  · have e : t = ⟨0, by decide⟩ := Fin.ext (by have := t.isLt; have e : cfg0.N = 8 := N_0; show t.val = 0; omega)
    rw [before_A m c t h0, zero_upS, before_upS]
    subst e
    rfl
  · rw [before_B m c t h0, state_before h t h0, before_upS]
    rfl

/-- What the run leaves in the output's array. -/
theorem final_7 : (dats m 0 c).arrAt 7 (cfgs 0).N = up (t := .f32) (rows (result a b w (part A 0) (part A 1) (part A 2) (part A 3))) := by
  refine (dats m 0 c).arrAt_eq_of_covers 7 _ (by decide +kernel) fun t hf y' => ?_
  have e : up (t := .f32) (rows (result a b w (part A 0) (part A 1) (part A 2) (part A 3))) (((cfg0.win 7).blk t).view.emb y')
      = up (t := .f32) (rows (result a b w (part A 0) (part A 1) (part A 2) (part A 3))) (ix2 (rowOf (pt t) (y' 0)) (y' 1)) := by
    blk_point [idx t, rowOf, pt]
  blk_simp
  rw [after0_7, out_run h]
  exact e.symm

/-- What the run leaves in the array of the states before each block of eight chunks. -/
theorem final_8 : (dats m 0 c).arrAt 8 (cfgs 0).N
    = starts (state a b (part A 1) (part A 2)) := by
  refine (dats m 0 c).arrAt_eq_of_covers 8 _ (by decide +kernel) fun t hf y' => ?_
  have e : starts (state a b (part A 1) (part A 2)) (((cfg0.win 8).blk t).view.emb y')
      = starts (state a b (part A 1) (part A 2)) (ix4 (pt t) (y' 1) (y' 2) (y' 3)) := by
    blk_point [idx t, pt]
  blk_simp
  rw [after0_8, before_run h]
  exact e.symm

end Cert.Hgrn

end
-- ==== Proof.HgrnPre.lean ====
/- The reference's host operations before its loop, stretch by stretch, over the extended reals. -/
module

public import proofs.«01_k».proof.Proof.Gen.Reference19Ideal.Run
public import proofs.«01_k».proof.Proof.HgrnRows
public import proofs.«01_k».proof.Proof.Reals
public import Idealize.ShloMosaic.Lib.Pointwise
public import Idealize.ShloMosaic.Lib.WordCmp

@[expose] public section

set_option maxRecDepth 100000

noncomputable section

open Idealize.ShloMosaic Idealize.ShloMosaic.TcCoe Idealize.ShloMosaic.StableHlo

namespace Cert.HgrnRef

open Cert.Reference19Ideal Cert.Reference19Ideal.Gen Cert.Hgrn

/-- An array of tokens by channels with a leading axis of one. -/
def up3 (X : Fin 4096 → Fin 512 → EReal) : Vec Ideal S1x4096x512 .f32 := fun i => X (i 1) (i 2)

/-- An array of heads by chunks by tokens by channels with a leading axis of one. -/
def up5 (X : Fin 4 → Fin 64 → Chunk) : Vec Ideal S1x4x64x64x128 .f32 := fun i => X (i 1) (i 2) (i 3) (i 4)

/-- The four blocks of 512 columns of an array of 2048. -/
def part (P : Fin 4096 → Fin 2048 → EReal) (n : Fin 4) : Fin 4096 → Fin 512 → EReal := fun p q => P p ⟨512 * n.val + q.val, by omega⟩

variable (W : Valuation τ sig (Elt Ideal)) (A : Fin 4096 → Fin 2048 → EReal) (a b w : Fin 512 → EReal)

/-- The arguments, as arrays of extended reals. -/
structure Args : Prop where
  h0 : W (Proc.devRef .tc main_arg0) = fun i : S4096x2048.Idx => A (i 0) (i 1)
  h1 : W (Proc.devRef .tc main_arg1) = fun i : S1x512.Idx => a (i 1)
  h2 : W (Proc.devRef .tc main_arg2) = fun i : S1x512.Idx => b (i 1)

variable {W A a b w} (h : Args W A a b)

include h in
theorem v15 : after hostOps0 W (Proc.devRef .tc main_v15) = up3 (part A 0) := by
  after_results_simp
  rw [h.h0]
  funext (i : S1x4096x512.Idx)
  pointwise [up3, part]

include h in
theorem v17 : after hostOps0 W (Proc.devRef .tc main_v17) = up3 (part A 2) := by
  after_results_simp
  rw [h.h0]
  funext (i : S1x4096x512.Idx)
  pointwise [up3, part]

include h in
theorem v18 : after hostOps0 W (Proc.devRef .tc main_v18) = up3 (part A 3) := by
  after_results_simp
  rw [h.h0]
  funext (i : S1x4096x512.Idx)
  pointwise [up3, part]

include h in
theorem v32 : after hostOps0 W (Proc.devRef .tc main_v32) = up3 fun p q => fg (low (a q) (b q)) (part A 1 p q) := by
  after_results_simp
  rw [h.h0, h.h1, h.h2]
  funext (i : S1x4096x512.Idx)
  pointwise [up3, part, fg, low, sg]
  have hM : max (Ideal.ofBits FTy.f32 4286578688#32)
      (Finset.fold max (Ideal.ofBits FTy.f32 4286578688#32) (fun x : Fin 2 => if h : x.val < 1 then a (i 2) else b (i 2)) Finset.univ)
      = max (a (i 2)) (b (i 2)) := by
    rw [show Ideal.ofBits FTy.f32 4286578688#32 = ⊥ by simp [Ideal.ofBits, Ideal.ieee]]
    simp [Fin.univ_succ]
  rw [hM]
  simp only [Finset.sum_const, Finset.card_univ, Fintype.card_fin, one_smul]

theorem v33 {X : Fin 4096 → Fin 512 → EReal} (h : W (Proc.devRef .tc main_v15) = up3 X) :
    after hostOps0_1 W (Proc.devRef .tc main_v33) = up3 fun p q => X p q * sg (X p q) := by
  after_results_simp
  simp only [TRef.ofBuf, TRef.toBuf, cast_eq, id_eq]
  rw [h]
  funext (i : S1x4096x512.Idx)
  pointwise [up3, sg]

theorem v42 {X : Fin 4096 → Fin 512 → EReal} (h : W (Proc.devRef .tc main_v33) = up3 X) :
    after hostOps0_2 W (Proc.devRef .tc main_v42) = up5 fun h n => chunk X h n.val := by
  after_results_simp
  rw [h]
  funext (i : S1x4x64x64x128.Idx)
  pointwise [up3, up5, chunk]
  exact congrArg₂ X (Fin.ext (by simp; omega)) (Fin.ext (by simp; omega))

theorem v46 {X : Fin 4096 → Fin 512 → EReal} (h : W (Proc.devRef .tc main_v17) = up3 X) :
    after hostOps0_2 W (Proc.devRef .tc main_v46) = up5 fun h n => chunk X h n.val := by
  after_results_simp
  rw [h]
  funext (i : S1x4x64x64x128.Idx)
  pointwise [up3, up5, chunk]
  exact congrArg₂ X (Fin.ext (by simp; omega)) (Fin.ext (by simp; omega))

theorem v44 {X : Fin 4096 → Fin 512 → EReal} (h : W (Proc.devRef .tc main_v32) = up3 X) :
    after hostOps0_2 W (Proc.devRef .tc main_v44) = up5 fun h n t k => 1 - chunk X h n.val t k := by
  after_results_simp
  rw [h]
  funext (i : S1x4x64x64x128.Idx)
  pointwise [up3, up5, chunk]
  exact congrArg (1 - ·) (congrArg₂ X (Fin.ext (by simp; omega)) (Fin.ext (by simp; omega)))

theorem v48 {X : Fin 4096 → Fin 512 → EReal} (h : W (Proc.devRef .tc main_v32) = up3 X) :
    after hostOps0_2 W (Proc.devRef .tc main_v48) = up5 fun h n => lg (chunk X h n.val) := by
  after_results_simp
  rw [h]
  funext (i : S1x4x64x64x128.Idx)
  pointwise [up3, up5, chunk, lg]
  exact congrArg Ideal.log (congrArg₂ X (Fin.ext (by simp; omega)) (Fin.ext (by simp; omega)))

/-- A sum along a list, one term at a time. -/
theorem foldl_add {ι : Type} (g : ι → EReal) : ∀ (l : List ι) (v : EReal), l.foldl (fun r n => r + g n) v = v + (l.map g).sum
  | [], v => by simp
  | x :: l, v => by rw [List.foldl_cons, foldl_add g l, List.map_cons, List.sum_cons, add_assoc]

/-- The windows' positions: along the tokens only. -/
def axis : (⟨5, ![1, 1, 1, 64, 1]⟩ : Shape).Idx ≃ Fin 64 where
  toFun p := p 3
  invFun w := fun a => match a with
    | 0 => (show Fin 1 from 0)
    | 1 => (show Fin 1 from 0)
    | 2 => (show Fin 1 from 0)
    | 3 => w
    | 4 => (show Fin 1 from 0)
  left_inv p := by
    funext a
    match a with
    | 0 => exact Subsingleton.elim (α := Fin 1) _ _
    | 1 => exact Subsingleton.elim (α := Fin 1) _ _
    | 2 => exact Subsingleton.elim (α := Fin 1) _ _
    | 3 => rfl
    | 4 => exact Subsingleton.elim (α := Fin 1) _ _
  right_inv w := rfl

/-- A window that ends at token `t` sums what is not past it. -/
theorem shift (f : Fin 64 → EReal) (t : Fin 64) :
    (∑ w : Fin 64, if 63 ≤ t.val + w.val then f ⟨(t.val + w.val - 63) % 64, Nat.mod_lt _ (by decide)⟩ else 0) = ∑ s : Fin 64, if s ≤ t then f s else 0 := by
  rw [← Finset.sum_filter, ← Finset.sum_filter]
  refine Finset.sum_bij' (fun w _ => (⟨(t.val + w.val - 63) % 64, Nat.mod_lt _ (by decide)⟩ : Fin 64))
    (fun s _ => (⟨(s.val + 63 - t.val) % 64, Nat.mod_lt _ (by decide)⟩ : Fin 64)) ?_ ?_ ?_ ?_ ?_
  · intro w hw
    have hw := (Finset.mem_filter.mp hw).2
    exact Finset.mem_filter.mpr ⟨Finset.mem_univ _, show (t.val + w.val - 63) % 64 ≤ t.val by omega⟩
  · intro s hs
    have hs : s.val ≤ t.val := (Finset.mem_filter.mp hs).2
    exact Finset.mem_filter.mpr ⟨Finset.mem_univ _, show 63 ≤ t.val + (s.val + 63 - t.val) % 64 by omega⟩
  · intro w hw
    have hw := (Finset.mem_filter.mp hw).2
    exact Fin.ext (show ((t.val + w.val - 63) % 64 + 63 - t.val) % 64 = w.val by omega)
  · intro s hs
    have hs : s.val ≤ t.val := (Finset.mem_filter.mp hs).2
    exact Fin.ext (show (t.val + (s.val + 63 - t.val) % 64 - 63) % 64 = s.val by omega)
  · intro w hw
    rfl

/-- The running sums along the tokens, as the host computes them. -/
theorem window (L : Fin 4 → Fin 64 → Chunk) (i : S1x4x64x64x128.Idx) :
    (Host.reduceWindowAdd ![1, 1, 1, 64, 1] ![1, 1, 1, 1, 1] ![0, 0, 0, 63, 0] ![0, 0, 0, 0, 0] (up5 L : FVec Ideal S1x4x64x64x128 .f32) (fun _ : S_.Idx => (0 : EReal))
      reduceWindows_S1x4x64x64x128_S1x4x64x64x128_w1s1p0_0_w1s1p0_0_w1s1p0_0_w64s1p63_0_w1s1p0_0 h_S_ : FVec Ideal S1x4x64x64x128 .f32) i
      = up5 (fun h n t k => ∑ s : Fin 64, if s ≤ t then L h n s k else 0) i := by
  refine Eq.trans ?_ (shift (fun s => L (i 1) (i 2) s (i 4)) (i 3))
  change Host.reduceWindow (· + ·) ![1, 1, 1, 64, 1] ![1, 1, 1, 1, 1] ![0, 0, 0, 63, 0] ![0, 0, 0, 0, 0] (up5 L) (fun _ : (⟨0, ![]⟩ : Shape).Idx => (0 : EReal))
    reduceWindows_S1x4x64x64x128_S1x4x64x64x128_w1s1p0_0_w1s1p0_0_w1s1p0_0_w64s1p63_0_w1s1p0_0 (by decide) i = _
  unfold Host.reduceWindow
  dsimp only
  rw [foldl_add, zero_add, ← Fin.sum_univ_def]
  refine (Finset.sum_congr rfl fun n _ => ?_).trans (((⟨5, ![1, 1, 1, 64, 1]⟩ : Shape).rowMajor.symm.sum_comp (fun p => if hin : ∀ a : Fin 5, (![0, 0, 0, 63, 0] : Fin 5 → ℕ) a ≤ (i a).val * (![1, 1, 1, 1, 1] : Fin 5 → ℕ) a + (p a).val
      ∧ (i a).val * (![1, 1, 1, 1, 1] : Fin 5 → ℕ) a + (p a).val - (![0, 0, 0, 63, 0] : Fin 5 → ℕ) a < S1x4x64x64x128.size a
    then up5 L (fun a => ⟨(i a).val * (![1, 1, 1, 1, 1] : Fin 5 → ℕ) a + (p a).val - (![0, 0, 0, 63, 0] : Fin 5 → ℕ) a, (hin a).2⟩) else 0)).trans ?_)
  · split
    · next hin => symm; refine dif_pos ?_; exact hin
    · next hin => symm; refine dif_neg ?_; exact hin
  refine (axis.symm.sum_comp _).symm.trans (Finset.sum_congr rfl fun w _ => ?_)
  have h0 : (i 0).val < 1 := (i 0).isLt
  have h1 : (i 1).val < 4 := (i 1).isLt
  have h2 : (i 2).val < 64 := (i 2).isLt
  have h3 : (i 3).val < 64 := (i 3).isLt
  have h4 : (i 4).val < 128 := (i 4).isLt
  by_cases hc : 63 ≤ (i 3).val + w.val
  · rw [if_pos hc, dif_pos]
    · have e1 : (⟨(i 1).val * 1 + 0 - 0, by omega⟩ : Fin 4) = i 1 := Fin.ext (show (i 1).val * 1 + 0 - 0 = (i 1).val by omega)
      have e2 : (⟨(i 2).val * 1 + 0 - 0, by omega⟩ : Fin 64) = i 2 := Fin.ext (show (i 2).val * 1 + 0 - 0 = (i 2).val by omega)
      have e3 : (⟨(i 3).val * 1 + w.val - 63, by omega⟩ : Fin 64) = ⟨((i 3).val + w.val - 63) % 64, Nat.mod_lt _ (by decide)⟩ :=
        Fin.ext (show (i 3).val * 1 + w.val - 63 = ((i 3).val + w.val - 63) % 64 by omega)
      have e4 : (⟨(i 4).val * 1 + 0 - 0, by omega⟩ : Fin 128) = i 4 := Fin.ext (show (i 4).val * 1 + 0 - 0 = (i 4).val by omega)
      show L ⟨(i 1).val * 1 + 0 - 0, _⟩ ⟨(i 2).val * 1 + 0 - 0, _⟩ ⟨(i 3).val * 1 + w.val - 63, _⟩ ⟨(i 4).val * 1 + 0 - 0, _⟩ = _
      rw [e1, e2, e3, e4]
    · intro a
      match a with
      | 0 => exact (show 0 ≤ (i 0).val * 1 + 0 ∧ (i 0).val * 1 + 0 - 0 < 1 by omega)
      | 1 => exact (show 0 ≤ (i 1).val * 1 + 0 ∧ (i 1).val * 1 + 0 - 0 < 4 by omega)
      | 2 => exact (show 0 ≤ (i 2).val * 1 + 0 ∧ (i 2).val * 1 + 0 - 0 < 64 by omega)
      | 3 => exact (show 63 ≤ (i 3).val * 1 + w.val ∧ (i 3).val * 1 + w.val - 63 < 64 by omega)
      | 4 => exact (show 0 ≤ (i 4).val * 1 + 0 ∧ (i 4).val * 1 + 0 - 0 < 128 by omega)
  · rw [if_neg hc, dif_neg]
    intro hin
    have := (hin 3).1
    exact hc (by have e : 63 ≤ (i 3).val * 1 + w.val := this; omega)

theorem v49 {L : Fin 4 → Fin 64 → Chunk} (h : W (Proc.devRef .tc main_v48) = up5 L) :
    after hostOps0_3 W (Proc.devRef .tc main_v49) = up5 fun h n t k => ∑ s : Fin 64, if s ≤ t then L h n s k else 0 := by
  after_results_simp
  simp only [TRef.ofBuf, TRef.toBuf, cast_eq, id_eq]
  rw [h]
  funext (i : S1x4x64x64x128.Idx)
  rw [show broadcastInDim S_ ![] bcast_S_S_ (constant (F := Ideal) S_ FTy.f32 0#32) = fun _ => (0 : EReal) from funext fun i => by pointwise]
  exact window L i

theorem v60 {Q K C : Fin 4 → Fin 64 → Chunk} (h1 : W (Proc.devRef .tc main_v42) = up5 Q) (h2 : W (Proc.devRef .tc main_v44) = up5 K) (h3 : W (Proc.devRef .tc main_v49) = up5 C) :
    after hostOps0_4 W (Proc.devRef .tc main_v60) = fun i : S1x4x64x64x64.Idx =>
      ∑ k, (Q (i 1) (i 2) (i 3) k * Ideal.exp (C (i 1) (i 2) (i 3) k - C (i 1) (i 2) 32 k)) * (K (i 1) (i 2) (i 4) k * Ideal.exp (C (i 1) (i 2) 32 k - C (i 1) (i 2) (i 4) k)) := by
  after_results_simp
  rw [h1, h2, h3]
  funext (i : S1x4x64x64x64.Idx)
  pointwise [up5]

theorem v51 {C : Fin 4 → Fin 64 → Chunk} (h3 : W (Proc.devRef .tc main_v49) = up5 C) :
    after hostOps0_4 W (Proc.devRef .tc main_v51) = fun i : S1x4x64x1x128.Idx => C (i 1) (i 2) 63 (i 4) := by
  after_results_simp
  rw [h3]
  funext (i : S1x4x64x1x128.Idx)
  pointwise [up5]

theorem v61 : after hostOps0_4 W (Proc.devRef .tc main_v61) = fun i : S64x64.Idx => 1#1 := by
  after_results_simp
  funext (i : S64x64.Idx)
  pointwise

theorem v62 (h : W (Proc.devRef .tc main_v61) = fun i : S64x64.Idx => 1#1) :
    after hostOps0_5 W (Proc.devRef .tc main_v62) = fun i : S64x64.Idx => if (i 1).val ≤ (i 0).val then 1#1 else 0#1 := by
  after_results_simp
  simp only [TRef.ofBuf, TRef.toBuf, cast_eq, id_eq]
  rw [h]
  funext (i : S64x64.Idx)
  pointwise
  have h0 : (i 0).val < 64 := (i 0).isLt
  have h1 : (i 1).val < 64 := (i 1).isLt
  have e : IntOp.cmpi .sge (IntOp.addi (BitVec.ofNat 32 (i 0).val) 0#32) (BitVec.ofNat 32 (i 1).val) = BitVec.ofBool (decide ((i 1).val ≤ (i 0).val)) := by
    rw [show IntOp.addi (BitVec.ofNat 32 (i 0).val) 0#32 = BitVec.ofNat 32 (i 0).val from BitVec.add_zero _]
    exact WordCmp.cmpi_sge_ofNat (by omega) (by omega)
  rw [e]
  show (if BitVec.ofBool (decide ((i 1).val ≤ (i 0).val)) = 1#1 then 1#1 else 0#1) = _
  by_cases hc : (i 1).val ≤ (i 0).val <;> simp [hc]

theorem v63 {S : Fin 4 → Fin 64 → Fin 64 → Fin 64 → EReal} (h1 : W (Proc.devRef .tc main_v62) = fun i : S64x64.Idx => if (i 1).val ≤ (i 0).val then 1#1 else 0#1)
    (h2 : W (Proc.devRef .tc main_cst_6) = constant (F := Ideal) S_ .f32 0x00000000#32)
    (h3 : W (Proc.devRef .tc main_v60) = fun i : S1x4x64x64x64.Idx => S (i 1) (i 2) (i 3) (i 4)) :
    after hostOps0_7 W (Proc.devRef .tc main_v63) = fun i : S1x4x64x64x64.Idx => if (i 4).val ≤ (i 3).val then S (i 1) (i 2) (i 3) (i 4) else 0 := by
  after_results_simp
  simp only [TRef.ofBuf, TRef.toBuf, cast_eq, id_eq]
  rw [h1, h2, h3]
  funext (i : S1x4x64x64x64.Idx)
  pointwise
  show (if (if (i 4).val ≤ (i 3).val then 1#1 else 0#1) = 1#1 then S (i 1) (i 2) (i 3) (i 4) else 0) = _
  by_cases hc : (i 4).val ≤ (i 3).val <;> simp [hc]

section

variable {S : Fin 4 → Fin 64 → Fin 64 → Fin 64 → EReal} {K V C : Fin 4 → Fin 64 → Chunk}

theorem v64 (h1 : W (Proc.devRef .tc main_v63) = fun i : S1x4x64x64x64.Idx => S (i 1) (i 2) (i 3) (i 4)) (h2 : W (Proc.devRef .tc main_v46) = up5 V) :
    after hostOps0_8 W (Proc.devRef .tc main_v64) = up5 fun h n t j => ∑ s, S h n t s * V h n s j := by
  after_results_simp
  rw [h1, h2]
  funext (i : S1x4x64x64x128.Idx)
  pointwise [up5]

theorem v76_0 (h1 : W (Proc.devRef .tc main_v44) = up5 K) (h2 : W (Proc.devRef .tc main_v46) = up5 V) (h3 : W (Proc.devRef .tc main_v49) = up5 C)
    (h4 : W (Proc.devRef .tc main_v51) = fun i : S1x4x64x1x128.Idx => C (i 1) (i 2) 63 (i 4)) :
    after hostOps0_8 W (Proc.devRef .tc main_v76_0) = fun i : S64x1x4x128x128.Idx =>
      ∑ s, (K (i 2) (i 0) s (i 3) * Ideal.exp (C (i 2) (i 0) 63 (i 3) - C (i 2) (i 0) s (i 3))) * V (i 2) (i 0) s (i 4) := by
  after_results_simp
  simp only [id_eq]
  rw [h1, h2, h3, h4]
  funext (i : S64x1x4x128x128.Idx)
  pointwise [up5]

theorem v76_1 (h4 : W (Proc.devRef .tc main_v51) = fun i : S1x4x64x1x128.Idx => C (i 1) (i 2) 63 (i 4)) :
    after hostOps0_8 W (Proc.devRef .tc main_v76_1) = fun i : S64x1x4x128.Idx => Ideal.exp (C (i 2) (i 0) 63 (i 3)) := by
  after_results_simp
  simp only [id_eq]
  rw [h4]
  funext (i : S64x1x4x128.Idx)
  pointwise

theorem v76_3 : after hostOps0_8 W (Proc.devRef .tc main_v76_3) = fun i : S1x4x128x128.Idx => (0 : EReal) := by
  after_results_simp
  simp only [id_eq]
  funext (i : S1x4x128x128.Idx)
  pointwise

theorem v76_4 : after hostOps0_8 W (Proc.devRef .tc main_v76_4) = fun i : S64x1x4x128x128.Idx => (0 : EReal) := by
  after_results_simp
  simp only [id_eq]
  funext (i : S64x1x4x128x128.Idx)
  pointwise

end

end Cert.HgrnRef

end
-- ==== Proof.HgrnLoop.lean ====
/- The reference's loop over the chunks: the state before each. -/
module

public import proofs.«01_k».proof.Proof.HgrnPre
public import Idealize.ShloMosaic.Lib.DynamicIndex

@[expose] public section

set_option maxRecDepth 100000

noncomputable section

open Idealize.ShloMosaic Idealize.ShloMosaic.TcCoe Idealize.ShloMosaic.StableHlo

namespace Cert.HgrnRef

open Cert.Reference19Ideal Cert.Reference19Ideal.Gen Cert.Reference19Ideal.Value Cert.Hgrn

/-- A chunk's number as one of 64. -/
def nth (n : ℕ) : Fin 64 := ⟨n % 64, Nat.mod_lt _ (by decide)⟩

/-- The state before chunk `n`, of the chunks' decays and of what they add. -/
def scan (D : Fin 64 → Fin 128 → EReal) (U : Fin 64 → State) : ℕ → State
  | 0 => fun _ _ => 0
  | n + 1 => fun k j => D (nth n) k * scan D U n k j + U (nth n) k j

variable (D : Fin 4 → Fin 64 → Fin 128 → EReal) (U : Fin 4 → Fin 64 → State) (V : Valuation τ sig (Elt Ideal))

/-- The loop's buffers before trip `n`. -/
structure Carried (n : ℕ) : Prop where
  h0 : V (Proc.devRef .tc main_v76_0) = fun i : S64x1x4x128x128.Idx => U (i 2) (i 0) (i 3) (i 4)
  h1 : V (Proc.devRef .tc main_v76_1) = fun i : S64x1x4x128.Idx => D (i 2) (i 0) (i 3)
  h3 : V (Proc.devRef .tc main_v76_3) = fun i : S1x4x128x128.Idx => scan (D (i 1)) (U (i 1)) n (i 2) (i 3)
  h4 : V (Proc.devRef .tc main_v76_4) = fun i : S64x1x4x128x128.Idx => if (i 0).val < n then scan (D (i 2)) (U (i 2)) (i 0).val (i 3) (i 4) else 0

variable {D U V}

theorem iv_toInt (n : ℕ) (hn : n < 64) : (Scf.iv 0#32 1#32 n).toInt = n := by
  have e : Scf.iv 0#32 1#32 n = BitVec.ofNat 32 n := by simp [Scf.iv]
  have e1 : (BitVec.ofNat 32 n).toNat = n := by rw [BitVec.toNat_ofNat]; omega
  rw [e, WordCmp.toInt_eq_toNat_of_lt_half (by rw [e1]; omega), e1]

theorem Carried.step3 {n : ℕ} (hn : n < 64) (h : Carried D U V n) (h2 : V (Proc.devRef .tc main_v76_2) = fun _ => Scf.iv 0#32 1#32 n) :
    step_main_v76_3 V = fun i : S1x4x128x128.Idx => scan (D (i 1)) (U (i 1)) (n + 1) (i 2) (i 3) := by
  unfold step_main_v76_3
  rw [h.h0, h.h1, h2, h.h3]
  rw [Host.dynamicSlice_eq_extractStridedSlice S1x1x4x128 _ _ ![n, 0, 0, 0] sliceFits_S64x1x4x128_S1x1x4x128
      ⟨rfl, fun a => by match a with | 0 => exact (show n + 1 ≤ 64 by omega) | 1 => exact (show 0 + 1 ≤ 1 by decide) | 2 => exact (show 0 + 4 ≤ 4 by decide) | 3 => exact (show 0 + 128 ≤ 128 by decide)⟩
      (fun a => by match a with | 0 => exact iv_toInt n hn | 1 => rfl | 2 => rfl | 3 => rfl),
    Host.dynamicSlice_eq_extractStridedSlice S1x1x4x128x128 _ _ ![n, 0, 0, 0, 0] sliceFits_S64x1x4x128x128_S1x1x4x128x128
      ⟨rfl, fun a => by match a with | 0 => exact (show n + 1 ≤ 64 by omega) | 1 => exact (show 0 + 1 ≤ 1 by decide) | 2 => exact (show 0 + 4 ≤ 4 by decide) | 3 => exact (show 0 + 128 ≤ 128 by decide) | 4 => exact (show 0 + 128 ≤ 128 by decide)⟩
      (fun a => by match a with | 0 => exact iv_toInt n hn | 1 => rfl | 2 => rfl | 3 => rfl | 4 => rfl)]
  simp only [id_eq]
  funext (i : S1x4x128x128.Idx)
  have e : nth n = ⟨n, hn⟩ := Fin.ext (Nat.mod_eq_of_lt hn)
  pointwise [scan]
  rw [e]

theorem Carried.step4 {n : ℕ} (hn : n < 64) (h : Carried D U V n) (h2 : V (Proc.devRef .tc main_v76_2) = fun _ => Scf.iv 0#32 1#32 n) :
    step_main_v76_4 V = fun i : S64x1x4x128x128.Idx => if (i 0).val < n + 1 then scan (D (i 2)) (U (i 2)) (i 0).val (i 3) (i 4) else 0 := by
  unfold step_main_v76_4
  rw [h.h3, h2, h.h4]
  rw [Host.dynamicUpdateSlice_eq_updateSlice _ _ _ updateFits_S64x1x4x128x128_S1x1x4x128x128 ![n, 0, 0, 0, 0]
      (fun a => by match a with
        | 0 => exact (show (min (max (Scf.iv 0#32 1#32 n).toInt 0) ((64 - 1 : ℕ) : ℤ)).toNat = n by rw [iv_toInt n hn]; omega)
        | 1 => rfl | 2 => rfl | 3 => rfl | 4 => rfl)
      ⟨rfl, fun a => by match a with | 0 => exact (show n + 1 ≤ 64 by omega) | 1 => exact (show 0 + 1 ≤ 1 by decide) | 2 => exact (show 0 + 4 ≤ 4 by decide) | 3 => exact (show 0 + 128 ≤ 128 by decide) | 4 => exact (show 0 + 128 ≤ 128 by decide)⟩]
  simp only [id_eq]
  funext (i : S64x1x4x128x128.Idx)
  pointwise
  by_cases h1 : (i 0).val < n
  · rw [dif_neg (by omega), if_pos h1, if_pos (by omega)]
  · by_cases h2 : (i 0).val = n
    · rw [dif_pos (by omega), if_pos (by omega), h2]
    · rw [dif_neg (by omega), if_neg h1, if_neg (by omega)]

section

variable (m : (ℓ : Loc nD τ sig) → Buf (Elt Ideal) ℓ) (c : Dev nD)

/-- The loop's buffers before each trip, from those before the first. -/
theorem carried (h : Carried D U (entryContents preI m c) 0) : ∀ n : ℕ, n ≤ 64 → Carried D U (atK m n c) n
  | 0, _ => h
  | n + 1, hn => by
    have ih := carried h n (by omega)
    have ag := trip_agree (atK m n c)
    have e2 := atK_ctr m c n
    exact ⟨(ag main_v76_0 (by decide)).trans ((STEP_main_v76_0 _).trans ih.h0), (ag main_v76_1 (by decide)).trans ((STEP_main_v76_1 _).trans ih.h1),
      (ag main_v76_3 (by decide)).trans ((STEP_main_v76_3 _).trans (ih.step3 (by omega) e2)),
      (ag main_v76_4 (by decide)).trans ((STEP_main_v76_4 _).trans (ih.step4 (by omega) e2))⟩

/-- What neither the loop's test nor its body writes. -/
theorem kept (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) : ∀ n : ℕ, atK m n c (Proc.devRef .tc r) = entryContents preI m c (Proc.devRef .tc r)
  | 0 => rfl
  | n + 1 => by
    rw [show atK m (n + 1) c = afterL bodyI (after condOps (atK m n c)) from rfl]
    simp only [afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc]
    exact kept r hc h0 h1 h2 h3 h4 n

end

end Cert.HgrnRef

end
-- ==== Proof.HgrnPost.lean ====
/- The reference's host operations after its loop, stretch by stretch, over the extended reals. -/
module

public import proofs.«01_k».proof.Proof.HgrnPre

@[expose] public section

set_option maxRecDepth 100000

noncomputable section

open Idealize.ShloMosaic Idealize.ShloMosaic.TcCoe Idealize.ShloMosaic.StableHlo

namespace Cert.HgrnRef

open Cert.Reference19Ideal Cert.Reference19Ideal.Gen Cert.Reference19Ideal.Value Cert.Hgrn

variable {W : Valuation τ sig (Elt Ideal)} {S : Fin 4 → Fin 64 → State}

theorem v77 (h : W (Proc.devRef .tc main_v76_4) = fun i : S64x1x4x128x128.Idx => S (i 2) (i 0) (i 3) (i 4)) :
    after hostOps0_9 W (Proc.devRef .tc main_v77) = fun i : S1x4x64x128x128.Idx => S (i 1) (i 2) (i 3) (i 4) := by
  after_results_simp
  rw [h]
  funext (i : S1x4x64x128x128.Idx)
  pointwise

/-- Arrays of tokens by channels, from their chunks. -/
def gather (R : Fin 4 → Fin 64 → Chunk) : Fin 4096 → Fin 512 → EReal := fun p q =>
  R ⟨q.val / 128, by omega⟩ ⟨p.val / 64, by omega⟩ ⟨p.val % 64, Nat.mod_lt _ (by decide)⟩ ⟨q.val % 128, Nat.mod_lt _ (by decide)⟩

theorem v97 {I Q C : Fin 4 → Fin 64 → Chunk} {w : Fin 512 → EReal} (h : W (Proc.devRef .tc main_v76_4) = fun i : S64x1x4x128x128.Idx => S (i 2) (i 0) (i 3) (i 4))
    (h1 : W (Proc.devRef .tc main_v64) = up5 I) (h2 : W (Proc.devRef .tc main_v42) = up5 Q) (h3 : W (Proc.devRef .tc main_v49) = up5 C)
    (h4 : W (Proc.devRef .tc main_arg3) = fun i : S1x512.Idx => w (i 1))
    {O : Fin 4 → Fin 64 → Chunk} (hO : ∀ h n t j, O h n t j = I h n t j + ∑ k, (Q h n t k * Ideal.exp (C h n t k)) * S h n k j) :
    after hostOps0_9 W (Proc.devRef .tc main_v97) = up3 (gather fun h n t j =>
      O h n t j * Ideal.rsqrt (Ideal.div (∑ i, O h n t i * O h n t i) chans + eps) * head w h j) := by
  obtain rfl : O = fun h n t j => I h n t j + ∑ k, (Q h n t k * Ideal.exp (C h n t k)) * S h n k j := by funext h n t j; exact hO h n t j
  after_results_simp
  rw [h, h1, h2, h3, h4]
  funext (i : S1x4096x512.Idx)
  have ew : head w ⟨(i 2).val / 128, by have : (i 2).val < 512 := (i 2).isLt; omega⟩ ⟨(i 2).val % 128, Nat.mod_lt _ (by decide)⟩ = w (i 2) :=
    congrArg w (Fin.ext (Nat.div_add_mod _ _))
  have eg : ∀ R : Fin 4 → Fin 64 → Chunk, up3 (gather R) i = R ⟨(i 2).val / 128, by have : (i 2).val < 512 := (i 2).isLt; omega⟩ ⟨(i 1).val / 64, by have : (i 1).val < 4096 := (i 1).isLt; omega⟩
      ⟨(i 1).val % 64, Nat.mod_lt _ (by decide)⟩ ⟨(i 2).val % 128, Nat.mod_lt _ (by decide)⟩ := fun R => rfl
  rw [eg, ew]
  pointwise [up5, chans, eps]

theorem v98 {X : Fin 4096 → Fin 512 → EReal} (h : W (Proc.devRef .tc main_v18) = up3 X) :
    after hostOps0_10 W (Proc.devRef .tc main_v98) = up3 fun p q => X p q * sg (X p q) := by
  after_results_simp
  simp only [TRef.ofBuf, TRef.toBuf, cast_eq, id_eq]
  rw [h]
  funext (i : S1x4096x512.Idx)
  pointwise [up3, sg]

theorem v100 {X Y : Fin 4096 → Fin 512 → EReal} (h1 : W (Proc.devRef .tc main_v97) = up3 X) (h2 : W (Proc.devRef .tc main_v98) = up3 Y) :
    after hostOps0_11 W (Proc.devRef .tc main_v100) = fun i : S4096x512.Idx => X (i 0) (i 1) * Y (i 0) (i 1) := by
  after_results_simp
  rw [h1, h2]
  funext (i : S4096x512.Idx)
  pointwise [up3]

theorem v103 (h : W (Proc.devRef .tc main_v77) = fun i : S1x4x64x128x128.Idx => S (i 1) (i 2) (i 3) (i 4)) :
    after hostOps0_11 W (Proc.devRef .tc main_v103) = fun i : S8x4x128x128.Idx => S (i 1) ⟨8 * (i 0).val, by have : (i 0).val < 8 := (i 0).isLt; omega⟩ (i 3) (i 2) := by
  after_results_simp
  rw [h]
  funext (i : S8x4x128x128.Idx)
  pointwise

end Cert.HgrnRef

end
-- ==== Proof.HgrnFold.lean ====
/- What the reference leaves in its results, from its arguments. -/
module

public import proofs.«01_k».proof.Proof.HgrnLoop
public import proofs.«01_k».proof.Proof.HgrnPost
public import Idealize.ShloMosaic.Lib.Claim

@[expose] public section

set_option maxRecDepth 100000

noncomputable section

open Idealize.ShloMosaic Idealize.ShloMosaic.TcCoe Idealize.ShloMosaic.StableHlo

namespace Cert.HgrnRef

open Cert.Reference19Ideal Cert.Reference19Ideal.Gen Cert.Reference19Ideal.Value Cert.Hgrn

variable (A : Fin 4096 → Fin 2048 → EReal) (a b w : Fin 512 → EReal)

/-- The chunks' queries. -/
def q5 : Fin 4 → Fin 64 → Chunk := fun h n => query (part A 0) h n.val

/-- The chunks' forget gates. -/
def f5 : Fin 4 → Fin 64 → Chunk := fun h n => gate a b (part A 1) h n.val

/-- The chunks' values. -/
def v5 : Fin 4 → Fin 64 → Chunk := fun h n => chunk (part A 2) h n.val

/-- The chunks' keys: what the gates leave. -/
def k5 : Fin 4 → Fin 64 → Chunk := fun h n t k => 1 - f5 A a b h n t k

/-- The sums of the gates' logarithms up to each token. -/
def c5 : Fin 4 → Fin 64 → Chunk := fun h n => cum (f5 A a b h n)

/-- What each chunk adds to the state. -/
def add5 : Fin 4 → Fin 64 → State := fun h n k j =>
  ∑ s, (k5 A a b h n s k * Ideal.exp (c5 A a b h n 63 k - c5 A a b h n s k)) * v5 A h n s j

/-- What each chunk leaves of the state. -/
def decay5 : Fin 4 → Fin 64 → Fin 128 → EReal := fun h n k => Ideal.exp (c5 A a b h n 63 k)

theorem cum_last (F : Chunk) (k : Fin 128) : cum F 63 k = tot F k := by
  unfold cum tot
  exact Finset.sum_congr rfl fun s _ => if_pos (show s.val ≤ 63 by omega)

theorem scan_state (h : Fin 4) : ∀ n : ℕ, n ≤ 64 → scan (decay5 A a b h) (add5 A a b h) n = state a b (part A 1) (part A 2) h n
  | 0, _ => rfl
  | n + 1, hn => by
    have e : (nth n).val = n := Nat.mod_eq_of_lt (by omega)
    unfold scan state next
    rw [scan_state h n (by omega)]
    unfold decay5 add5 k5 v5 c5 f5
    rw [e]
    funext k j
    rw [cum_last]

variable (m : (ℓ : Loc nD τ sig) → Buf (Elt Ideal) ℓ) (c : Dev nD)

/-- The buffers the reference reads after its loop, as they are before it. -/
structure Entry (V : Valuation τ sig (Elt Ideal)) : Prop where
  h42 : V (Proc.devRef .tc main_v42) = up5 (q5 A)
  h49 : V (Proc.devRef .tc main_v49) = up5 (c5 A a b)
  h64 : V (Proc.devRef .tc main_v64) = up5 fun h n t j => ∑ s, score (q5 A h n) (f5 A a b h n) t s * v5 A h n s j
  h18 : V (Proc.devRef .tc main_v18) = up3 (part A 3)
  h3 : V (Proc.devRef .tc main_arg3) = fun i : S1x512.Idx => w (i 1)

variable {A a b w m c} (h : Args (launchContents m c) A a b) (hw : launchContents m c (Proc.devRef .tc main_arg3) = fun i : S1x512.Idx => w (i 1))

include h hw in
theorem entry : Entry A a b w (entryContents preI m c) ∧ Carried (decay5 A a b) (add5 A a b) (entryContents preI m c) 0 := by
  simp only [entryContents, afterL_cons, afterL_nil]
  generalize eL : launchContents m c = L at h hw ⊢
  have a15 := v15 h
  have a17 := v17 h
  have a18 := v18 h
  have a32 := v32 h
  have a3 := (after_of_writes_sub hostOps0 L hostOps0_writes (r := main_arg3) (by decide)).trans hw
  generalize after hostOps0 L = V1 at *
  have b33 := v33 a15
  have b17 := (after_of_writes_sub hostOps0_1 V1 hostOps0_1_writes (r := main_v17) (by decide)).trans a17
  have b18 := (after_of_writes_sub hostOps0_1 V1 hostOps0_1_writes (r := main_v18) (by decide)).trans a18
  have b32 := (after_of_writes_sub hostOps0_1 V1 hostOps0_1_writes (r := main_v32) (by decide)).trans a32
  have b3 := (after_of_writes_sub hostOps0_1 V1 hostOps0_1_writes (r := main_arg3) (by decide)).trans a3
  generalize after hostOps0_1 V1 = V2 at *
  have c42 : after hostOps0_2 V2 (Proc.devRef .tc main_v42) = up5 (q5 A) := v42 b33
  have c44 : after hostOps0_2 V2 (Proc.devRef .tc main_v44) = up5 (k5 A a b) := v44 b32
  have c46 : after hostOps0_2 V2 (Proc.devRef .tc main_v46) = up5 (v5 A) := v46 b17
  have c48 : after hostOps0_2 V2 (Proc.devRef .tc main_v48) = up5 fun h n => lg (f5 A a b h n) := v48 b32
  have c18 := (after_of_writes_sub hostOps0_2 V2 hostOps0_2_writes (r := main_v18) (by decide)).trans b18
  have c3 := (after_of_writes_sub hostOps0_2 V2 hostOps0_2_writes (r := main_arg3) (by decide)).trans b3
  generalize after hostOps0_2 V2 = V3 at *
  have d49 : after hostOps0_3 V3 (Proc.devRef .tc main_v49) = up5 (c5 A a b) := v49 c48
  have d42 := (after_of_writes_sub hostOps0_3 V3 hostOps0_3_writes (r := main_v42) (by decide)).trans c42
  have d44 := (after_of_writes_sub hostOps0_3 V3 hostOps0_3_writes (r := main_v44) (by decide)).trans c44
  have d46 := (after_of_writes_sub hostOps0_3 V3 hostOps0_3_writes (r := main_v46) (by decide)).trans c46
  have d18 := (after_of_writes_sub hostOps0_3 V3 hostOps0_3_writes (r := main_v18) (by decide)).trans c18
  have d3 := (after_of_writes_sub hostOps0_3 V3 hostOps0_3_writes (r := main_arg3) (by decide)).trans c3
  generalize after hostOps0_3 V3 = V4 at *
  have e60 := v60 d42 d44 d49
  have e51 := v51 d49
  have e61 := v61 (W := V4)
  have e49 := (after_of_writes_sub hostOps0_4 V4 hostOps0_4_writes (r := main_v49) (by decide)).trans d49
  have e42 := (after_of_writes_sub hostOps0_4 V4 hostOps0_4_writes (r := main_v42) (by decide)).trans d42
  have e44 := (after_of_writes_sub hostOps0_4 V4 hostOps0_4_writes (r := main_v44) (by decide)).trans d44
  have e46 := (after_of_writes_sub hostOps0_4 V4 hostOps0_4_writes (r := main_v46) (by decide)).trans d46
  have e18 := (after_of_writes_sub hostOps0_4 V4 hostOps0_4_writes (r := main_v18) (by decide)).trans d18
  have e3 := (after_of_writes_sub hostOps0_4 V4 hostOps0_4_writes (r := main_arg3) (by decide)).trans d3
  generalize after hostOps0_4 V4 = V5 at *
  have pass : ∀ (r : Ref sig .tc), r ∉ hostOps0_5_W → r ∉ hostOps0_6_W → r ∉ hostOps0_7_W →
      after hostOps0_7 (after hostOps0_6 (after hostOps0_5 V5)) (Proc.devRef .tc r) = V5 (Proc.devRef .tc r) := fun r h5 h6 h7 =>
    ((after_of_writes_sub hostOps0_7 _ hostOps0_7_writes h7).trans (after_of_writes_sub hostOps0_6 _ hostOps0_6_writes h6)).trans
      (after_of_writes_sub hostOps0_5 _ hostOps0_5_writes h5)
  have f63 : after hostOps0_7 (after hostOps0_6 (after hostOps0_5 V5)) (Proc.devRef .tc main_v63)
      = fun i : S1x4x64x64x64.Idx => score (q5 A (i 1) (i 2)) (f5 A a b (i 1) (i 2)) (i 3) (i 4) := by
    refine (v63 (S := fun h n t s => ∑ k, (q5 A h n t k * Ideal.exp (c5 A a b h n t k - c5 A a b h n 32 k)) * (k5 A a b h n s k * Ideal.exp (c5 A a b h n 32 k - c5 A a b h n s k)))
      ((after_of_writes_sub hostOps0_6 _ hostOps0_6_writes (r := main_v62) (by decide)).trans (v62 e61)) ?_ ?_).trans ?_
    · after_results_simp
    · exact ((after_of_writes_sub hostOps0_6 _ hostOps0_6_writes (r := main_v60) (by decide)).trans (after_of_writes_sub hostOps0_5 _ hostOps0_5_writes (r := main_v60) (by decide))).trans e60
    · rfl
  have f51 := (pass main_v51 (by decide) (by decide) (by decide)).trans e51
  have f49 := (pass main_v49 (by decide) (by decide) (by decide)).trans e49
  have f42 := (pass main_v42 (by decide) (by decide) (by decide)).trans e42
  have f44 := (pass main_v44 (by decide) (by decide) (by decide)).trans e44
  have f46 := (pass main_v46 (by decide) (by decide) (by decide)).trans e46
  have f18 := (pass main_v18 (by decide) (by decide) (by decide)).trans e18
  have f3 := (pass main_arg3 (by decide) (by decide) (by decide)).trans e3
  generalize after hostOps0_7 (after hostOps0_6 (after hostOps0_5 V5)) = V8 at *
  exact ⟨⟨(after_of_writes_sub hostOps0_8 V8 hostOps0_8_writes (r := main_v42) (by decide)).trans f42,
      (after_of_writes_sub hostOps0_8 V8 hostOps0_8_writes (r := main_v49) (by decide)).trans f49,
      v64 (S := fun h n t s => score (q5 A h n) (f5 A a b h n) t s) f63 f46,
      (after_of_writes_sub hostOps0_8 V8 hostOps0_8_writes (r := main_v18) (by decide)).trans f18,
      (after_of_writes_sub hostOps0_8 V8 hostOps0_8_writes (r := main_arg3) (by decide)).trans f3⟩,
    ⟨v76_0 f44 f46 f49 f51, v76_1 f51, v76_3, v76_4.trans (funext fun i => (if_neg (Nat.not_lt_zero _)).symm)⟩⟩

/-- The buffers the reference reads after its loop, as they are there. -/
abbrev loopEnd : Valuation τ sig (Elt Ideal) := after condOps (atTrip condOps bodyI (entryContents preI m) 64 c)

theorem end_kept (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) : loopEnd (m := m) (c := c) (Proc.devRef .tc r) = entryContents preI m c (Proc.devRef .tc r) :=
  (after_of_writes_sub condOps _ condOps_writes hc).trans (kept m c r hc h0 h1 h2 h3 h4 64)

include h hw in
theorem end_states : loopEnd (m := m) (c := c) (Proc.devRef .tc main_v76_4)
    = fun i : S64x1x4x128x128.Idx => state a b (part A 1) (part A 2) (i 2) (i 0).val (i 3) (i 4) := by
  refine ((after_of_writes_sub condOps _ condOps_writes (r := main_v76_4) (by decide)).trans (carried m c (entry h hw).2 64 le_rfl).h4).trans (funext fun i => ?_)
  have hi : (i 0).val < 64 := (i 0).isLt
  rw [if_pos hi, scan_state A a b (i 2) (i 0).val (by omega)]

/-- These results pass the stretches after them. -/
theorem keep_v18 (Z : Valuation τ sig (Elt Ideal)) : after hostOps0_9 Z (Proc.devRef .tc main_v18) = Z (Proc.devRef .tc main_v18) := by
  after_results_simp

theorem keep_v97 (Z : Valuation τ sig (Elt Ideal)) : after hostOps0_10 Z (Proc.devRef .tc main_v97) = Z (Proc.devRef .tc main_v97) := by
  after_results_simp

theorem keep_v77 (Z : Valuation τ sig (Elt Ideal)) : after hostOps0_10 Z (Proc.devRef .tc main_v77) = Z (Proc.devRef .tc main_v77) := by
  after_results_simp

include h hw in
/-- The output. -/
theorem result_v100 : finalContents condOps preI bodyI postI 64 m c (Proc.devRef .tc main_v100)
    = fun i : S4096x512.Idx => gather (fun h n => result a b w (part A 0) (part A 1) (part A 2) (part A 3) h n.val) (i 0) (i 1) := by
  have E := (entry h hw).1
  have s := end_states h hw
  have e64 := (end_kept (m := m) (c := c) main_v64 (by decide) (by decide) (by decide) (by decide) (by decide) (by decide)).trans E.h64
  have e42 := (end_kept (m := m) (c := c) main_v42 (by decide) (by decide) (by decide) (by decide) (by decide) (by decide)).trans E.h42
  have e49 := (end_kept (m := m) (c := c) main_v49 (by decide) (by decide) (by decide) (by decide) (by decide) (by decide)).trans E.h49
  have e18 := (end_kept (m := m) (c := c) main_v18 (by decide) (by decide) (by decide) (by decide) (by decide) (by decide)).trans E.h18
  have e3 := (end_kept (m := m) (c := c) main_arg3 (by decide) (by decide) (by decide) (by decide) (by decide) (by decide)).trans E.h3
  show afterL postI (loopEnd (m := m) (c := c)) _ = _
  generalize loopEnd (m := m) (c := c) = Z at *
  simp only [afterL_cons, afterL_nil]
  have a97 := v97 (S := fun h n => state a b (part A 1) (part A 2) h n.val)
    (O := fun h n => att (q5 A h n) (f5 A a b h n) (v5 A h n) (state a b (part A 1) (part A 2) h n.val)) s e64 e42 e49 e3 (fun h n t j => rfl)
  have a18 := (keep_v18 Z).trans e18
  generalize after hostOps0_9 Z = Z1 at *
  have b97 := (keep_v97 Z1).trans a97
  refine (v100 b97 (v98 a18)).trans (funext fun i => ?_)
  have hp : (i 0).val < 4096 := (i 0).isLt
  have hq : (i 1).val < 512 := (i 1).isLt
  have eG : chunk (part A 3) ⟨(i 1).val / 128, by omega⟩ ((i 0).val / 64) ⟨(i 0).val % 64, Nat.mod_lt _ (by decide)⟩ ⟨(i 1).val % 128, Nat.mod_lt _ (by decide)⟩
      = part A 3 (i 0) (i 1) :=
    congrArg₂ (part A 3) (Fin.ext (show (64 * ((i 0).val / 64) + (i 0).val % 64) % 4096 = (i 0).val by omega))
      (Fin.ext (show 128 * ((i 1).val / 128) + (i 1).val % 128 = (i 1).val by omega))
  unfold gather result normed
  dsimp only
  rw [eG]
  rfl

include h hw in
/-- The states before each eighth chunk. -/
theorem result_v103 : finalContents condOps preI bodyI postI 64 m c (Proc.devRef .tc main_v103)
    = fun i : S8x4x128x128.Idx => state a b (part A 1) (part A 2) (i 1) (8 * (i 0).val) (i 3) (i 2) := by
  have s := end_states h hw
  show afterL postI (loopEnd (m := m) (c := c)) _ = _
  generalize loopEnd (m := m) (c := c) = Z at *
  simp only [afterL_cons, afterL_nil]
  have a77 := v77 (S := fun h n => state a b (part A 1) (part A 2) h n.val) s
  generalize after hostOps0_9 Z = Z1 at *
  exact v103 (S := fun h n => state a b (part A 1) (part A 2) h n.val) ((keep_v77 Z1).trans a77)

/-- The arguments are as they were before the loop's end. -/
theorem args_kept (r : Ref sig .tc) (hr : r ∈ [main_arg0, main_arg1, main_arg2, main_arg3]) :
    loopEnd (m := m) (c := c) (Proc.devRef .tc r) = launchContents m c (Proc.devRef .tc r) := by
  have d : ∀ r ∈ [main_arg0, main_arg1, main_arg2, main_arg3], (r ∉ condOps_W ∧ r ∉ while0Ops0_W ∧ r ∉ while0Ops0_1_W ∧ r ∉ while0Ops0_2_W ∧ r ∉ while0Ops0_3_W ∧ r ∉ while0Ops0_4_W)
      ∧ r ∉ hostOps0_W ∧ r ∉ hostOps0_1_W ∧ r ∉ hostOps0_2_W ∧ r ∉ hostOps0_3_W ∧ r ∉ hostOps0_4_W ∧ r ∉ hostOps0_5_W ∧ r ∉ hostOps0_6_W ∧ r ∉ hostOps0_7_W ∧ r ∉ hostOps0_8_W := by decide
  obtain ⟨⟨e0, e1, e2, e3, e4, e5⟩, p0, p1, p2, p3, p4, p5, p6, p7, p8⟩ := d r hr
  refine (end_kept r e0 e1 e2 e3 e4 e5).trans ?_
  simp only [entryContents, afterL_cons, afterL_nil]
  rw [after_of_writes_sub hostOps0_8 _ hostOps0_8_writes p8, after_of_writes_sub hostOps0_7 _ hostOps0_7_writes p7,
    after_of_writes_sub hostOps0_6 _ hostOps0_6_writes p6, after_of_writes_sub hostOps0_5 _ hostOps0_5_writes p5,
    after_of_writes_sub hostOps0_4 _ hostOps0_4_writes p4, after_of_writes_sub hostOps0_3 _ hostOps0_3_writes p3,
    after_of_writes_sub hostOps0_2 _ hostOps0_2_writes p2, after_of_writes_sub hostOps0_1 _ hostOps0_1_writes p1,
    after_of_writes_sub hostOps0 _ hostOps0_writes p0]

theorem final_arg0 : finalContents condOps preI bodyI postI 64 m c (Proc.devRef .tc main_arg0) = m ((c : Thread nD τ).loc main_arg0) := by
  refine Eq.trans ?_ (args_kept (m := m) (c := c) main_arg0 (by decide))
  show afterL postI (loopEnd (m := m) (c := c)) _ = _
  generalize loopEnd (m := m) (c := c) = Z at *
  simp only [afterL_cons, afterL_nil]
  after_results_simp

theorem final_arg1 : finalContents condOps preI bodyI postI 64 m c (Proc.devRef .tc main_arg1) = m ((c : Thread nD τ).loc main_arg1) := by
  refine Eq.trans ?_ (args_kept (m := m) (c := c) main_arg1 (by decide))
  show afterL postI (loopEnd (m := m) (c := c)) _ = _
  generalize loopEnd (m := m) (c := c) = Z at *
  simp only [afterL_cons, afterL_nil]
  after_results_simp

theorem final_arg2 : finalContents condOps preI bodyI postI 64 m c (Proc.devRef .tc main_arg2) = m ((c : Thread nD τ).loc main_arg2) := by
  refine Eq.trans ?_ (args_kept (m := m) (c := c) main_arg2 (by decide))
  show afterL postI (loopEnd (m := m) (c := c)) _ = _
  generalize loopEnd (m := m) (c := c) = Z at *
  simp only [afterL_cons, afterL_nil]
  after_results_simp

theorem final_arg3 : finalContents condOps preI bodyI postI 64 m c (Proc.devRef .tc main_arg3) = m ((c : Thread nD τ).loc main_arg3) := by
  refine Eq.trans ?_ (args_kept (m := m) (c := c) main_arg3 (by decide))
  show afterL postI (loopEnd (m := m) (c := c)) _ = _
  generalize loopEnd (m := m) (c := c) = Z at *
  simp only [afterL_cons, afterL_nil]
  after_results_simp

end Cert.HgrnRef

namespace Cert.Reference19Ideal.Value

open Idealize.SL.Sem Cert.Reference19Ideal Cert.Reference19Ideal.Gen Cert.HgrnRef

/-- A run of the reference: its two results are the fold's, its arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c : Thread nD τ).loc main_v100) = finalContents condOps preI bodyI postI 64 m c (Proc.devRef .tc main_v100)
      ∧ r.2.mem ((c : Thread nD τ).loc main_v103) = finalContents condOps preI bodyI postI 64 m c (Proc.devRef .tc main_v103)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  Idealize.ShloMosaic.θ_run_mono (run_fold m g) fun r h c => ⟨h c main_v100 rfl, h c main_v103 rfl, (h c main_arg0 rfl).trans final_arg0,
    (h c main_arg1 rfl).trans final_arg1, (h c main_arg2 rfl).trans final_arg2, (h c main_arg3 rfl).trans final_arg3⟩

end Cert.Reference19Ideal.Value

end
-- ==== Proof.HgrnClaim.lean ====
/- HGRN-2's forward pass: the kernel equals its reference, for all arguments. -/
module

public import proofs.«01_k».proof.Defs
public import proofs.«01_k».proof.Proof.HgrnPoint
public import proofs.«01_k».proof.Proof.HgrnFold
public import Idealize.ShloMosaic.Lib.Claim

@[expose] public section

set_option maxRecDepth 16384

noncomputable section

namespace Cert.HgrnClaim

open Idealize.ShloMosaic Idealize.ShloMosaic.TcCoe Idealize.ShloMosaic.StableHlo Idealize.SL.Sem Cert.Hgrn

/-- An array's rows. -/
def rowsOf {n k : ℕ} (x : FVec Ideal ⟨2, ![n, k]⟩ .f32) : Fin n → Fin k → EReal := fun p q => x (ix2 p q)

theorem up_rowsOf {n k : ℕ} (x : FVec Ideal ⟨2, ![n, k]⟩ .f32) : x = up (rowsOf x) := by
  funext i
  exact congrArg x (by funext a; fin_cases a <;> rfl)

theorem upr_rowsOf {k : ℕ} (x : FVec Ideal ⟨2, ![1, k]⟩ .f32) : x = upr (rowsOf x 0) := by
  funext i
  refine congrArg x ?_
  funext a
  fin_cases a
  · exact Subsingleton.elim (α := Fin 1) _ _
  · rfl

set_option maxHeartbeats 1000000 in
/-- The kernel equals its reference. -/
theorem claim : Cert.algebraic_Kernel19Ideal_Reference19Ideal := by
  intro m g m' g' hpre hagree
  refine ⟨fun c => (Cert.Kernel19Ideal.Gen.dats m 0 c).arrAt 7 (Cert.Kernel19Ideal.cfgs 0).N,
    fun c => (Cert.Kernel19Ideal.Gen.dats m 0 c).arrAt 8 (Cert.Kernel19Ideal.cfgs 0).N, ?_, ?_⟩
  · exact θ_run_mono (Cert.Kernel19Ideal.Gen.run_main m g) fun r hr c => ⟨Cert.Kernel19Ideal.Value.post7 m r hr c,
      Cert.Kernel19Ideal.Value.post8 m r hr c,
      Cert.Kernel19Ideal.Value.kept_main_arg0 m r hr c,
      Cert.Kernel19Ideal.Value.kept_main_arg1 m r hr c,
      Cert.Kernel19Ideal.Value.kept_main_arg2 m r hr c,
      Cert.Kernel19Ideal.Value.kept_main_arg3 m r hr c⟩
  · refine θ_run_mono (Cert.Reference19Ideal.Value.run m' g') fun r' hr c => ?_
    obtain ⟨e1, e2, e3⟩ := hr c
    have k : Cert.Hgrn.Args (rowsOf (m ((c : Thread Cert.Kernel19Ideal.nD Cert.Kernel19Ideal.τ).loc Cert.Kernel19Ideal.main_arg1)) 0)
        (rowsOf (m ((c : Thread Cert.Kernel19Ideal.nD Cert.Kernel19Ideal.τ).loc Cert.Kernel19Ideal.main_arg2)) 0)
        (rowsOf (m ((c : Thread Cert.Kernel19Ideal.nD Cert.Kernel19Ideal.τ).loc Cert.Kernel19Ideal.main_arg3)) 0) m c
        (rowsOf (m ((c : Thread Cert.Kernel19Ideal.nD Cert.Kernel19Ideal.τ).loc Cert.Kernel19Ideal.main_arg0))) :=
      ⟨up_rowsOf _, upr_rowsOf _, upr_rowsOf _, upr_rowsOf _⟩
    have r : Cert.HgrnRef.Args (launchContents m' c)
        (rowsOf (m ((c : Thread Cert.Kernel19Ideal.nD Cert.Kernel19Ideal.τ).loc Cert.Kernel19Ideal.main_arg0)))
        (rowsOf (m ((c : Thread Cert.Kernel19Ideal.nD Cert.Kernel19Ideal.τ).loc Cert.Kernel19Ideal.main_arg1)) 0)
        (rowsOf (m ((c : Thread Cert.Kernel19Ideal.nD Cert.Kernel19Ideal.τ).loc Cert.Kernel19Ideal.main_arg2)) 0) :=
      ⟨(hagree c).1.trans k.h0, (hagree c).2.1.trans k.h1, (hagree c).2.2.1.trans k.h2⟩
    have rw3 := (hagree c).2.2.2.trans k.h3
    exact ⟨(e1.trans (Cert.HgrnRef.result_v100 r rw3)).trans (final_7 k).symm, (e2.trans (Cert.HgrnRef.result_v103 r rw3)).trans (final_8 k).symm, e3⟩

end Cert.HgrnClaim

end
-- ==== Proof.PostLift.lean ====
/- Arrays of reals laid out by rows and head groups, and the operations on them. -/
module

public import proofs.«01_k».proof.Proof.Gen.KernelIdeal
public import proofs.«01_k».proof.Proof.Gen.KernelIdeal.Skeleton
public import proofs.«01_k».proof.Proof.Gen.ReferenceIdeal
public import Idealize.ShloMosaic.Lib.Pipeline.Value
public import Idealize.ShloMosaic.Lib.StableHlo.Run
public import Idealize.ShloMosaic.Lib.Pipeline.ValueKit
public import Idealize.ShloMosaic.Lib.Pointwise
public import Idealize.ShloMosaic.PureOps.Ideal
public import proofs.«01_k».proof.Proof.Reals

@[expose] public section

set_option maxRecDepth 16384

noncomputable section

open Idealize.ShloMosaic Idealize.ShloMosaic.TcCoe Idealize.SL.Sem
open scoped BigOperators

namespace Cert.Lift

/-- The head group of a column. -/
def hd (q : Fin 512) : Fin 8 := ⟨q.val / 64, by omega⟩

/-- The column of place `n` in head group `h`. -/
def at_ (h : Fin 8) (n : Fin 64) : Fin 512 := ⟨h.val * 64 + n.val, by omega⟩

/-- The place of a column in its head group. -/
def lo (q : Fin 512) : Fin 64 := ⟨q.val % 64, by omega⟩

@[simp] theorem hd_at (h : Fin 8) (n : Fin 64) : hd (at_ h n) = h := by
  unfold hd at_; ext; simp only; omega

@[simp] theorem at_hd (q : Fin 512) : at_ (hd q) (lo q) = q := by
  unfold hd at_ lo; ext; simp only; omega

/-- The sum of a row over a head group. -/
def hsum (f : Fin 512 → ℝ) (h : Fin 8) : ℝ := ∑ n : Fin 64, f (at_ h n)

/-- An array of reals of shape `n × 512`. -/
def up2 {n : ℕ} {t : FTy} (f : Fin n → Fin 512 → ℝ) : FVec Ideal ⟨2, ![n, 512]⟩ t := fun i => ((f (i 0) (i 1) : ℝ) : EReal)

/-- The same array with its columns split into head groups and places. -/
def up3 {t : FTy} (f : Fin 4096 → Fin 512 → ℝ) : FVec Ideal ReferenceIdeal.S4096x8x64 t :=
  fun i => ((f (i 0) (at_ (i 1) (i 2)) : ℝ) : EReal)

/-- The cotangent of both mixers' outputs, an array of reals. -/
def upd (d : Fin 4096 → Fin 1024 → ℝ) : FVec Ideal ⟨2, ![4096, 1024]⟩ .f32 := fun i => ((d (i 0) (i 1) : ℝ) : EReal)

/-- The second half of a cotangent row. -/
def right (d : Fin 1024 → ℝ) (q : Fin 512) : ℝ := d ⟨512 + q.val, by omega⟩

/-- One real for each row and head group. -/
def uph {t : FTy} (f : Fin 4096 → Fin 8 → ℝ) : FVec Ideal ReferenceIdeal.S4096x8 t := fun i => ((f (i 0) (i 1) : ℝ) : EReal)

/-- The same with a last axis of one. -/
def uph1 {t : FTy} (f : Fin 4096 → Fin 8 → ℝ) : FVec Ideal ReferenceIdeal.S4096x8x1 t := fun i => ((f (i 0) (i 1) : ℝ) : EReal)

section Elementwise

variable {n : ℕ} {t : FTy}

theorem up2_mul (f g : Fin n → Fin 512 → ℝ) : mulf (up2 f) (up2 g) = up2 (t := t) fun p q => f p q * g p q := by
  funext i; exact (EReal.coe_mul _ _).symm
theorem up2_add (f g : Fin n → Fin 512 → ℝ) : addf (up2 f) (up2 g) = up2 (t := t) fun p q => f p q + g p q := by
  funext i; exact (EReal.coe_add _ _).symm
theorem up2_sub (f g : Fin n → Fin 512 → ℝ) : subf (up2 f) (up2 g) = up2 (t := t) fun p q => f p q - g p q := by
  funext i; exact (EReal.coe_sub _ _).symm
theorem up2_trunc (f : Fin n → Fin 512 → ℝ) (h) : truncf .bf16 (up2 (t := .f32) f) h = up2 f := rfl
theorem up2_ext (f : Fin n → Fin 512 → ℝ) (h) : extf .f32 (up2 (t := .bf16) f) h = up2 f := rfl

end Elementwise

/-- The columns, as pairs of a head group and a place in it. -/
def pairs : Fin 8 × Fin 64 ≃ Fin 512 where
  toFun x := at_ x.1 x.2
  invFun q := (hd q, lo q)
  left_inv x := by
    refine Prod.ext (hd_at x.1 x.2) ?_
    unfold lo at_; ext; simp only; omega
  right_inv := at_hd

/-- One where two columns lie in the same head group, else zero. -/
def same (k q : Fin 512) : ℝ := if hd k = hd q then 1 else 0

/-- Weighing a row by `same` sums it over the column's head group. -/
theorem sum_same (f : Fin 512 → ℝ) (q : Fin 512) : ∑ k, f k * same k q = hsum f (hd q) := by
  rw [← pairs.sum_comp, Fintype.sum_prod_type]
  have e : ∀ h : Fin 8, ∑ n : Fin 64, f (pairs (h, n)) * same (pairs (h, n)) q = if h = hd q then hsum f h else 0 := by
    intro h
    unfold hsum
    split_ifs with hh
    · refine Finset.sum_congr rfl fun n _ => ?_
      show f (at_ h n) * same (at_ h n) q = f (at_ h n)
      rw [same, hd_at, if_pos hh, mul_one]
    · refine Finset.sum_eq_zero fun n _ => ?_
      show f (at_ h n) * same (at_ h n) q = 0
      rw [same, hd_at, if_neg hh, mul_zero]
  rw [Finset.sum_congr rfl fun h _ => e h, Finset.sum_ite_eq' Finset.univ (hd q)]
  simp

/-- The group norm's constant. -/
def eps : ℝ := 10995116 / 2 ^ 34

/-- The mean of a head group's squares is not negative. -/
theorem var_pos (f : Fin 512 → ℝ) (h : Fin 8) : 0 < hsum (fun q => f q * f q) h / 64 + eps := by
  have : 0 ≤ hsum (fun q => f q * f q) h := Finset.sum_nonneg fun n _ => mul_self_nonneg _
  unfold eps
  positivity

/-- A head group of zeros. -/
theorem hsum_zero (h : Fin 8) : hsum (fun _ => 0) h = 0 := Finset.sum_const_zero

section Kernel

open Cert.KernelIdeal Cert.KernelIdeal.Gen

/-- The product with the matrix of head groups sums each row over the column's group. -/
theorem up2_matmul (f : Fin 512 → Fin 512 → ℝ) (h) :
    matmul dot_S512x512_S512x512_S512x512_1_0_0_1_n_n h (up2 (t := .bf16) f) (up2 (t := .bf16) same) (constant S512x512 .f32 0x00000000#32)
      = up2 fun p q => hsum (f p) (hd q) := by
  funext i
  pointwise [up2]
  simp only [← EReal.coe_mul, Reals.sum_coe]
  exact congrArg _ (sum_same (f (i 0)) (i 1))

/-- A row of parameters repeated down a block. -/
theorem up2_row (f : Fin 1 → Fin 512 → ℝ) (h) : broadcastTo S512x512 (up2 (t := .f32) f) h = up2 (n := 512) fun _ q => f 0 q := by
  funext i
  pointwise [up2]

/-- The sum of a block's rows. -/
theorem up2_rows (f : Fin 512 → Fin 512 → ℝ) (h₁ h₂ h₃ h₄) :
    shapeCast S1x512 (multiReduction .add [0] S512 (up2 (t := .f32) f) 0x00000000#32 h₁ h₂ h₃) h₄ = up2 (n := 1) fun _ q => ∑ p, f p q := by
  funext i
  pointwise [up2]
  exact Reals.sum_coe _ _

theorem inv64 : broadcast S512x512 (Scalar.ofBits (F := Ideal) .f32 0x3C800000#32) = up2 fun _ _ => 1 / 64 := by
  funext i
  pointwise [up2, Reals.ofBits_inv64]

theorem negHalf : broadcast S512x512 (Scalar.ofBits (F := Ideal) .f32 0xBF000000#32) = up2 fun _ _ => -(1 / 2) := by
  funext i
  pointwise [up2, Reals.ofBits_neg_half]

theorem epsB : broadcast S512x512 (Scalar.ofBits (F := Ideal) .f32 0x3A27C5AC#32) = up2 fun _ _ => eps := by
  funext i
  pointwise [up2, Reals.ofBits_gn_eps]
  rfl

theorem zeroB : broadcast S512x512 (Scalar.ofBits (F := Ideal) .f32 0x00000000#32) = up2 fun _ _ => 0 := by
  funext i
  pointwise [up2]
  rfl

theorem up2_rsqrt (f : Fin 512 → Fin 512 → ℝ) (hf : ∀ p q, 0 < f p q) :
    rsqrt (up2 f) = up2 (t := .f32) fun p q => (√(f p q))⁻¹ := by
  funext i
  pointwise [up2]
  have := hf (i 0) (i 1)
  unfold Ideal.rsqrt
  exact (if_neg this.not_gt).trans (if_neg this.ne')

theorem up2_div (f g : Fin 512 → Fin 512 → ℝ) (hg : ∀ p q, 0 < g p q) : divf (up2 f) (up2 g) = up2 (t := .f32) fun p q => f p q / g p q := by
  funext i
  pointwise [up2]
  rw [Ideal.div_coe (hg (i 0) (i 1)).ne', ← EReal.coe_mul, mul_one_div]

end Kernel

section Host

open Cert.ReferenceIdeal Cert.ReferenceIdeal.Gen

variable {t : FTy}

/-! Elementwise operations on arrays split into head groups. -/

theorem up3_mul (f g : Fin 4096 → Fin 512 → ℝ) : mulf (up3 f) (up3 g) = up3 (t := t) fun p q => f p q * g p q := by
  funext i; exact (EReal.coe_mul _ _).symm
theorem up3_add (f g : Fin 4096 → Fin 512 → ℝ) : addf (up3 f) (up3 g) = up3 (t := t) fun p q => f p q + g p q := by
  funext i; exact (EReal.coe_add _ _).symm
theorem up3_sub (f g : Fin 4096 → Fin 512 → ℝ) : subf (up3 f) (up3 g) = up3 (t := t) fun p q => f p q - g p q := by
  funext i; exact (EReal.coe_sub _ _).symm
theorem up3_neg (f : Fin 4096 → Fin 512 → ℝ) : Host.negf (up3 f) = up3 (t := t) fun p q => -f p q := by
  funext i; exact (EReal.coe_neg _).symm
theorem uph1_mul (f g : Fin 4096 → Fin 8 → ℝ) : mulf (uph1 f) (uph1 g) = uph1 (t := t) fun p h => f p h * g p h := by
  funext i; exact (EReal.coe_mul _ _).symm
theorem uph1_add (f g : Fin 4096 → Fin 8 → ℝ) : addf (uph1 f) (uph1 g) = uph1 (t := t) fun p h => f p h + g p h := by
  funext i; exact (EReal.coe_add _ _).symm

/-! Splitting the columns into head groups, and joining them. -/

theorem split (f : Fin 4096 → Fin 512 → ℝ) :
    shapeCast S4096x8x64 (up2 (t := .f32) f) shapeCasts_S4096x512_S4096x8x64 = up3 f := by
  funext i
  pointwise [up2, up3]
  rfl

theorem join (f : Fin 4096 → Fin 512 → ℝ) :
    shapeCast S4096x512 (up3 (t := .f32) f) shapeCasts_S4096x8x64_S4096x512 = up2 f := by
  funext i
  pointwise [up2, up3]
  exact congrArg (fun q => ((f (i 0) q : ℝ) : EReal)) (at_hd (i 1))

/-! Sums over the places of a head group, and the ways back. -/

theorem red2 (f : Fin 4096 → Fin 512 → ℝ) :
    Host.reduceAdd (up3 (t := .f32) f) (constant S_ .f32 0x00000000#32) reducesTo_S4096x8x64_S4096x8_d2 h_S_
      = uph fun p h => hsum (f p) h := by
  funext i
  pointwise [up3, uph]
  exact Reals.sum_coe _ _

theorem bc1 (f : Fin 4096 → Fin 8 → ℝ) :
    broadcastInDim S4096x8x1 (![0, 1] : Fin 2 → Fin 3) bcast_S4096x8_S4096x8x1_0_1 (uph (t := .f32) f) = uph1 f := by
  funext i
  pointwise [uph, uph1]

theorem cast1 (f : Fin 4096 → Fin 8 → ℝ) :
    shapeCast S4096x8x1 (uph (t := .f32) f) shapeCasts_S4096x8_S4096x8x1 = uph1 f := by
  funext i
  pointwise [uph, uph1]

theorem red1 (f : Fin 4096 → Fin 8 → ℝ) :
    Host.reduceAdd (uph1 (t := .f32) f) (constant S_ .f32 0x00000000#32) reducesTo_S4096x8x1_S4096x8_d2 h_S_ = uph f := by
  funext i
  pointwise [uph1, uph]
  exact Fintype.sum_unique _

theorem bc3 (f : Fin 4096 → Fin 8 → ℝ) :
    broadcastInDim S4096x8x64 (![0, 1, 2] : Fin 3 → Fin 3) bcast_S4096x8x1_S4096x8x64_0_1_2 (uph1 (t := .f32) f) = up3 fun p q => f p (hd q) := by
  funext i
  pointwise [uph1, up3]
  exact congrArg (fun h => ((f (i 0) h : ℝ) : EReal)) (hd_at (i 1) (i 2)).symm

theorem bc2 (f : Fin 4096 → Fin 8 → ℝ) :
    broadcastInDim S4096x8x64 (![0, 1] : Fin 2 → Fin 3) bcast_S4096x8_S4096x8x64_0_1 (uph (t := .f32) f) = up3 fun p q => f p (hd q) := by
  funext i
  pointwise [uph, up3]
  exact congrArg (fun h => ((f (i 0) h : ℝ) : EReal)) (hd_at (i 1) (i 2)).symm

/-! Rows of parameters. -/

theorem row2 (f : Fin 1 → Fin 512 → ℝ) :
    broadcastInDim S4096x512 (![0, 1] : Fin 2 → Fin 2) bcast_S1x512_S4096x512_0_1 (up2 (t := .f32) f) = up2 fun _ q => f 0 q := by
  funext i
  pointwise [up2]

theorem row3 (f : Fin 1 → Fin 512 → ℝ) :
    broadcastInDim S4096x8x64 (![0, 1, 2] : Fin 3 → Fin 3) bcast_S1x8x64_S4096x8x64_0_1_2
      (broadcastInDim S1x8x64 (![1, 2] : Fin 2 → Fin 3) bcast_S8x64_S1x8x64_1_2 (shapeCast S8x64 (up2 (t := .f32) f) shapeCasts_S1x512_S8x64))
      = up3 fun _ q => f 0 q := by
  funext i
  pointwise [up2, up3]
  rfl

/-- The cotangent's columns of the second mixer. -/
theorem slice (d : Fin 4096 → Fin 1024 → ℝ) :
    extractStridedSlice S4096x512 ![0, 512] (upd d) slices_S4096x1024_S4096x512_0_512 = up2 fun p q => right (d p) q := by
  funext i
  pointwise [up2, upd]
  rfl

/-! Sums over the rows. -/

theorem rows2 (f : Fin 4096 → Fin 512 → ℝ) :
    shapeCast S1x512 (Host.reduceAdd (up2 (t := .f32) f) (constant S_ .f32 0x00000000#32) reducesTo_S4096x512_S512_d0 h_S_)
      shapeCasts_S512_S1x512 = up2 fun _ q => ∑ p, f p q := by
  funext i
  pointwise [up2]
  exact Reals.sum_coe _ _

theorem rows3 (f : Fin 4096 → Fin 512 → ℝ) :
    shapeCast S1x512 (Host.reduceAdd (shapeCast S1x8x64
        (Host.reduceAdd (up3 (t := .f32) f) (constant S_ .f32 0x00000000#32) reducesTo_S4096x8x64_S8x64_d0 h_S_)
        shapeCasts_S8x64_S1x8x64) (constant S_ .f32 0x00000000#32) reducesTo_S1x8x64_S8x64_d0 h_S_) shapeCasts_S8x64_S1x512
      = up2 fun _ q => ∑ p, f p q := by
  funext i
  pointwise [up2, up3]
  refine (Fintype.sum_unique _).trans ((Reals.sum_coe _ _).trans ?_)
  exact congrArg (fun q => ((∑ p, f p q : ℝ) : EReal)) (at_hd (i 1))

/-! Constants, quotients and roots. -/

theorem two3 : broadcastInDim S4096x8x64 (![] : Fin 0 → Fin 3) bcast_S_S4096x8x64 (constant S_ .f32 0x40000000#32 : FVec Ideal S_ .f32) = up3 fun _ _ => 2 := by
  funext i
  pointwise [up3, Reals.ofBits_two]

theorem sixtyFour1 : broadcastInDim S4096x8x1 (![] : Fin 0 → Fin 3) bcast_S_S4096x8x1 (constant S_ .f32 0x42800000#32 : FVec Ideal S_ .f32) = uph1 fun _ _ => 64 := by
  funext i
  pointwise [uph1, Reals.ofBits_64]

theorem negHalf1 : broadcastInDim S4096x8x1 (![] : Fin 0 → Fin 3) bcast_S_S4096x8x1 (constant S_ .f32 0xBF000000#32 : FVec Ideal S_ .f32) = uph1 fun _ _ => -(1 / 2) := by
  funext i
  pointwise [uph1, Reals.ofBits_neg_half]

theorem eps1 : broadcastInDim S4096x8x1 (![] : Fin 0 → Fin 3) bcast_S_S4096x8x1 (constant S_ .f32 0x3A27C5AC#32 : FVec Ideal S_ .f32) = uph1 fun _ _ => eps := by
  funext i
  pointwise [uph1, Reals.ofBits_gn_eps]
  rfl

theorem div64 (f : Fin 4096 → Fin 8 → ℝ) : Host.divf (uph1 f) (uph1 fun _ _ => 64) = uph1 (t := .f32) fun p h => f p h / 64 := by
  funext i
  pointwise [uph1]
  rw [Ideal.div_coe (by norm_num), ← EReal.coe_mul, mul_one_div]

theorem rsqrt1 (f : Fin 4096 → Fin 512 → ℝ) :
    Host.rsqrt (uph1 fun p h => hsum (fun q => f p q * f p q) h / 64 + eps)
      = uph1 (t := .f32) fun p h => (√(hsum (fun q => f p q * f p q) h / 64 + eps))⁻¹ := by
  funext i
  pointwise [uph1]
  have := var_pos (f (i 0)) (i 1)
  unfold Ideal.rsqrt
  exact (if_neg this.not_gt).trans (if_neg this.ne')

theorem div1 (f : Fin 4096 → Fin 512 → ℝ) (g : Fin 4096 → Fin 8 → ℝ) :
    Host.divf (uph1 g) (uph1 fun p h => hsum (fun q => f p q * f p q) h / 64 + eps)
      = uph1 (t := .f32) fun p h => g p h / (hsum (fun q => f p q * f p q) h / 64 + eps) := by
  funext i
  pointwise [uph1]
  rw [Ideal.div_coe (var_pos (f (i 0)) (i 1)).ne', ← EReal.coe_mul, mul_one_div]

end Host

end Cert.Lift

end
-- ==== Proof.PostRows.lean ====
/- The gradient of RWKV-7's group norm, bonus and gate, row by row, over the reals. -/
module

public import proofs.«01_k».proof.Proof.PostLift

@[expose] public section

noncomputable section

open scoped BigOperators

namespace Cert.Rows

open Cert.Lift

/-! One row: `y` the recurrence's output, `r`, `k`, `v` the receptance, key and value, `g` the gate, `a`, `w`, `b` the
bonus's weight and the norm's weight and bias, `d` the cotangent. -/

variable (y r k v g a w b d : Fin 512 → ℝ)

/-- The row less its head group's mean. -/
def yc (q : Fin 512) : ℝ := y q - hsum y (hd q) / 64

/-- A head group's variance and the constant. -/
def den (h : Fin 8) : ℝ := hsum (fun q => yc y q * yc y q) h / 64 + eps

/-- The inverse of its root. -/
def rs (h : Fin 8) : ℝ := (√(den y h))⁻¹

/-- The bonus of a head group. -/
def bonus (h : Fin 8) : ℝ := hsum (fun q => r q * k q * a q) h

/-- The cotangent before the gate, against the value. -/
def against (h : Fin 8) : ℝ := hsum (fun q => d q * g q * v q) h

/-- The gate's gradient. -/
def dgate (q : Fin 512) : ℝ := (yc y q * rs y (hd q) * w q + b q + bonus r k a (hd q) * v q) * d q

/-- The receptance's gradient. -/
def dr (q : Fin 512) : ℝ := against v g d (hd q) * a q * k q

/-- The key's gradient. -/
def dk (q : Fin 512) : ℝ := r q * (against v g d (hd q) * a q)

/-- The value's gradient. -/
def dv (q : Fin 512) : ℝ := bonus r k a (hd q) * (d q * g q)

/-- The row's part of the gradient of the bonus's weight. -/
def da (q : Fin 512) : ℝ := r q * k q * against v g d (hd q)

/-- The row's part of the gradient of the norm's weight. -/
def dw (q : Fin 512) : ℝ := yc y q * rs y (hd q) * (d q * g q)

/-- The row's part of the gradient of the norm's bias. -/
def db (q : Fin 512) : ℝ := d q * g q

/-- The norm's cotangent times its weight. -/
def dn (q : Fin 512) : ℝ := d q * g q * w q

/-- The part of the gradient that comes through the variance. -/
def dvar (q : Fin 512) : ℝ :=
  hsum (fun q => yc y q * dn g w d q) (hd q) * (-(1 / 2) * (rs y (hd q) / den y (hd q))) / 64 * (2 * yc y q)

/-- The gradient of the recurrence's output. -/
def dy (q : Fin 512) : ℝ :=
  dn g w d q * rs y (hd q) + dvar y g w d q
    + (hsum (fun q => -(dn g w d q * rs y (hd q))) (hd q) + hsum (fun q => -dvar y g w d q) (hd q)) / 64

/-- A head group's factor comes out of the group's sum. -/
theorem hsum_mul (f : Fin 512 → ℝ) (c : Fin 8 → ℝ) (h : Fin 8) : hsum (fun q => f q * c (hd q)) h = hsum f h * c h := by
  unfold hsum
  rw [Finset.sum_mul]
  exact Finset.sum_congr rfl fun n _ => by show f (at_ h n) * c (hd (at_ h n)) = _; rw [hd_at]

theorem hsum_add (f e : Fin 512 → ℝ) (h : Fin 8) : hsum (fun q => f q + e q) h = hsum f h + hsum e h := Finset.sum_add_distrib

theorem hsum_neg (f : Fin 512 → ℝ) (h : Fin 8) : hsum (fun q => -f q) h = -hsum f h := Finset.sum_neg_distrib _

/-- The gradient through the variance as the kernel groups it: the group's sum of the products already scaled, taken twice. -/
theorem dvar_eq (q : Fin 512) :
    hsum (fun q => yc y q * dn g w d q * (-(1 / 2) * (rs y (hd q) / den y (hd q))) * (1 / 64)) (hd q) * yc y q * 2 = dvar y g w d q := by
  have e := hsum_mul (fun q => yc y q * dn g w d q) (fun h => -(1 / 2) * (rs y h / den y h) * (1 / 64)) (hd q)
  simp only [← mul_assoc] at e ⊢
  rw [e, dvar]
  ring

/-- The kernel's order of the same gradient. -/
theorem dy_eq (q : Fin 512) (s : Fin 512 → ℝ)
    (hs : s = fun q => hsum (fun q => yc y q * dn g w d q * (-(1 / 2) * (rs y (hd q) / den y (hd q))) * (1 / 64)) (hd q)) :
    dn g w d q * rs y (hd q) + yc y q * s q + s q * yc y q
      + hsum (fun q => (0 - (dn g w d q * rs y (hd q) + yc y q * s q + s q * yc y q)) * (1 / 64)) (hd q) = dy y g w d q := by
  have e : ∀ q, dn g w d q * rs y (hd q) + yc y q * s q + s q * yc y q = dn g w d q * rs y (hd q) + dvar y g w d q := fun q => by
    rw [← dvar_eq, hs]; ring
  simp only [e]
  rw [hsum_mul _ (fun _ => 1 / 64), dy]
  simp only [zero_sub]
  rw [hsum_neg, hsum_neg, hsum_neg, hsum_add]
  ring

end Cert.Rows

end
-- ==== Proof.PostKer.lean ====
/- What one block of the kernel of RWKV-7's group norm, bonus and gate's gradient computes on reals. -/
module

public import proofs.«01_k».proof.Proof.PostRows

@[expose] public section

set_option maxRecDepth 16384

noncomputable section

open Idealize.ShloMosaic Idealize.ShloMosaic.TcCoe Idealize.SL.Sem
open scoped BigOperators

namespace Cert.Post

open Cert.KernelIdeal Cert.KernelIdeal.Gen Cert.Lift Cert.Rows

/-! The blocks hold reals; the last operand is the matrix of head groups. -/

variable (y r k v g d : Fin 512 → Fin 512 → ℝ) (a w b : Fin 1 → Fin 512 → ℝ)

/-- A block of reals. -/
abbrev blk (f : Fin 512 → Fin 512 → ℝ) : FVec Ideal S512x512 .f32 := up2 f

/-- A row of reals. -/
abbrev row (f : Fin 1 → Fin 512 → ℝ) : FVec Ideal S1x512 .f32 := up2 f

/-- One in sixty-four, as the kernel's body hands it on. -/
abbrev inv : Ideal .f32 := Scalar.ofBits .f32 0x3C800000#32

/-- The matrix of head groups as the kernel reads it. -/
theorem pay7 : k0_pay7 (blk same) = blk same := by
  funext i; pointwise [k0_pay7]

theorem pay8 : k0_pay8 (blk y) (blk same) = blk fun p q => yc (y p) q := by
  simp only [k0_pay8, pay7, up2_trunc, up2_ext, up2_sub, up2_mul, up2_add, up2_matmul, sub_self, hsum_zero, add_zero, inv64]
  refine congrArg up2 (funext fun p => funext fun q => ?_)
  unfold yc; ring

theorem pay9 : k0_pay9 (blk y) (blk same) = blk fun p q => hsum (fun q => yc (y p) q * yc (y p) q) (hd q) := by
  simp only [k0_pay9, pay7, pay8, up2_trunc, up2_ext, up2_sub, up2_mul, up2_add, up2_matmul, sub_self, hsum_zero, add_zero]

theorem den_eq (p q) : hsum (fun q => yc (y p) q * yc (y p) q) (hd q) * (1 / 64) + eps = den (y p) (hd q) := by
  unfold den; ring

theorem den_pos (p q : Fin 512) : 0 < den (y p) (hd q) := var_pos _ _

theorem pay11 : k0_pay11 (k0_pay9 (blk y) (blk same)) inv = blk fun p q => rs (y p) (hd q) := by
  rw [pay9]
  simp only [k0_pay11, k0_pay10, inv64, epsB, up2_mul, up2_add, den_eq]
  exact up2_rsqrt _ (den_pos y)

theorem pay12 : k0_pay12 (k0_pay9 (blk y) (blk same)) inv = blk fun p q => -(1 / 2) * (rs (y p) (hd q) / den (y p) (hd q)) := by
  unfold k0_pay12
  rw [pay11, pay9]
  simp only [k0_pay10, inv64, negHalf, epsB, up2_mul, up2_add, den_eq]
  rw [up2_div _ _ (den_pos y), up2_mul]

theorem pay13 : k0_pay13 (k0_pay8 (blk y) (blk same)) (k0_pay9 (blk y) (blk same)) inv = blk fun p q => yc (y p) q * rs (y p) (hd q) := by
  unfold k0_pay13
  rw [pay11, pay8]
  exact up2_mul _ _

theorem pay15 : k0_pay15 (blk r) (blk k) (row a) (k0_pay7 (blk same)) = blk fun p q => bonus (r p) (k p) (a 0) (hd q) := by
  simp only [k0_pay15, k0_pay14, pay7, up2_row, up2_trunc, up2_ext, up2_sub, up2_mul, up2_add, up2_matmul, sub_self, hsum_zero, add_zero]
  rfl

theorem pay17 : k0_pay17 (blk g) (blk d) = blk fun p q => d p q * g p q := up2_mul _ _

theorem pay19 : k0_pay19 (blk v) (blk g) (k0_pay7 (blk same)) (blk d) = blk fun p q => against (v p) (g p) (d p) (hd q) := by
  simp only [k0_pay19, pay17, pay7, up2_row, up2_trunc, up2_ext, up2_sub, up2_mul, up2_add, up2_matmul, sub_self, hsum_zero, add_zero]
  rfl

/-- The block of the gate's gradient. -/
theorem pay16 : k0_pay16 (blk r) (blk k) (blk v) (row a) (row w) (row b) (k0_pay7 (blk same)) (blk d)
      (k0_pay8 (blk y) (blk same)) (k0_pay9 (blk y) (blk same)) inv
    = blk fun p q => dgate (y p) (r p) (k p) (v p) (a 0) (w 0) (b 0) (d p) q := by
  unfold k0_pay16
  rw [pay13, pay15]
  simp only [up2_row, up2_mul, up2_add]
  rfl

/-- The block of the value's gradient. -/
theorem pay18 : k0_pay18 (blk r) (blk k) (blk g) (row a) (k0_pay7 (blk same)) (blk d) = blk fun p q => dv (r p) (k p) (g p) (a 0) (d p) q := by
  unfold k0_pay18
  rw [pay15, pay17]
  exact up2_mul _ _

/-- The block's part of the gradient of the bonus's weight. -/
theorem pay20 : k0_pay20 (blk r) (blk k) (blk v) (blk g) (k0_pay7 (blk same)) (blk d)
    = row fun _ q => ∑ p, da (r p) (k p) (v p) (g p) (d p) q := by
  unfold k0_pay20 k0_pay14
  rw [pay19]
  simp only [up2_mul]
  exact up2_rows _ _ _ _ _

theorem pay21 : k0_pay21 (blk v) (blk g) (row a) (k0_pay7 (blk same)) (blk d) = blk fun p q => against (v p) (g p) (d p) (hd q) * a 0 q := by
  unfold k0_pay21
  rw [pay19]
  simp only [up2_row, up2_mul]

/-- The block of the key's gradient. -/
theorem pay22 : k0_pay22 (blk r) (blk v) (blk g) (row a) (k0_pay7 (blk same)) (blk d) = blk fun p q => dk (r p) (v p) (g p) (a 0) (d p) q := by
  unfold k0_pay22
  rw [pay21]
  exact up2_mul _ _

/-- The block of the receptance's gradient. -/
theorem pay23 : k0_pay23 (blk k) (blk v) (blk g) (row a) (k0_pay7 (blk same)) (blk d) = blk fun p q => dr (k p) (v p) (g p) (a 0) (d p) q := by
  unfold k0_pay23
  rw [pay21]
  exact up2_mul _ _

/-- The block's part of the gradient of the norm's bias. -/
theorem pay24 : k0_pay24 (blk g) (blk d) = row fun _ q => ∑ p, db (g p) (d p) q := by
  unfold k0_pay24
  rw [pay17]
  exact up2_rows _ _ _ _ _

/-- The block's part of the gradient of the norm's weight. -/
theorem pay26 : k0_pay26 (k0_pay25 (blk g) (blk d) (k0_pay8 (blk y) (blk same)) (k0_pay9 (blk y) (blk same)) inv)
    = row fun _ q => ∑ p, dw (y p) (g p) (d p) q := by
  unfold k0_pay26 k0_pay25
  rw [pay13, pay17]
  simp only [up2_mul]
  exact up2_rows _ _ _ _ _

/-- The block of the gradient of the recurrence's output. -/
theorem pay27 : k0_pay27 (row w) (k0_pay7 (blk same)) (k0_pay8 (blk y) (blk same)) (k0_pay11 (k0_pay9 (blk y) (blk same)) inv)
      (k0_pay12 (k0_pay9 (blk y) (blk same)) inv) (k0_pay17 (blk g) (blk d))
    = blk fun p q => dy (y p) (g p) (w 0) (d p) q := by
  unfold k0_pay27
  rw [pay7, pay12, pay11, pay8, pay17]
  simp only [up2_row, up2_trunc, up2_ext, up2_sub, up2_mul, up2_add, up2_matmul, sub_self, hsum_zero, add_zero, inv64, zeroB]
  exact congrArg up2 (funext fun p => funext fun q => dy_eq (y p) (g p) (w 0) (d p) q _ rfl)

end Cert.Post

end
-- ==== Proof.PostRef.lean ====
/- What the reference's gradient of RWKV-7's group norm, bonus and gate computes on real arrays. -/
module

public import proofs.«01_k».proof.Proof.Gen.ReferenceIdeal.Run
public import proofs.«01_k».proof.Proof.PostRows

@[expose] public section

set_option maxRecDepth 16384

noncomputable section

open Idealize.ShloMosaic Idealize.ShloMosaic.TcCoe Idealize.SL.Sem
open scoped BigOperators

namespace Cert.ReferenceIdeal.Rows

open Cert.ReferenceIdeal Cert.ReferenceIdeal.Gen Cert.Lift Cert.Rows

variable (m : (ℓ : Loc nD τ sig) → Buf (Elt Ideal) ℓ) (ρ : Dev nD → PrngReg)

set_option maxHeartbeats 2000000 in
/-- Where the arguments hold reals, the eight results hold the row formulas. -/
theorem run (y r k v g : Dev nD → Fin 4096 → Fin 512 → ℝ) (a w b : Dev nD → Fin 1 → Fin 512 → ℝ) (d : Dev nD → Fin 4096 → Fin 1024 → ℝ)
    (hy : ∀ c : Dev nD, m ((c.tc : Thread nD τ).loc main_arg0) = up2 (t := .f32) (y c)) (hr : ∀ c : Dev nD, m ((c.tc : Thread nD τ).loc main_arg1) = up2 (t := .f32) (r c))
    (hk : ∀ c : Dev nD, m ((c.tc : Thread nD τ).loc main_arg2) = up2 (t := .f32) (k c)) (hv : ∀ c : Dev nD, m ((c.tc : Thread nD τ).loc main_arg3) = up2 (t := .f32) (v c))
    (hg : ∀ c : Dev nD, m ((c.tc : Thread nD τ).loc main_arg4) = up2 (t := .f32) (g c)) (ha : ∀ c : Dev nD, m ((c.tc : Thread nD τ).loc main_arg5) = up2 (t := .f32) (a c))
    (hw : ∀ c : Dev nD, m ((c.tc : Thread nD τ).loc main_arg6) = up2 (t := .f32) (w c)) (hb : ∀ c : Dev nD, m ((c.tc : Thread nD τ).loc main_arg7) = up2 (t := .f32) (b c))
    (hc : ∀ c : Dev nD, m ((c.tc : Thread nD τ).loc main_arg8) = upd (d c)) :
    θ_run defs (onTc (τ := τ) (main (F := Ideal))) ⟨m, fun _ => 0, ρ⟩ fun r' => ∀ c : Dev nD,
      r'.2.mem ((c.tc : Thread nD τ).loc main_v96) = up2 (t := .f32) (fun p q => dy (y c p) (g c p) (w c 0) (right (d c p)) q)
      ∧ r'.2.mem ((c.tc : Thread nD τ).loc main_v99) = up2 (t := .f32) (fun p q => dr (k c p) (v c p) (g c p) (a c 0) (right (d c p)) q)
      ∧ r'.2.mem ((c.tc : Thread nD τ).loc main_v98) = up2 (t := .f32) (fun p q => dk (r c p) (v c p) (g c p) (a c 0) (right (d c p)) q)
      ∧ r'.2.mem ((c.tc : Thread nD τ).loc main_v97) = up2 (t := .f32) (fun p q => dv (r c p) (k c p) (g c p) (a c 0) (right (d c p)) q)
      ∧ r'.2.mem ((c.tc : Thread nD τ).loc main_v45)
          = up2 (t := .f32) (fun p q => dgate (y c p) (r c p) (k c p) (v c p) (a c 0) (w c 0) (b c 0) (right (d c p)) q)
      ∧ r'.2.mem ((c.tc : Thread nD τ).loc main_v61) = up2 (n := 1) (t := .f32) (fun _ q => ∑ p, da (r c p) (k c p) (v c p) (g c p) (right (d c p)) q)
      ∧ r'.2.mem ((c.tc : Thread nD τ).loc main_v68) = up2 (n := 1) (t := .f32) (fun _ q => ∑ p, dw (y c p) (g c p) (right (d c p)) q)
      ∧ r'.2.mem ((c.tc : Thread nD τ).loc main_v65) = up2 (n := 1) (t := .f32) (fun _ q => ∑ p, db (g c p) (right (d c p)) q)
      ∧ r'.2.mem ((c.tc : Thread nD τ).loc main_arg0) = m ((c.tc : Thread nD τ).loc main_arg0)
      ∧ r'.2.mem ((c.tc : Thread nD τ).loc main_arg1) = m ((c.tc : Thread nD τ).loc main_arg1)
      ∧ r'.2.mem ((c.tc : Thread nD τ).loc main_arg2) = m ((c.tc : Thread nD τ).loc main_arg2)
      ∧ r'.2.mem ((c.tc : Thread nD τ).loc main_arg3) = m ((c.tc : Thread nD τ).loc main_arg3)
      ∧ r'.2.mem ((c.tc : Thread nD τ).loc main_arg4) = m ((c.tc : Thread nD τ).loc main_arg4)
      ∧ r'.2.mem ((c.tc : Thread nD τ).loc main_arg5) = m ((c.tc : Thread nD τ).loc main_arg5)
      ∧ r'.2.mem ((c.tc : Thread nD τ).loc main_arg6) = m ((c.tc : Thread nD τ).loc main_arg6)
      ∧ r'.2.mem ((c.tc : Thread nD τ).loc main_arg7) = m ((c.tc : Thread nD τ).loc main_arg7)
      ∧ r'.2.mem ((c.tc : Thread nD τ).loc main_arg8) = m ((c.tc : Thread nD τ).loc main_arg8) := by
  refine θ_run_mono (Value.run (F := Ideal) m ρ) fun r' h c => ?_
  obtain ⟨h1, h2, h3, h4, h5, h6, h7, h8, hargs⟩ := h c
  unfold Value.res_main_v96 at h1
  simp only [hy, hr, hk, hv, hg, ha, hw, hb, hc, slice, split, join, row2, row3, red2, bc1, bc2, bc3, cast1, red1, up3_mul, up3_add, up3_sub, up3_neg,
    up2_mul, up2_add, up2_sub, uph1_mul, uph1_add, two3, sixtyFour1, negHalf1, eps1, div64, rsqrt1, div1, rows2, rows3] at h1 h2 h3 h4 h5 h6 h7 h8
  exact ⟨h1.trans (join _), h2, h3, h4, h5, h6, h7, h8, hargs⟩

end Cert.ReferenceIdeal.Rows

end
-- ==== Proof.Post.lean ====
/- The kernel of RWKV-7's group norm, bonus and gate's gradient: the blocks make up the arrays, and the claim. -/
module

public import proofs.«01_k».proof.Proof.Gen.KernelIdeal.Value
public import proofs.«01_k».proof.Proof.Gen.KernelIdeal.Frame
public import proofs.«01_k».proof.Proof.PostKer
public import proofs.«01_k».proof.Proof.PostRef

@[expose] public section

set_option maxRecDepth 16384

noncomputable section

open Idealize.ShloMosaic Idealize.ShloMosaic.TcCoe Idealize.SL.Sem
open scoped BigOperators

namespace Cert.Post

open Cert.KernelIdeal Cert.KernelIdeal.Gen Cert.Lift Cert.Rows

variable (m : (ℓ : Loc nD τ sig) → Buf (Elt Ideal) ℓ) (c : Dev nD)

/-! The block indices of the windows at a grid point. -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_9.index t = ![t.val, 1] :=
  (by decide +kernel : ∀ t : Fin grid0.N, _)

theorem idxRow : ∀ t : Fin cfg0.N, win0_5.index t = ![0, 0] ∧ win0_6.index t = ![0, 0] ∧ win0_7.index t = ![0, 0] ∧ win0_8.index t = ![0, 0] :=
  (by decide +kernel : ∀ t : Fin grid0.N, _)

theorem idxOut : ∀ t : Fin cfg0.N, win0_10.index t = ![t.val, 0] ∧ win0_11.index t = ![t.val, 0] ∧ win0_12.index t = ![t.val, 0]
    ∧ win0_13.index t = ![t.val, 0] ∧ win0_14.index t = ![t.val, 0] :=
  (by decide +kernel : ∀ t : Fin grid0.N, _)

theorem idxSum : ∀ t : Fin cfg0.N, win0_15.index t = ![0, 0] ∧ win0_16.index t = ![0, 0] ∧ win0_17.index t = ![0, 0] :=
  (by decide +kernel : ∀ t : Fin grid0.N, _)

/-- The array's row at row `p` of block `t`. -/
def rowOf (t : Fin cfg0.N) (p : Fin 512) : Fin 4096 := ⟨512 * t.val + p.val, by have := t.isLt; have e : cfg0.N = 8 := N_0; omega⟩

variable (y r k v g : Fin 4096 → Fin 512 → ℝ) (a w b : Fin 1 → Fin 512 → ℝ) (d : Fin 4096 → Fin 1024 → ℝ)

/-- The arguments hold reals. -/
structure Real : Prop where
  h0 : m ((c : Thread nD τ).loc main_arg0) = up2 (t := .f32) y
  h1 : m ((c : Thread nD τ).loc main_arg1) = up2 (t := .f32) r
  h2 : m ((c : Thread nD τ).loc main_arg2) = up2 (t := .f32) k
  h3 : m ((c : Thread nD τ).loc main_arg3) = up2 (t := .f32) v
  h4 : m ((c : Thread nD τ).loc main_arg4) = up2 (t := .f32) g
  h5 : m ((c : Thread nD τ).loc main_arg5) = up2 (t := .f32) a
  h6 : m ((c : Thread nD τ).loc main_arg6) = up2 (t := .f32) w
  h7 : m ((c : Thread nD τ).loc main_arg7) = up2 (t := .f32) b
  h8 : m ((c : Thread nD τ).loc main_arg8) = upd d

variable {m c y r k v g a w b d} (h : Real m c y r k v g a w b d)

include h

/-! The blocks of the arguments. -/

theorem iblk0 (t : Fin cfg0.N) : iblk m c 0 t = blk fun p => y (rowOf t p) := by
  funext i
  have e : (blk fun p => y (rowOf t p)) i = m ((c : Thread nD τ).loc main_arg0) (ix2 (rowOf t (i 0)) (i 1)) := by rw [h.h0]; rfl
  rw [e]
  blk_point [iblk, V, idx t, rowOf]

theorem iblk1 (t : Fin cfg0.N) : iblk m c 1 t = blk fun p => r (rowOf t p) := by
  funext i
  have e : (blk fun p => r (rowOf t p)) i = m ((c : Thread nD τ).loc main_arg1) (ix2 (rowOf t (i 0)) (i 1)) := by rw [h.h1]; rfl
  rw [e]
  blk_point [iblk, V, idx t, rowOf]

theorem iblk2 (t : Fin cfg0.N) : iblk m c 2 t = blk fun p => k (rowOf t p) := by
  funext i
  have e : (blk fun p => k (rowOf t p)) i = m ((c : Thread nD τ).loc main_arg2) (ix2 (rowOf t (i 0)) (i 1)) := by rw [h.h2]; rfl
  rw [e]
  blk_point [iblk, V, idx t, rowOf]

theorem iblk3 (t : Fin cfg0.N) : iblk m c 3 t = blk fun p => v (rowOf t p) := by
  funext i
  have e : (blk fun p => v (rowOf t p)) i = m ((c : Thread nD τ).loc main_arg3) (ix2 (rowOf t (i 0)) (i 1)) := by rw [h.h3]; rfl
  rw [e]
  blk_point [iblk, V, idx t, rowOf]

theorem iblk4 (t : Fin cfg0.N) : iblk m c 4 t = blk fun p => g (rowOf t p) := by
  funext i
  have e : (blk fun p => g (rowOf t p)) i = m ((c : Thread nD τ).loc main_arg4) (ix2 (rowOf t (i 0)) (i 1)) := by rw [h.h4]; rfl
  rw [e]
  blk_point [iblk, V, idx t, rowOf]

theorem iblk5 (t : Fin cfg0.N) : iblk m c 5 t = row a := by
  funext i
  have e : row a i = m ((c : Thread nD τ).loc main_arg5) i := by rw [h.h5]
  rw [e]
  blk_point [iblk, V, idxRow t]

theorem iblk6 (t : Fin cfg0.N) : iblk m c 6 t = row w := by
  funext i
  have e : row w i = m ((c : Thread nD τ).loc main_arg6) i := by rw [h.h6]
  rw [e]
  blk_point [iblk, V, idxRow t]

theorem iblk7 (t : Fin cfg0.N) : iblk m c 7 t = row b := by
  funext i
  have e : row b i = m ((c : Thread nD τ).loc main_arg7) i := by rw [h.h7]
  rw [e]
  blk_point [iblk, V, idxRow t]

theorem iblk9 (t : Fin cfg0.N) : iblk m c 9 t = blk fun p => right (d (rowOf t p)) := by
  funext i
  have e : (blk fun p => right (d (rowOf t p))) i = m ((c : Thread nD τ).loc main_arg8)
      (ix2 (rowOf t (i 0)) ⟨512 + (i 1).val, by have e : (i 1).val < 512 := (i 1).isLt; omega⟩) := by rw [h.h8]; rfl
  rw [e]
  blk_point [iblk, V, idx t, rowOf]

omit h

/-- Comparing two of eight head groups. -/
theorem cmp : ∀ a b : Fin 8, IntOp.cmpi CmpIPredicate.eq (IntOp.addi (BitVec.ofNat 32 a.val) 0#32) (BitVec.ofNat 32 b.val)
    = if a = b then 1#1 else 0#1 := by
  decide

variable (m c) in
/-- The host's matrix of head groups. -/
theorem ones : V m c main_v7 = blk same := by
  show StableHlo.after [hostOps0, hostOps0_1].flatten (fun b => m (c, b)) (Proc.tc.devRef main_v7) = _
  simp only [List.flatten_cons, List.flatten_nil, hostOps0, hostOps0_1, List.cons_append, List.nil_append, List.append_nil]
  after_results_simp
  show shapeCast S512x512 (mulf
      (broadcastInDim S8x64x8x64 ![0, 1, 2, 3] bcast_S8x1x8x1_S8x64x8x64_0_1_2_3 (broadcastInDim S8x1x8x1 ![0, 2] bcast_S8x8_S8x1x8x1_0_2
        (uitofp .f32 (cmpi .eq (addi (iotaInDim S8x8 32 0) (broadcastInDim S8x8 ![] bcast_S_S8x8 (constantI S_ 32 0#32)))
          (iotaInDim S8x8 32 1)))))
      (broadcastInDim S8x64x8x64 ![0, 1, 2, 3] bcast_S1x64x1x64_S8x64x8x64_0_1_2_3 (broadcastInDim S1x64x1x64 ![1, 3]
        bcast_S64x64_S1x64x1x64_1_3 (broadcastInDim S64x64 ![] bcast_S_S64x64 (constant (F := Ideal) S_ .f32 1065353216#32)))))
    shapeCasts_S8x64x8x64_S512x512 = _
  funext i
  pointwise [up2, same, Reals.ofBits_one]
  rw [cmp ⟨(i 0).val / 64, by have e : (i 0).val < 512 := (i 0).isLt; omega⟩ ⟨(i 1).val / 64, by have e : (i 1).val < 512 := (i 1).isLt; omega⟩]
  show (FloatOps.uitofp FTy.f32 (if hd (i 0) = hd (i 1) then 1#1 else 0#1) : Ideal .f32) * ((1 : ℝ) : EReal) = _
  split_ifs
  · rw [EReal.coe_one, mul_one]; simp [FloatOps.uitofp]
  · rw [EReal.coe_one, mul_one]; simp [FloatOps.uitofp]

variable (m c) in
theorem iblk8 (t : Fin cfg0.N) : iblk m c 8 t = blk same := by
  funext i
  have e : blk same i = V m c main_v7 i := by rw [ones]
  rw [e]
  blk_point [iblk, idxRow t]

include h

/-- What the run leaves in the array of the recurrence's output's gradient. -/
theorem final_10 : (dats m 0 c).arrAt 10 (cfgs 0).N = up2 (n := 4096) (t := .f32) fun p q => dy (y p) (g p) (w 0) (right (d p)) q := by
  refine (dats m 0 c).arrAt_eq_of_covers 10 _ (by decide +kernel) fun t hf y' => ?_
  have e : up2 (n := 4096) (t := .f32) (fun p q => dy (y p) (g p) (w 0) (right (d p)) q) (((cfg0.win 10).blk t).view.emb y')
      = up2 (n := 4096) (t := .f32) (fun p q => dy (y p) (g p) (w 0) (right (d p)) q) (ix2 (rowOf t (y' 0)) (y' 1)) := by
    blk_point [idxOut t, rowOf]
  blk_simp; rw [after0_10]
  by_cases h' : t.val % 8 = 0
  · rw [outsAt0_A m c t h' h' h']; frame_out; simp only [iblk0 h t, iblk1 h t, iblk2 h t, iblk3 h t, iblk4 h t, iblk5 h t, iblk6 h t, iblk7 h t, iblk8 m c t, iblk9 h t, pay27]; exact e.symm
  · rw [outsAt0_B m c t h' h' h']; frame_out; simp only [iblk0 h t, iblk1 h t, iblk2 h t, iblk3 h t, iblk4 h t, iblk5 h t, iblk6 h t, iblk7 h t, iblk8 m c t, iblk9 h t, pay27]; exact e.symm

/-- What the run leaves in the array of the receptance's gradient. -/
theorem final_11 : (dats m 0 c).arrAt 11 (cfgs 0).N = up2 (n := 4096) (t := .f32) fun p q => dr (k p) (v p) (g p) (a 0) (right (d p)) q := by
  refine (dats m 0 c).arrAt_eq_of_covers 11 _ (by decide +kernel) fun t hf y' => ?_
  have e : up2 (n := 4096) (t := .f32) (fun p q => dr (k p) (v p) (g p) (a 0) (right (d p)) q) (((cfg0.win 11).blk t).view.emb y')
      = up2 (n := 4096) (t := .f32) (fun p q => dr (k p) (v p) (g p) (a 0) (right (d p)) q) (ix2 (rowOf t (y' 0)) (y' 1)) := by
    blk_point [idxOut t, rowOf]
  blk_simp; rw [after0_11]
  by_cases h' : t.val % 8 = 0
  · rw [outsAt0_A m c t h' h' h']; frame_out; simp only [iblk0 h t, iblk1 h t, iblk2 h t, iblk3 h t, iblk4 h t, iblk5 h t, iblk6 h t, iblk7 h t, iblk8 m c t, iblk9 h t, pay23]; exact e.symm
  · rw [outsAt0_B m c t h' h' h']; frame_out; simp only [iblk0 h t, iblk1 h t, iblk2 h t, iblk3 h t, iblk4 h t, iblk5 h t, iblk6 h t, iblk7 h t, iblk8 m c t, iblk9 h t, pay23]; exact e.symm

/-- What the run leaves in the array of the key's gradient. -/
theorem final_12 : (dats m 0 c).arrAt 12 (cfgs 0).N = up2 (n := 4096) (t := .f32) fun p q => dk (r p) (v p) (g p) (a 0) (right (d p)) q := by
  refine (dats m 0 c).arrAt_eq_of_covers 12 _ (by decide +kernel) fun t hf y' => ?_
  have e : up2 (n := 4096) (t := .f32) (fun p q => dk (r p) (v p) (g p) (a 0) (right (d p)) q) (((cfg0.win 12).blk t).view.emb y')
      = up2 (n := 4096) (t := .f32) (fun p q => dk (r p) (v p) (g p) (a 0) (right (d p)) q) (ix2 (rowOf t (y' 0)) (y' 1)) := by
    blk_point [idxOut t, rowOf]
  blk_simp; rw [after0_12]
  by_cases h' : t.val % 8 = 0
  · rw [outsAt0_A m c t h' h' h']; frame_out; simp only [iblk0 h t, iblk1 h t, iblk2 h t, iblk3 h t, iblk4 h t, iblk5 h t, iblk6 h t, iblk7 h t, iblk8 m c t, iblk9 h t, pay22]; exact e.symm
  · rw [outsAt0_B m c t h' h' h']; frame_out; simp only [iblk0 h t, iblk1 h t, iblk2 h t, iblk3 h t, iblk4 h t, iblk5 h t, iblk6 h t, iblk7 h t, iblk8 m c t, iblk9 h t, pay22]; exact e.symm

/-- What the run leaves in the array of the value's gradient. -/
theorem final_13 : (dats m 0 c).arrAt 13 (cfgs 0).N = up2 (n := 4096) (t := .f32) fun p q => dv (r p) (k p) (g p) (a 0) (right (d p)) q := by
  refine (dats m 0 c).arrAt_eq_of_covers 13 _ (by decide +kernel) fun t hf y' => ?_
  have e : up2 (n := 4096) (t := .f32) (fun p q => dv (r p) (k p) (g p) (a 0) (right (d p)) q) (((cfg0.win 13).blk t).view.emb y')
      = up2 (n := 4096) (t := .f32) (fun p q => dv (r p) (k p) (g p) (a 0) (right (d p)) q) (ix2 (rowOf t (y' 0)) (y' 1)) := by
    blk_point [idxOut t, rowOf]
  blk_simp; rw [after0_13]
  by_cases h' : t.val % 8 = 0
  · rw [outsAt0_A m c t h' h' h']; frame_out; simp only [iblk0 h t, iblk1 h t, iblk2 h t, iblk3 h t, iblk4 h t, iblk5 h t, iblk6 h t, iblk7 h t, iblk8 m c t, iblk9 h t, pay18]; exact e.symm
  · rw [outsAt0_B m c t h' h' h']; frame_out; simp only [iblk0 h t, iblk1 h t, iblk2 h t, iblk3 h t, iblk4 h t, iblk5 h t, iblk6 h t, iblk7 h t, iblk8 m c t, iblk9 h t, pay18]; exact e.symm

/-- What the run leaves in the array of the gate's gradient. -/
theorem final_14 : (dats m 0 c).arrAt 14 (cfgs 0).N = up2 (n := 4096) (t := .f32) fun p q => dgate (y p) (r p) (k p) (v p) (a 0) (w 0) (b 0) (right (d p)) q := by
  refine (dats m 0 c).arrAt_eq_of_covers 14 _ (by decide +kernel) fun t hf y' => ?_
  have e : up2 (n := 4096) (t := .f32) (fun p q => dgate (y p) (r p) (k p) (v p) (a 0) (w 0) (b 0) (right (d p)) q) (((cfg0.win 14).blk t).view.emb y')
      = up2 (n := 4096) (t := .f32) (fun p q => dgate (y p) (r p) (k p) (v p) (a 0) (w 0) (b 0) (right (d p)) q) (ix2 (rowOf t (y' 0)) (y' 1)) := by
    blk_point [idxOut t, rowOf]
  blk_simp; rw [after0_14]
  by_cases h' : t.val % 8 = 0
  · rw [outsAt0_A m c t h' h' h']; frame_out; simp only [iblk0 h t, iblk1 h t, iblk2 h t, iblk3 h t, iblk4 h t, iblk5 h t, iblk6 h t, iblk7 h t, iblk8 m c t, iblk9 h t, pay16]; exact e.symm
  · rw [outsAt0_B m c t h' h' h']; frame_out; simp only [iblk0 h t, iblk1 h t, iblk2 h t, iblk3 h t, iblk4 h t, iblk5 h t, iblk6 h t, iblk7 h t, iblk8 m c t, iblk9 h t, pay16]; exact e.symm

omit h

/-- The blocks' sums make up the sum over the rows. -/
theorem sum_rows (f : Fin 4096 → Fin 512 → ℝ) (q : Fin 512) :
    ∑ t : Fin 8, ((∑ p, f (rowOf ⟨t.val, by have e : cfg0.N = 8 := N_0; omega⟩ p) q : ℝ) : EReal) = ((∑ p, f p q : ℝ) : EReal) := by
  simp only [← Reals.sum_coe]
  refine Fin.sum_mul_add_congr fun s k hl => ?_
  refine congrArg (fun p => ((f p q : ℝ) : EReal)) (Fin.ext ?_)
  simp only [rowOf]
  omega

theorem pay1_zero (j) : k0_pay1 (F := Ideal) j = 0 := by pointwise! [k0_pay1]

theorem pay2_add (v w : FVec Ideal S1x512 .f32) (j) : k0_pay2 v w j = (w j : EReal) + v j := by pointwise [k0_pay2]

theorem pay3_zero (j) : k0_pay3 (F := Ideal) j = 0 := by pointwise! [k0_pay3]

theorem pay4_add (v w : FVec Ideal S1x512 .f32) (j) : k0_pay4 v w j = (w j : EReal) + v j := by pointwise [k0_pay4]

theorem pay5_zero (j) : k0_pay5 (F := Ideal) j = 0 := by pointwise! [k0_pay5]

theorem pay6_add (v w : FVec Ideal S1x512 .f32) (j) : k0_pay6 v w j = (w j : EReal) + v j := by pointwise [k0_pay6]

include h

/-- What the run leaves in the array of the bonus's weight's gradient. -/
theorem final_15 : (dats m 0 c).arrAt 15 (cfgs 0).N = up2 (n := 1) (t := .f32) fun _ q => ∑ p, da (r p) (k p) (v p) (g p) (right (d p)) q := by
  refine (dats m 0 c).arrAt_eq_of_after_last 15 t0_7 (by decide +kernel) _ fun j => ?_
  blk_simp
  rw [after0_15, Pipeline.eq_sum_fin_of_reset_step_apply_last (fun n h => (outsAt0 m c n h).2.2.2.2.2.1) 8 (fun _ => 0)
    (fun t j => row (fun _ q => ∑ p, da (r (rowOf t p)) (k (rowOf t p)) (v (rowOf t p)) (g (rowOf t p)) (right (d (rowOf t p))) q) j)
    (fun t h' j => by rw [outsAt0_A m c t h' h' h']; frame_out; simp only [iblk0 h t, iblk1 h t, iblk2 h t, iblk3 h t, iblk4 h t, iblk5 h t, iblk6 h t, iblk7 h t, iblk8 m c t, iblk9 h t, pay20]; rw [pay2_add, pay1_zero])
    (fun t h' j => by rw [outsAt0_B m c t h' h' h']; frame_out; simp only [iblk0 h t, iblk1 h t, iblk2 h t, iblk3 h t, iblk4 h t, iblk5 h t, iblk6 h t, iblk7 h t, iblk8 m c t, iblk9 h t, pay20]; rw [pay2_add])
    (le_of_eq N_0) t0_7 rfl j, zero_add]
  exact sum_rows (fun p q => da (r p) (k p) (v p) (g p) (right (d p)) q) (j 1)

/-- What the run leaves in the array of the norm's weight's gradient. -/
theorem final_16 : (dats m 0 c).arrAt 16 (cfgs 0).N = up2 (n := 1) (t := .f32) fun _ q => ∑ p, dw (y p) (g p) (right (d p)) q := by
  refine (dats m 0 c).arrAt_eq_of_after_last 16 t0_7 (by decide +kernel) _ fun j => ?_
  blk_simp
  rw [after0_16, Pipeline.eq_sum_fin_of_reset_step_apply_last (fun n h => (outsAt0 m c n h).2.2.2.2.2.2.1) 8 (fun _ => 0)
    (fun t j => row (fun _ q => ∑ p, dw (y (rowOf t p)) (g (rowOf t p)) (right (d (rowOf t p))) q) j)
    (fun t h' j => by rw [outsAt0_A m c t h' h' h']; frame_out; simp only [iblk0 h t, iblk1 h t, iblk2 h t, iblk3 h t, iblk4 h t, iblk5 h t, iblk6 h t, iblk7 h t, iblk8 m c t, iblk9 h t, pay26]; rw [pay4_add, pay3_zero])
    (fun t h' j => by rw [outsAt0_B m c t h' h' h']; frame_out; simp only [iblk0 h t, iblk1 h t, iblk2 h t, iblk3 h t, iblk4 h t, iblk5 h t, iblk6 h t, iblk7 h t, iblk8 m c t, iblk9 h t, pay26]; rw [pay4_add])
    (le_of_eq N_0) t0_7 rfl j, zero_add]
  exact sum_rows (fun p q => dw (y p) (g p) (right (d p)) q) (j 1)

/-- What the run leaves in the array of the norm's bias's gradient. -/
theorem final_17 : (dats m 0 c).arrAt 17 (cfgs 0).N = up2 (n := 1) (t := .f32) fun _ q => ∑ p, db (g p) (right (d p)) q := by
  refine (dats m 0 c).arrAt_eq_of_after_last 17 t0_7 (by decide +kernel) _ fun j => ?_
  blk_simp
  rw [after0_17, Pipeline.eq_sum_fin_of_reset_step_apply_last (fun n h => (outsAt0 m c n h).2.2.2.2.2.2.2) 8 (fun _ => 0)
    (fun t j => row (fun _ q => ∑ p, db (g (rowOf t p)) (right (d (rowOf t p))) q) j)
    (fun t h' j => by rw [outsAt0_A m c t h' h' h']; frame_out; simp only [iblk0 h t, iblk1 h t, iblk2 h t, iblk3 h t, iblk4 h t, iblk5 h t, iblk6 h t, iblk7 h t, iblk8 m c t, iblk9 h t, pay24]; rw [pay6_add, pay5_zero])
    (fun t h' j => by rw [outsAt0_B m c t h' h' h']; frame_out; simp only [iblk0 h t, iblk1 h t, iblk2 h t, iblk3 h t, iblk4 h t, iblk5 h t, iblk6 h t, iblk7 h t, iblk8 m c t, iblk9 h t, pay24]; rw [pay6_add])
    (le_of_eq N_0) t0_7 rfl j, zero_add]
  exact sum_rows (fun p q => db (g p) (right (d p)) q) (j 1)

end Cert.Post

end
-- ==== Proof.PostClaim.lean ====
/- RWKV-7's group norm, bonus and gate: the kernel of the gradient equals its reference where the arguments are real. -/
module

public import proofs.«01_k».proof.Defs
public import proofs.«01_k».proof.Proof.Post
public import Idealize.ShloMosaic.Lib.Claim

@[expose] public section

set_option maxRecDepth 16384

noncomputable section

namespace Cert.PostClaim

open Idealize.ShloMosaic Idealize.ShloMosaic.TcCoe Idealize.SL.Sem Cert.Lift Cert.Rows

instance pre_facts : Cert.Pre_finite.Facts := by constructor <;> decide

/-- An array whose entries are reals is an array of reals. -/
theorem exists_up2 {n : ℕ} (x : FVec Ideal ⟨2, ![n, 512]⟩ .f32) (h : ∀ i, ∃ r : ℝ, (x i : EReal) = r) :
    ∃ f : Fin n → Fin 512 → ℝ, x = up2 f := by
  choose f hf using h
  refine ⟨fun p q => f (ix2 p q), funext fun i => (hf i).trans ?_⟩
  exact congrArg (fun j => ((f j : ℝ) : EReal)) (by funext a; fin_cases a <;> rfl)

theorem exists_upd (x : FVec Ideal ⟨2, ![4096, 1024]⟩ .f32) (h : ∀ i, ∃ r : ℝ, (x i : EReal) = r) :
    ∃ f : Fin 4096 → Fin 1024 → ℝ, x = upd f := by
  choose f hf using h
  refine ⟨fun p q => f (ix2 p q), funext fun i => (hf i).trans ?_⟩
  exact congrArg (fun j => ((f j : ℝ) : EReal)) (by funext a; fin_cases a <;> rfl)

open Cert.KernelIdeal in
/-- The precondition: the nine arguments are arrays of reals. -/
theorem real_of_pre (m : (ℓ : Loc nD τ sig) → Buf (Elt Ideal) ℓ) (hpre : Cert.Pre_KernelIdeal_finite m) (c : Dev nD) :
    ∃ y r k v g a w b d, Post.Real m c y r k v g a w b d := by
  obtain ⟨h0, h1, h2, h3, h4, h5, h6, h7, h8⟩ := hpre c
  obtain ⟨y, e0⟩ := exists_up2 (m ((c : Thread nD τ).loc main_arg0)) fun i => Reals.exists_coe (congrFun h0 i)
  obtain ⟨r, e1⟩ := exists_up2 (m ((c : Thread nD τ).loc main_arg1)) fun i => Reals.exists_coe (congrFun h1 i)
  obtain ⟨k, e2⟩ := exists_up2 (m ((c : Thread nD τ).loc main_arg2)) fun i => Reals.exists_coe (congrFun h2 i)
  obtain ⟨v, e3⟩ := exists_up2 (m ((c : Thread nD τ).loc main_arg3)) fun i => Reals.exists_coe (congrFun h3 i)
  obtain ⟨g, e4⟩ := exists_up2 (m ((c : Thread nD τ).loc main_arg4)) fun i => Reals.exists_coe (congrFun h4 i)
  obtain ⟨a, e5⟩ := exists_up2 (m ((c : Thread nD τ).loc main_arg5)) fun i => Reals.exists_coe (congrFun h5 i)
  obtain ⟨w, e6⟩ := exists_up2 (m ((c : Thread nD τ).loc main_arg6)) fun i => Reals.exists_coe (congrFun h6 i)
  obtain ⟨b, e7⟩ := exists_up2 (m ((c : Thread nD τ).loc main_arg7)) fun i => Reals.exists_coe (congrFun h7 i)
  obtain ⟨d, e8⟩ := exists_upd (m ((c : Thread nD τ).loc main_arg8)) fun i => Reals.exists_coe (congrFun h8 i)
  exact ⟨y, r, k, v, g, a, w, b, d, ⟨e0, e1, e2, e3, e4, e5, e6, e7, e8⟩⟩

set_option maxHeartbeats 1000000 in
/-- The kernel of the gradient equals its reference. -/
theorem claim : Cert.algebraic_KernelIdeal_ReferenceIdeal_pre_finite := by
  intro m g m' g' hpre hagree
  refine ⟨fun c => (Cert.KernelIdeal.Gen.dats m 0 c).arrAt 10 (Cert.KernelIdeal.cfgs 0).N,
    fun c => (Cert.KernelIdeal.Gen.dats m 0 c).arrAt 11 (Cert.KernelIdeal.cfgs 0).N,
    fun c => (Cert.KernelIdeal.Gen.dats m 0 c).arrAt 12 (Cert.KernelIdeal.cfgs 0).N,
    fun c => (Cert.KernelIdeal.Gen.dats m 0 c).arrAt 13 (Cert.KernelIdeal.cfgs 0).N,
    fun c => (Cert.KernelIdeal.Gen.dats m 0 c).arrAt 14 (Cert.KernelIdeal.cfgs 0).N,
    fun c => (Cert.KernelIdeal.Gen.dats m 0 c).arrAt 15 (Cert.KernelIdeal.cfgs 0).N,
    fun c => (Cert.KernelIdeal.Gen.dats m 0 c).arrAt 16 (Cert.KernelIdeal.cfgs 0).N,
    fun c => (Cert.KernelIdeal.Gen.dats m 0 c).arrAt 17 (Cert.KernelIdeal.cfgs 0).N, ?_, ?_⟩
  · exact θ_run_mono (Cert.KernelIdeal.Gen.run_main m g) fun r hr c => ⟨Cert.KernelIdeal.Value.post10 m r hr c,
      Cert.KernelIdeal.Value.post11 m r hr c,
      Cert.KernelIdeal.Value.post12 m r hr c,
      Cert.KernelIdeal.Value.post13 m r hr c,
      Cert.KernelIdeal.Value.post14 m r hr c,
      Cert.KernelIdeal.Value.post15 m r hr c,
      Cert.KernelIdeal.Value.post16 m r hr c,
      Cert.KernelIdeal.Value.post17 m r hr c,
      Cert.KernelIdeal.Value.kept_main_arg0 m r hr c,
      Cert.KernelIdeal.Value.kept_main_arg1 m r hr c,
      Cert.KernelIdeal.Value.kept_main_arg2 m r hr c,
      Cert.KernelIdeal.Value.kept_main_arg3 m r hr c,
      Cert.KernelIdeal.Value.kept_main_arg4 m r hr c,
      Cert.KernelIdeal.Value.kept_main_arg5 m r hr c,
      Cert.KernelIdeal.Value.kept_main_arg6 m r hr c,
      Cert.KernelIdeal.Value.kept_main_arg7 m r hr c,
      Cert.KernelIdeal.Value.kept_main_arg8 m r hr c⟩
  · choose y r k v gt a w b d h using real_of_pre m hpre
    have a0 := fun c : Dev Cert.KernelIdeal.nD => (hagree c).1.trans (h c).h0
    have a1 := fun c : Dev Cert.KernelIdeal.nD => (hagree c).2.1.trans (h c).h1
    have a2 := fun c : Dev Cert.KernelIdeal.nD => (hagree c).2.2.1.trans (h c).h2
    have a3 := fun c : Dev Cert.KernelIdeal.nD => (hagree c).2.2.2.1.trans (h c).h3
    have a4 := fun c : Dev Cert.KernelIdeal.nD => (hagree c).2.2.2.2.1.trans (h c).h4
    have a5 := fun c : Dev Cert.KernelIdeal.nD => (hagree c).2.2.2.2.2.1.trans (h c).h5
    have a6 := fun c : Dev Cert.KernelIdeal.nD => (hagree c).2.2.2.2.2.2.1.trans (h c).h6
    have a7 := fun c : Dev Cert.KernelIdeal.nD => (hagree c).2.2.2.2.2.2.2.1.trans (h c).h7
    have a8 := fun c : Dev Cert.KernelIdeal.nD => (hagree c).2.2.2.2.2.2.2.2.trans (h c).h8
    have hrun := Cert.ReferenceIdeal.Rows.run m' g' y r k v gt a w b d a0 a1 a2 a3 a4 a5 a6 a7 a8
    refine Idealize.ShloMosaic.θ_run_mono hrun fun r' hr c => ?_
    obtain ⟨e1, e2, e3, e4, e5, e6, e7, e8, e9⟩ := hr c
    exact ⟨e1.trans (Post.final_10 (h c)).symm, e2.trans (Post.final_11 (h c)).symm, e3.trans (Post.final_12 (h c)).symm,
      e4.trans (Post.final_13 (h c)).symm, e5.trans (Post.final_14 (h c)).symm, e6.trans (Post.final_15 (h c)).symm,
      e7.trans (Post.final_16 (h c)).symm, e8.trans (Post.final_17 (h c)).symm, e9⟩

end Cert.PostClaim

end
-- ==== Proof.PostFwdRows.lean ====
/- RWKV-7's group norm, bonus and gate for one token, over the extended reals: the kernel's form and the reference's. -/
module

public import proofs.«01_k».proof.Proof.PostLift

@[expose] public section

noncomputable section

open Idealize.ShloMosaic
open scoped BigOperators

namespace Cert.PostFwd

open Cert.Lift

/-- The sum over a column's head group as the kernel takes it: the products of a row and of what rounding leaves of it with a
    matrix. -/
def gsum (M : Fin 512 → Fin 512 → EReal) (X : Fin 512 → EReal) (q : Fin 512) : EReal :=
  ∑ k, X k * M k q + ∑ k, (X k - X k) * M k q

/-- The matrix of head groups. -/
def grp (k q : Fin 512) : EReal := (same k q : ℝ)

/-- A row less its groups' means, in the kernel. -/
def ycK (M : Fin 512 → Fin 512 → EReal) (Y : Fin 512 → EReal) (q : Fin 512) : EReal :=
  Y q - gsum M Y q * Ideal.ofBits .f32 0x3C800000#32

/-- The kernel's result: `Y` the recurrence's output, `R`, `K`, `A` the bonus's factors, `V` the value, `G` the gate, `W` and
    `B` the norm's weight and bias. -/
def outK (M : Fin 512 → Fin 512 → EReal) (Y R K V G A W B : Fin 512 → EReal) (q : Fin 512) : EReal :=
  ((ycK M Y q * Ideal.rsqrt (gsum M (fun k => ycK M Y k * ycK M Y k) q * Ideal.ofBits .f32 0x3C800000#32 + Ideal.ofBits .f32 0x3A27C5AC#32)
    * W q + B q) + gsum M (fun k => (R k * K k) * A k) q * V q) * G q

/-- The sum over a head group in the reference. -/
def hs (X : Fin 512 → EReal) (h : Fin 8) : EReal := ∑ n : Fin 64, X (at_ h n)

/-- A row less its groups' means, in the reference. -/
def ycR (Y : Fin 512 → EReal) (q : Fin 512) : EReal :=
  Y q - Ideal.div (hs Y (hd q)) (Ideal.ofBits .f32 0x42800000#32)

/-- The reference's result. -/
def outR (Y R K V G A W B : Fin 512 → EReal) (q : Fin 512) : EReal :=
  ((ycR Y q * Ideal.rsqrt (Ideal.div (hs (fun k => ycR Y k * ycR Y k) (hd q)) (Ideal.ofBits .f32 0x42800000#32)
    + Ideal.ofBits .f32 0x3A27C5AC#32) * W q + B q) + hs (fun k => (R k * K k) * A k) (hd q) * V q) * G q

/-- A row's group sum, where the row is real. -/
theorem hs_coe (f : Fin 512 → ℝ) (h : Fin 8) : hs (fun k => (f k : EReal)) h = (hsum f h : ℝ) := Reals.sum_coe _ _

/-- The two sums over a head group agree where the row is real. -/
theorem gsum_eq (f : Fin 512 → ℝ) (q : Fin 512) : gsum grp (fun k => (f k : EReal)) q = hs (fun k => (f k : EReal)) (hd q) := by
  have e : ∀ k, ((f k : EReal) - (f k : EReal)) * grp k q = 0 := fun k => by
    rw [← EReal.coe_sub, sub_self, EReal.coe_zero, zero_mul]
  unfold gsum
  rw [Finset.sum_congr rfl fun k _ => e k, Finset.sum_const_zero, add_zero, hs_coe, ← sum_same, ← Reals.sum_coe]
  exact Finset.sum_congr rfl fun k _ => (EReal.coe_mul _ _).symm

/-- Dividing by a group's size. -/
theorem div_64 (x : EReal) : Ideal.div x (Ideal.ofBits .f32 0x42800000#32) = x * Ideal.ofBits .f32 0x3C800000#32 := by
  rw [Reals.ofBits_64, Reals.ofBits_inv64, Ideal.div_coe (by norm_num)]

/-- The centred row is real where the row is. -/
theorem ycR_coe (y : Fin 512 → ℝ) : ycR (fun k => (y k : EReal)) = fun k => ((y k - hsum y (hd k) * (1 / 64) : ℝ) : EReal) := by
  funext q
  unfold ycR
  rw [div_64, hs_coe, Reals.ofBits_inv64, ← EReal.coe_mul, ← EReal.coe_sub]

theorem ycK_eq (y : Fin 512 → ℝ) : ycK grp (fun k => (y k : EReal)) = ycR (fun k => (y k : EReal)) := by
  funext q
  unfold ycK ycR
  rw [gsum_eq, div_64]

/-- The two results agree where the recurrence's output and the bonus's factors are real. -/
theorem out_eq (y r k a : Fin 512 → ℝ) (V G W B : Fin 512 → EReal) (q : Fin 512) :
    outK grp (fun j => (y j : EReal)) (fun j => (r j : EReal)) (fun j => (k j : EReal)) V G (fun j => (a j : EReal)) W B q
      = outR (fun j => (y j : EReal)) (fun j => (r j : EReal)) (fun j => (k j : EReal)) V G (fun j => (a j : EReal)) W B q := by
  unfold outK outR
  rw [ycK_eq, ycR_coe, div_64]
  simp only [← EReal.coe_mul]
  rw [gsum_eq, gsum_eq]

end Cert.PostFwd

end
-- ==== Proof.PostFwd.lean ====
/- RWKV-7's group norm, bonus and gate: what the result's array holds after the run. -/
module

public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import Idealize.ShloMosaic.Lib.Pipeline.Value
public import Idealize.ShloMosaic.Lib.StableHlo.Run
public import Idealize.ShloMosaic.Lib.Pipeline.ValueKit
public import Idealize.ShloMosaic.Lib.Pointwise
public import Idealize.ShloMosaic.PureOps.Ideal
public import proofs.«01_k».proof.Proof.PostFwdRows
public import proofs.«01_k».proof.Proof.Post

@[expose] public section

set_option maxRecDepth 16384

noncomputable section

open Idealize.ShloMosaic Idealize.ShloMosaic.TcCoe Idealize.SL.Sem
open scoped BigOperators

namespace Cert.PostFwd

/-- A row of an array. -/
def rowAt {n k : ℕ} (x : FVec Ideal ⟨2, ![n, k]⟩ .f32) (p : Fin n) : Fin k → EReal := fun q => x (ix2 p q)

end Cert.PostFwd

namespace Cert.Reference20Ideal.Formula

open Cert.Reference20Ideal Cert.Reference20Ideal.Gen

variable (o y r k v g : FVec Ideal S4096x512 .f32) (a w b : FVec Ideal S1x512 .f32)

/-- A group's mean, along the group. -/
abbrev mean (x : FVec Ideal S4096x8x64 .f32) : FVec Ideal S4096x8x1 .f32 :=
  Host.divf (broadcastInDim S4096x8x1 ![0, 1] bcast_S4096x8_S4096x8x1_0_1
      (Host.reduceAdd x (constant S_ .f32 0x00000000#32) reducesTo_S4096x8x64_S4096x8_d2 h_S_))
    (broadcastInDim S4096x8x1 ![] bcast_S_S4096x8x1 (constant S_ .f32 0x42800000#32))

/-- The recurrence's output less its groups' means. -/
abbrev yc : FVec Ideal S4096x8x64 .f32 :=
  subf (shapeCast _ y shapeCasts_S4096x512_S4096x8x64)
    (broadcastInDim S4096x8x64 ![0, 1, 2] bcast_S4096x8x1_S4096x8x64_0_1_2 (mean (shapeCast _ y shapeCasts_S4096x512_S4096x8x64)))

/-- The group norm. -/
abbrev norm : FVec Ideal S4096x512 .f32 :=
  shapeCast _ (mulf (yc y) (broadcastInDim S4096x8x64 ![0, 1, 2] bcast_S4096x8x1_S4096x8x64_0_1_2
    (Host.rsqrt (addf (mean (mulf (yc y) (yc y))) (broadcastInDim S4096x8x1 ![] bcast_S_S4096x8x1 (constant S_ .f32 0x3A27C5AC#32))))))
    shapeCasts_S4096x8x64_S4096x512

/-- The bonus. -/
abbrev bonus : FVec Ideal S4096x512 .f32 :=
  shapeCast _ (mulf (broadcastInDim S4096x8x64 ![0, 1, 2] bcast_S4096x8x1_S4096x8x64_0_1_2
      (broadcastInDim S4096x8x1 ![0, 1] bcast_S4096x8_S4096x8x1_0_1
        (Host.reduceAdd (mulf (mulf (shapeCast _ r shapeCasts_S4096x512_S4096x8x64) (shapeCast _ k shapeCasts_S4096x512_S4096x8x64))
          (broadcastInDim S4096x8x64 ![0, 1, 2] bcast_S1x8x64_S4096x8x64_0_1_2
            (broadcastInDim S1x8x64 ![1, 2] bcast_S8x64_S1x8x64_1_2 (shapeCast _ a shapeCasts_S1x512_S8x64))))
          (constant S_ .f32 0x00000000#32) reducesTo_S4096x8x64_S4096x8_d2 h_S_)))
    (shapeCast _ v shapeCasts_S4096x512_S4096x8x64)) shapeCasts_S4096x8x64_S4096x512

/-- The gated result. -/
abbrev gated : FVec Ideal S4096x512 .f32 :=
  mulf (addf (addf (mulf (norm y) (broadcastInDim S4096x512 ![0, 1] bcast_S1x512_S4096x512_0_1 w))
    (broadcastInDim S4096x512 ![0, 1] bcast_S1x512_S4096x512_0_1 b)) (bonus r k v a)) g

/-- HGRN2's output beside it. -/
abbrev both : FVec Ideal S4096x1024 .f32 :=
  concatenate S4096x1024 1 [⟨S4096x512, o⟩, ⟨S4096x512, gated y r k v g a w b⟩] concatenates_S4096x512_S4096x512_S4096x1024_d1

open Cert.PostFwd Cert.Lift

/-- The gated result, a row at a time. -/
theorem gated_at (p : Fin 4096) (q : Fin 512) : gated y r k v g a w b (ix2 p q)
    = outR (rowAt y p) (rowAt r p) (rowAt k p) (rowAt v p) (rowAt g p) (rowAt a 0) (rowAt w 0) (rowAt b 0) q := by
  pointwise [gated, norm, bonus, yc, mean]
  simp only [outR, hs, ycR, hd_at]
  rfl

/-- The left half of the columns is HGRN2's output. -/
theorem both_left (p : Fin 4096) (q : Fin 512) :
    both o y r k v g a w b (ix2 p ⟨q.val, by omega⟩) = o (ix2 p q) :=
  concatenate_pair_apply_left (t := S4096x1024) (s₁ := S4096x512) (s₂ := S4096x512) 1 _ _ _ _ rfl _ fun z => by fin_cases z <;> rfl

/-- The right half is the gated result. -/
theorem both_right (p : Fin 4096) (q : Fin 512) :
    both o y r k v g a w b (ix2 p ⟨512 + q.val, by omega⟩) = gated y r k v g a w b (ix2 p q) :=
  concatenate_pair_apply_right (t := S4096x1024) (s₁ := S4096x512) (s₂ := S4096x512) 1 _ _ _ _ rfl rfl _
    (fun z hz => by fin_cases z; · rfl
                    · exact absurd rfl hz) (Nat.add_comm _ _)

end Cert.Reference20Ideal.Formula

namespace Cert.PostFwd

open Cert.Kernel20Ideal Cert.Kernel20Ideal.Gen Cert.Lift

section Body

variable (y r k v g M : FVec Ideal S512x512 .f32) (a w b : FVec Ideal S1x512 .f32)

/-- The centred row as the body computes it. -/
theorem pay3_at (p q : Fin 512) : k0_pay3 (F := Ideal) y M (ix2 p q) = ycK (rowAt M) (rowAt y p) q := by
  pointwise [k0_pay3, k0_pay2]
  rfl

/-- The body's result. -/
theorem pay1_at (p q : Fin 512) :
    k0_pay1 (F := Ideal) r k v g a w b (k0_pay2 M) (k0_pay3 y M) (k0_pay4 y M) (Scalar.ofBits .f32 0x3C800000#32) (ix2 p q)
      = outK (rowAt M) (rowAt y p) (rowAt r p) (rowAt k p) (rowAt v p) (rowAt g p) (rowAt a 0) (rowAt w 0) (rowAt b 0) q := by
  pointwise [k0_pay1, k0_pay4, pay3_at, k0_pay2]
  rfl

end Body

variable (m : (ℓ : Loc nD τ sig) → Buf (Elt Ideal) ℓ)

open Cert.Reference20Ideal.Formula

/-! The block indices of the windows at a grid point. -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_10.index t = ![t.val, 0] :=
  (by decide +kernel : ∀ t : Fin grid0.N, _)

theorem idxRow : ∀ t : Fin cfg0.N, win0_6.index t = ![0, 0] ∧ win0_7.index t = ![0, 0] ∧ win0_8.index t = ![0, 0] ∧ win0_9.index t = ![0, 0] :=
  (by decide +kernel : ∀ t : Fin grid0.N, _)

/-- The row of the whole array that a point's block has at `p`. -/
def rowOf (t : Fin cfg0.N) (p : Fin 512) : Fin 4096 :=
  ⟨t.val * 512 + p.val, by have := t.isLt; have : t.val < 8 := this; omega⟩

/-- The block's entries of HGRN2's output. -/
theorem at_0 (c : Dev nD) (t : Fin cfg0.N) (p q : Fin 512) :
    iblk m c 0 t (ix2 p q) = m ((c : Thread nD τ).loc main_arg0) (ix2 (rowOf t p) q) := by
  unfold rowOf
  blk_point [iblk, V, idx t]

/-- The block's rows of the recurrence's output. -/
theorem row_1 (c : Dev nD) (t : Fin cfg0.N) (p : Fin 512) :
    rowAt (n := 512) (k := 512) (iblk m c 1 t) p = rowAt (n := 4096) (k := 512) (m ((c : Thread nD τ).loc main_arg1)) (rowOf t p) := by
  funext q
  unfold rowAt rowOf
  blk_point [iblk, V, idx t]

/-- The block's rows of `r`. -/
theorem row_2 (c : Dev nD) (t : Fin cfg0.N) (p : Fin 512) :
    rowAt (n := 512) (k := 512) (iblk m c 2 t) p = rowAt (n := 4096) (k := 512) (m ((c : Thread nD τ).loc main_arg2)) (rowOf t p) := by
  funext q
  unfold rowAt rowOf
  blk_point [iblk, V, idx t]

/-- The block's rows of `k`. -/
theorem row_3 (c : Dev nD) (t : Fin cfg0.N) (p : Fin 512) :
    rowAt (n := 512) (k := 512) (iblk m c 3 t) p = rowAt (n := 4096) (k := 512) (m ((c : Thread nD τ).loc main_arg3)) (rowOf t p) := by
  funext q
  unfold rowAt rowOf
  blk_point [iblk, V, idx t]

/-- The block's rows of the value. -/
theorem row_4 (c : Dev nD) (t : Fin cfg0.N) (p : Fin 512) :
    rowAt (n := 512) (k := 512) (iblk m c 4 t) p = rowAt (n := 4096) (k := 512) (m ((c : Thread nD τ).loc main_arg4)) (rowOf t p) := by
  funext q
  unfold rowAt rowOf
  blk_point [iblk, V, idx t]

/-- The block's rows of the gate. -/
theorem row_5 (c : Dev nD) (t : Fin cfg0.N) (p : Fin 512) :
    rowAt (n := 512) (k := 512) (iblk m c 5 t) p = rowAt (n := 4096) (k := 512) (m ((c : Thread nD τ).loc main_arg5)) (rowOf t p) := by
  funext q
  unfold rowAt rowOf
  blk_point [iblk, V, idx t]

/-- The row of the bonus's weights. -/
theorem row_6 (c : Dev nD) (t : Fin cfg0.N) :
    rowAt (n := 1) (k := 512) (iblk m c 6 t) 0 = rowAt (n := 1) (k := 512) (m ((c : Thread nD τ).loc main_arg6)) 0 := by
  funext q
  unfold rowAt
  blk_point [iblk, V, idxRow t]

/-- The row of the norm's weights. -/
theorem row_7 (c : Dev nD) (t : Fin cfg0.N) :
    rowAt (n := 1) (k := 512) (iblk m c 7 t) 0 = rowAt (n := 1) (k := 512) (m ((c : Thread nD τ).loc main_arg7)) 0 := by
  funext q
  unfold rowAt
  blk_point [iblk, V, idxRow t]

/-- The row of the norm's biases. -/
theorem row_8 (c : Dev nD) (t : Fin cfg0.N) :
    rowAt (n := 1) (k := 512) (iblk m c 8 t) 0 = rowAt (n := 1) (k := 512) (m ((c : Thread nD τ).loc main_arg8)) 0 := by
  funext q
  unfold rowAt
  blk_point [iblk, V, idxRow t]

/-- The host's matrix of head groups. -/
theorem ones (c : Dev nD) : V m c main_v7 = up2 (n := 512) (t := .f32) same := by
  show StableHlo.after [hostOps0, hostOps0_1].flatten (fun b => m (c, b)) (Proc.tc.devRef main_v7) = _
  simp only [List.flatten_cons, List.flatten_nil, hostOps0, hostOps0_1, List.cons_append, List.nil_append, List.append_nil]
  after_results_simp
  show shapeCast S512x512 (mulf
      (broadcastInDim S8x64x8x64 ![0, 1, 2, 3] bcast_S8x1x8x1_S8x64x8x64_0_1_2_3 (broadcastInDim S8x1x8x1 ![0, 2] bcast_S8x8_S8x1x8x1_0_2
        (uitofp .f32 (cmpi .eq (addi (iotaInDim S8x8 32 0) (broadcastInDim S8x8 ![] bcast_S_S8x8 (constantI S_ 32 0#32)))
          (iotaInDim S8x8 32 1)))))
      (broadcastInDim S8x64x8x64 ![0, 1, 2, 3] bcast_S1x64x1x64_S8x64x8x64_0_1_2_3 (broadcastInDim S1x64x1x64 ![1, 3]
        bcast_S64x64_S1x64x1x64_1_3 (broadcastInDim S64x64 ![] bcast_S_S64x64 (constant (F := Ideal) S_ .f32 1065353216#32)))))
    shapeCasts_S8x64x8x64_S512x512 = _
  funext i
  pointwise [up2, same, Reals.ofBits_one]
  rw [Post.cmp ⟨(i 0).val / 64, by have e : (i 0).val < 512 := (i 0).isLt; omega⟩ ⟨(i 1).val / 64, by have e : (i 1).val < 512 := (i 1).isLt; omega⟩]
  show (FloatOps.uitofp FTy.f32 (if hd (i 0) = hd (i 1) then 1#1 else 0#1) : Ideal .f32) * ((1 : ℝ) : EReal) = _
  split_ifs
  · rw [EReal.coe_one, mul_one]; simp [FloatOps.uitofp]
  · rw [EReal.coe_one, mul_one]; simp [FloatOps.uitofp]

/-- The block of the matrix of head groups. -/
theorem row_9 (c : Dev nD) (t : Fin cfg0.N) : rowAt (n := 512) (k := 512) (iblk m c 9 t) = grp := by
  funext p q
  have e : grp p q = V m c main_v7 (ix2 p q) := by rw [ones]; rfl
  rw [e]
  unfold rowAt
  blk_point [iblk, idxRow t]

/-- The arguments that must be real. -/
structure Real (c : Dev nD) : Prop where
  y : ∃ f : Fin 4096 → Fin 512 → ℝ, m ((c : Thread nD τ).loc main_arg1) = up2 (t := .f32) f
  r : ∃ f : Fin 4096 → Fin 512 → ℝ, m ((c : Thread nD τ).loc main_arg2) = up2 (t := .f32) f
  k : ∃ f : Fin 4096 → Fin 512 → ℝ, m ((c : Thread nD τ).loc main_arg3) = up2 (t := .f32) f
  a : ∃ f : Fin 1 → Fin 512 → ℝ, m ((c : Thread nD τ).loc main_arg6) = up2 (t := .f32) f

/-- The reference's result on the arguments. -/
abbrev result (c : Dev nD) : FVec Ideal Cert.Reference20Ideal.S4096x1024 .f32 :=
  both (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The gated block that the body computes at a point is the reference's. -/
theorem point (c : Dev nD) (h : Real m c) (t : Fin cfg0.N) (p q : Fin 512) :
    k0_pay1 (F := Ideal) (iblk m c 2 t) (iblk m c 3 t) (iblk m c 4 t) (iblk m c 5 t) (iblk m c 6 t) (iblk m c 7 t) (iblk m c 8 t)
        (k0_pay2 (iblk m c 9 t)) (k0_pay3 (iblk m c 1 t) (iblk m c 9 t)) (k0_pay4 (iblk m c 1 t) (iblk m c 9 t))
        (Scalar.ofBits .f32 0x3C800000#32) (ix2 p q)
      = result m c (ix2 (rowOf t p) ⟨512 + q.val, by omega⟩) := by
  have e := pay1_at (iblk m c 1 t) (iblk m c 2 t) (iblk m c 3 t) (iblk m c 4 t) (iblk m c 5 t) (iblk m c 9 t) (iblk m c 6 t)
    (iblk m c 7 t) (iblk m c 8 t) p q
  simp only [row_1 m c t p, row_2 m c t p, row_3 m c t p, row_4 m c t p, row_5 m c t p, row_6 m c t, row_7 m c t, row_8 m c t,
    row_9 m c t] at e
  refine e.trans (Eq.trans ?_ ((both_right _ _ _ _ _ _ _ _ _ _ _).trans (gated_at _ _ _ _ _ _ _ _ _ _)).symm)
  obtain ⟨y, hy⟩ := h.y
  obtain ⟨r, hr⟩ := h.r
  obtain ⟨k, hk⟩ := h.k
  obtain ⟨a, ha⟩ := h.a
  rw [hy, hr, hk, ha]
  exact out_eq (y (rowOf t p)) (r (rowOf t p)) (k (rowOf t p)) (a 0) _ _ _ _ q

/-- What the run leaves in the result's array. -/
theorem final_10 (c : Dev nD) (h : Real m c) : (dats m 0 c).arrAt 10 (cfgs 0).N = result m c := by
  refine (dats m 0 c).arrAt_eq_of_covers 10 _ (by decide +kernel) fun t hf y => ?_
  blk_simp; rw [after0_10]
  unfold out0_10
  canon_tiles
  · obtain ⟨p, q, rfl⟩ : ∃ (p : Fin 512) (q : Fin 512), x = ix2 p q := ⟨x 0, x 1, by funext a; fin_cases a <;> rfl⟩
    have ey : y = ix2 p ⟨512 + q.val, by omega⟩ := by funext a; fin_cases a; exacts [Fin.ext h0, Fin.ext h1]
    have ee : (win0_10.blk t).view.emb y = ix2 (rowOf t p) ⟨512 + q.val, by omega⟩ := by
      rw [ey]
      unfold rowOf
      blk_ext [idx t]
    frame_out
    exact (point m c h t p q).trans (congrArg _ ee.symm)
  · obtain ⟨p, q, rfl⟩ : ∃ (p : Fin 512) (q : Fin 512), x = ix2 p q := ⟨x 0, x 1, by funext a; fin_cases a <;> rfl⟩
    have ey : y = ix2 p ⟨q.val, by omega⟩ := by funext a; fin_cases a; exacts [Fin.ext h0, Fin.ext h1]
    have ee : (win0_10.blk t).view.emb y = ix2 (rowOf t p) ⟨q.val, by omega⟩ := by
      rw [ey]
      unfold rowOf
      blk_ext [idx t]
    have el : View.ld (iblk m c 0 t) r0_0 = iblk m c 0 t := View.ld_unit_lit' (S := S512x512) _ _ (by decide)
    exact (congrFun el _).trans (((at_0 m c t p q).trans (both_left _ _ _ _ _ _ _ _ _ _ _).symm).trans (congrArg (result m c) ee.symm))

end Cert.PostFwd

end
-- ==== Proof.PostFwdClaim.lean ====
/- RWKV-7's group norm, bonus and gate: the kernel equals its reference where the recurrence's output and the bonus's factors
   are real. -/
module

public import proofs.«01_k».proof.Defs
public import proofs.«01_k».proof.Proof.PostFwd
public import proofs.«01_k».proof.Proof.PostClaim
public import proofs.«01_k».proof.Proof.Gen.Kernel20Ideal.Value
public import proofs.«01_k».proof.Proof.Gen.Reference20Ideal.Run
public import Idealize.ShloMosaic.Lib.Claim

@[expose] public section

set_option maxRecDepth 16384

namespace Cert.PostFwdClaim

open Idealize.ShloMosaic Idealize.ShloMosaic.TcCoe Idealize.SL.Sem

instance pre_facts : Cert.Pre_finite20.Facts := by constructor <;> decide

open Cert.Kernel20Ideal in
/-- The precondition: the arguments it names are arrays of reals. -/
theorem real_of_pre (m : (ℓ : Loc nD τ sig) → Buf (Elt Ideal) ℓ) (hpre : Cert.Pre_Kernel20Ideal_finite20 m) (c : Dev nD) :
    PostFwd.Real m c := by
  obtain ⟨h1, h2, h3, h6⟩ := hpre c
  exact ⟨PostClaim.exists_up2 (m ((c : Thread nD τ).loc main_arg1)) fun i => Reals.exists_coe (congrFun h1 i),
    PostClaim.exists_up2 (m ((c : Thread nD τ).loc main_arg2)) fun i => Reals.exists_coe (congrFun h2 i),
    PostClaim.exists_up2 (m ((c : Thread nD τ).loc main_arg3)) fun i => Reals.exists_coe (congrFun h3 i),
    PostClaim.exists_up2 (m ((c : Thread nD τ).loc main_arg6)) fun i => Reals.exists_coe (congrFun h6 i)⟩

/-- The kernel equals its reference. -/
theorem claim : Cert.algebraic_Kernel20Ideal_Reference20Ideal_pre_finite20 := by
  intro m g m' g' hpre hagree
  refine ⟨fun c => (Cert.Kernel20Ideal.Gen.dats m 0 c).arrAt 10 (Cert.Kernel20Ideal.cfgs 0).N, ?_, ?_⟩
  · exact θ_run_mono (Cert.Kernel20Ideal.Gen.run_main m g) fun r hr c => ⟨Cert.Kernel20Ideal.Value.post10 m r hr c,
      Cert.Kernel20Ideal.Value.kept_main_arg0 m r hr c,
      Cert.Kernel20Ideal.Value.kept_main_arg1 m r hr c,
      Cert.Kernel20Ideal.Value.kept_main_arg2 m r hr c,
      Cert.Kernel20Ideal.Value.kept_main_arg3 m r hr c,
      Cert.Kernel20Ideal.Value.kept_main_arg4 m r hr c,
      Cert.Kernel20Ideal.Value.kept_main_arg5 m r hr c,
      Cert.Kernel20Ideal.Value.kept_main_arg6 m r hr c,
      Cert.Kernel20Ideal.Value.kept_main_arg7 m r hr c,
      Cert.Kernel20Ideal.Value.kept_main_arg8 m r hr c⟩
  · refine Idealize.ShloMosaic.θ_run_mono (Cert.Reference20Ideal.Value.run m' g') fun r hr c => ?_
    have hc := hr c
    refine ⟨hc.1.trans ?_, hc.2⟩
    obtain ⟨a0, a1, a2, a3, a4, a5, a6, a7, a8⟩ := hagree c
    show Cert.Reference20Ideal.Formula.both (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg1)) (m' ((c.tc : Thread Cert.Reference20Ideal.nD Cert.Reference20Ideal.τ).loc Cert.Reference20Ideal.main_arg2))
      (m' ((c.tc : Thread Cert.Reference20Ideal.nD Cert.Reference20Ideal.τ).loc Cert.Reference20Ideal.main_arg3)) (m' ((c.tc : Thread Cert.Reference20Ideal.nD Cert.Reference20Ideal.τ).loc Cert.Reference20Ideal.main_arg4)) (m' ((c.tc : Thread Cert.Reference20Ideal.nD Cert.Reference20Ideal.τ).loc Cert.Reference20Ideal.main_arg5))
      (m' ((c.tc : Thread Cert.Reference20Ideal.nD Cert.Reference20Ideal.τ).loc Cert.Reference20Ideal.main_arg6)) (m' ((c.tc : Thread Cert.Reference20Ideal.nD Cert.Reference20Ideal.τ).loc Cert.Reference20Ideal.main_arg7)) (m' ((c.tc : Thread Cert.Reference20Ideal.nD Cert.Reference20Ideal.τ).loc Cert.Reference20Ideal.main_arg8)) = _
    rw [a0, a1, a2, a3, a4, a5, a6, a7, a8]
    exact (PostFwd.final_10 m c (real_of_pre m hpre c)).symm

end Cert.PostFwdClaim
-- ==== Proof.InprojH.lean ====
/- The input projection onto the HGRN2 columns: what the array holds after the run. -/
module

public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import Idealize.ShloMosaic.Lib.Pipeline.Value
public import Idealize.ShloMosaic.Lib.StableHlo.Run
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)
open scoped BigOperators

namespace Cert.InprojH

open Cert.Kernel9Ideal Cert.Kernel9Ideal.Gen

variable (m : (ℓ : Loc nD τ sig) → Buf (Elt Ideal) ℓ)

/-- The reference: the product with the weights. -/
abbrev REF (a0 : FVec Ideal Cert.Reference9Ideal.S4096x1024 .bf16) (a1 : FVec Ideal Cert.Reference9Ideal.S1024x2048 .bf16) : FVec Ideal Cert.Reference9Ideal.S4096x2048 .f32 :=
  Host.dotGeneral Cert.Reference9Ideal.dot_S4096x1024_S1024x2048_S4096x2048_1_0_0_1_n_n none (extf .f32 a0 Cert.Reference9Ideal.Gen.bitsLt_bf16_f32) (extf .f32 a1 Cert.Reference9Ideal.Gen.bitsLt_bf16_f32)

/-- The block indices of the windows at a grid point. -/
theorem idx : ∀ t : Fin cfg0.N, win0_0.index t = ![t.val / 8, 0]
    ∧ win0_1.index t = ![0, t.val % 8]
    ∧ win0_2.index t = ![t.val / 8, t.val % 8] :=
  (by decide +kernel : ∀ t : Fin grid0.N, _)

/-- What the run leaves in the result is the reference's value. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]
  unfold outsAt0
  frame_out
  pointwise [k0_pay1, k0_pay2, REF]
  blk_point [iblk, V, idx t]

end Cert.InprojH

end
-- ==== Proof.InprojR.lean ====
/- The input projection onto the RWKV-7 columns: what the array holds after the run. -/
module

public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import Idealize.ShloMosaic.Lib.Pipeline.Value
public import Idealize.ShloMosaic.Lib.StableHlo.Run
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)
open scoped BigOperators

namespace Cert.InprojR

open Cert.Kernel10Ideal Cert.Kernel10Ideal.Gen

variable (m : (ℓ : Loc nD τ sig) → Buf (Elt Ideal) ℓ)

/-- The reference: the product with the weights. -/
abbrev REF (a0 : FVec Ideal Cert.Reference10Ideal.S4096x1024 .bf16) (a1 : FVec Ideal Cert.Reference10Ideal.S1024x1792 .bf16) : FVec Ideal Cert.Reference10Ideal.S4096x1792 .f32 :=
  Host.dotGeneral Cert.Reference10Ideal.dot_S4096x1024_S1024x1792_S4096x1792_1_0_0_1_n_n none (extf .f32 a0 Cert.Reference10Ideal.Gen.bitsLt_bf16_f32) (extf .f32 a1 Cert.Reference10Ideal.Gen.bitsLt_bf16_f32)

/-- The block indices of the windows at a grid point. -/
theorem idx : ∀ t : Fin cfg0.N, win0_0.index t = ![t.val / 7, 0]
    ∧ win0_1.index t = ![0, t.val % 7]
    ∧ win0_2.index t = ![t.val / 7, t.val % 7] :=
  (by decide +kernel : ∀ t : Fin grid0.N, _)

/-- What the run leaves in the result is the reference's value. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]
  unfold outsAt0
  frame_out
  pointwise [k0_pay1, k0_pay2, REF]
  blk_point [iblk, V, idx t]

end Cert.InprojR

end
-- ==== Proof.Outproj.lean ====
/- The output projection with its residual: what the array holds after the run. -/
module

public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import Idealize.ShloMosaic.Lib.Pipeline.Value
public import Idealize.ShloMosaic.Lib.StableHlo.Run
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)
open scoped BigOperators

namespace Cert.Outproj

open Cert.Kernel11Ideal Cert.Kernel11Ideal.Gen

variable (m : (ℓ : Loc nD τ sig) → Buf (Elt Ideal) ℓ)

/-- The reference: the residual plus the product with the weights. -/
abbrev REF (a0 : FVec Ideal Cert.Reference11Ideal.S4096x1024 .f32) (a1 : FVec Ideal Cert.Reference11Ideal.S1024x1024 .bf16) (a2 : FVec Ideal Cert.Reference11Ideal.S4096x1024 .f32) : FVec Ideal Cert.Reference11Ideal.S4096x1024 .f32 :=
  addf a2 (Host.dotGeneral Cert.Reference11Ideal.dot_S4096x1024_S1024x1024_S4096x1024_1_0_0_1_n_n none a0 (extf .f32 a1 Cert.Reference11Ideal.Gen.bitsLt_bf16_f32))

/-- The block indices of the windows at a grid point. -/
theorem idx : ∀ t : Fin cfg0.N, win0_0.index t = ![t.val / 4, 0]
    ∧ win0_1.index t = ![0, t.val % 4]
    ∧ win0_2.index t = ![t.val / 4, t.val % 4]
    ∧ win0_3.index t = ![t.val / 4, t.val % 4] :=
  (by decide +kernel : ∀ t : Fin grid0.N, _)

/-- What the run leaves in the result is the reference's value. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  unfold outsAt0
  frame_out
  pointwise [k0_pay1, k0_pay2, k0_pay3, REF]
  blk_point [iblk, V, idx t]

end Cert.Outproj

end
-- ==== Proof.OutprojDo.lean ====
/- The gradient of the mixers' outputs: what the array holds after the run. -/
module

public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import Idealize.ShloMosaic.Lib.Pipeline.Value
public import Idealize.ShloMosaic.Lib.StableHlo.Run
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)
open scoped BigOperators

namespace Cert.OutprojDo

open Cert.Kernel12Ideal Cert.Kernel12Ideal.Gen

variable (m : (ℓ : Loc nD τ sig) → Buf (Elt Ideal) ℓ)

/-- The reference: the cotangent times the transposed weights. -/
abbrev REF (a0 : FVec Ideal Cert.Reference12Ideal.S4096x1024 .f32) (a1 : FVec Ideal Cert.Reference12Ideal.S1024x1024 .bf16) : FVec Ideal Cert.Reference12Ideal.S4096x1024 .f32 :=
  Host.dotGeneral Cert.Reference12Ideal.dot_S4096x1024_S1024x1024_S4096x1024_1_1_0_0_n_n none a0 (extf .f32 a1 Cert.Reference12Ideal.Gen.bitsLt_bf16_f32)

/-- The block indices of the windows at a grid point. -/
theorem idx : ∀ t : Fin cfg0.N, win0_0.index t = ![t.val / 4, 0]
    ∧ win0_1.index t = ![t.val % 4, 0]
    ∧ win0_2.index t = ![t.val / 4, t.val % 4] :=
  (by decide +kernel : ∀ t : Fin grid0.N, _)

/-- What the run leaves in the result is the reference's value. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]
  unfold outsAt0
  frame_out
  pointwise [k0_pay1, k0_pay2, REF]
  blk_point [iblk, V, idx t]

end Cert.OutprojDo

end
-- ==== Proof.OutprojDw.lean ====
/- The gradient of the output projection's weights: what the array holds after the run. -/
module

public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import Idealize.ShloMosaic.Lib.Pipeline.Value
public import Idealize.ShloMosaic.Lib.StableHlo.Run
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)
open scoped BigOperators

namespace Cert.OutprojDw

open Cert.Kernel13Ideal Cert.Kernel13Ideal.Gen

variable (m : (ℓ : Loc nD τ sig) → Buf (Elt Ideal) ℓ)

/-- The reference: the second array, transposed, times the first, transposed back. -/
abbrev REF (a0 : FVec Ideal Cert.Reference13Ideal.S4096x1024 .f32) (a1 : FVec Ideal Cert.Reference13Ideal.S4096x1024 .f32) : FVec Ideal Cert.Reference13Ideal.S1024x1024 .f32 :=
  transpose Cert.Reference13Ideal.S1024x1024 [1, 0] (Host.dotGeneral Cert.Reference13Ideal.dot_S4096x1024_S4096x1024_S1024x1024_0_0_1_1_n_n none a1 a0) Cert.Reference13Ideal.Gen.transposes_S1024x1024_S1024x1024_1_0

/-- The block indices of the windows at a grid point. -/
theorem idx : ∀ t : Fin cfg0.N, win0_0.index t = ![t.val % 4, 0]
    ∧ win0_1.index t = ![t.val % 4, 0]
    ∧ win0_2.index t = ![0, 0] :=
  (by decide +kernel : ∀ t : Fin grid0.N, _)

/-- The product of the transposed block `x` with the block `w`, at one entry. -/
abbrev dotT (x : FVec Ideal S1024x1024 .f32) (w : FVec Ideal S1024x1024 .f32) (j : S1024x1024.Idx) : EReal :=
  ∑ k, (x (ix2 k (j 0)) : EReal) * w (ix2 k (j 1))

/-- The accumulator after the last point of a run: the sum of the run's four products. -/
theorem acc (c : Dev nD) (t : Fin cfg0.N) (h : t.val % 4 = 3) (j) :
    (outsAt0 m c t.val t.isLt).2 j = (0 : EReal) + ∑ s : Fin 4,
      dotT (iblk m c 0 ⟨4 * (t.val / 4) + s.val, Pipeline.run_point_lt_of_flush t h s⟩)
        (iblk m c 1 ⟨4 * (t.val / 4) + s.val, Pipeline.run_point_lt_of_flush t h s⟩) j := by
  refine Pipeline.eq_sum_fin_of_reset_step_apply_of_flush (M := EReal) (fun n h => (outsAt0 m c n h).2) 4 (fun _ => 0)
    (fun t j => dotT (iblk m c 0 t) (iblk m c 1 t) j) (fun t h0 j => ?_) (fun t h0 j => ?_) t h j
  · have h1 : ¬t.val % 4 = 3 := by omega
    rw [outsAt0_A m c t h0 h1]
    frame_out
    pointwise [k0_pay1, k0_pay2, dotT]
  · by_cases h1 : t.val % 4 = 3
    · rw [outsAt0_C m c t h0 h1]
      frame_out
      rw [read_unread_whole]
      pointwise [k0_pay2, dotT]
    · rw [outsAt0_B m c t h0 h1]
      frame_out
      rw [read_unread_whole]
      pointwise [k0_pay2, dotT]

/-- What the run leaves in the result is the reference's value. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h := (flush0_2 t).mp hf
  have h0 : ¬t.val % 4 = 0 := by omega
  blk_simp; rw [after0_2]
  have e : (outsAt0 m c t.val t.isLt).1 = (outsAt0 m c t.val t.isLt).2 := by
    rw [outsAt0_C m c t h0 h]; frame_out
  rw [e, acc m c t h y, zero_add]
  unfold dotT
  pointwise [REF]
  refine Fin.sum_mul_add_congr fun s k hl => ?_
  rw [mul_comm]
  blk_point [iblk, V, idx t, idx ⟨_, Pipeline.run_point_lt_of_flush t h s⟩]

end Cert.OutprojDw

end
-- ==== Proof.InprojDh.lean ====
/- The gradient of the projections' input: what the array holds after the run. -/
module

public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import Idealize.ShloMosaic.Lib.Pipeline.Value
public import Idealize.ShloMosaic.Lib.StableHlo.Run
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)
open scoped BigOperators

namespace Cert.InprojDh

open Cert.Kernel14Ideal Cert.Kernel14Ideal.Gen

variable (m : (ℓ : Loc nD τ sig) → Buf (Elt Ideal) ℓ)

/-- The reference: the two cotangents times the transposed weights, added. -/
abbrev REF (a0 : FVec Ideal Cert.Reference14Ideal.S4096x2048 .f32) (a1 : FVec Ideal Cert.Reference14Ideal.S1024x2048 .bf16) (a2 : FVec Ideal Cert.Reference14Ideal.S4096x1792 .f32) (a3 : FVec Ideal Cert.Reference14Ideal.S1024x1792 .bf16) : FVec Ideal Cert.Reference14Ideal.S4096x1024 .f32 :=
  addf (Host.dotGeneral Cert.Reference14Ideal.dot_S4096x1792_S1024x1792_S4096x1024_1_1_0_0_n_n none a2 (extf .f32 a3 Cert.Reference14Ideal.Gen.bitsLt_bf16_f32))
    (Host.dotGeneral Cert.Reference14Ideal.dot_S4096x2048_S1024x2048_S4096x1024_1_1_0_0_n_n none a0 (extf .f32 a1 Cert.Reference14Ideal.Gen.bitsLt_bf16_f32))

/-- The block indices of the windows at a grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0] :=
  (by decide +kernel : ∀ t : Fin grid0.N, _)

/-- What the run leaves in the result is the reference's value. -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  frame_out
  pointwise [k0_pay1, REF]
  rw [add_comm]
  blk_point [iblk, V, idx t]

end Cert.InprojDh

end
-- ==== Proof.InprojDwH.lean ====
/- The gradient of the weights of the HGRN2 columns: what the array holds after the run. -/
module

public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import Idealize.ShloMosaic.Lib.Pipeline.Value
public import Idealize.ShloMosaic.Lib.StableHlo.Run
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)
open scoped BigOperators

namespace Cert.InprojDwH

open Cert.Kernel15Ideal Cert.Kernel15Ideal.Gen

variable (m : (ℓ : Loc nD τ sig) → Buf (Elt Ideal) ℓ)

/-- The reference: the second array, transposed, times the first, transposed back. -/
abbrev REF (a0 : FVec Ideal Cert.Reference15Ideal.S4096x1024 .bf16) (a1 : FVec Ideal Cert.Reference15Ideal.S4096x2048 .f32) : FVec Ideal Cert.Reference15Ideal.S1024x2048 .f32 :=
  transpose Cert.Reference15Ideal.S1024x2048 [1, 0] (Host.dotGeneral Cert.Reference15Ideal.dot_S4096x2048_S4096x1024_S2048x1024_0_0_1_1_n_n none a1 (extf .f32 a0 Cert.Reference15Ideal.Gen.bitsLt_bf16_f32))
    Cert.Reference15Ideal.Gen.transposes_S2048x1024_S1024x2048_1_0

/-- The block indices of the windows at a grid point. -/
theorem idx : ∀ t : Fin cfg0.N, win0_0.index t = ![t.val % 4, 0]
    ∧ win0_1.index t = ![t.val % 4, t.val / 4]
    ∧ win0_2.index t = ![0, t.val / 4] :=
  (by decide +kernel : ∀ t : Fin grid0.N, _)

/-- The product of the transposed block `x` with the block `w`, at one entry. -/
abbrev dotT (x : FVec Ideal S1024x1024 .bf16) (w : FVec Ideal S1024x1024 .f32) (j : S1024x1024.Idx) : EReal :=
  ∑ k, (x (ix2 k (j 0)) : EReal) * w (ix2 k (j 1))

/-- The accumulator after the last point of a run: the sum of the run's four products. -/
theorem acc (c : Dev nD) (t : Fin cfg0.N) (h : t.val % 4 = 3) (j) :
    (outsAt0 m c t.val t.isLt).2 j = (0 : EReal) + ∑ s : Fin 4,
      dotT (iblk m c 0 ⟨4 * (t.val / 4) + s.val, Pipeline.run_point_lt_of_flush t h s⟩)
        (iblk m c 1 ⟨4 * (t.val / 4) + s.val, Pipeline.run_point_lt_of_flush t h s⟩) j := by
  refine Pipeline.eq_sum_fin_of_reset_step_apply_of_flush (M := EReal) (fun n h => (outsAt0 m c n h).2) 4 (fun _ => 0)
    (fun t j => dotT (iblk m c 0 t) (iblk m c 1 t) j) (fun t h0 j => ?_) (fun t h0 j => ?_) t h j
  · have h1 : ¬t.val % 4 = 3 := by omega
    rw [outsAt0_A m c t h0 h1]
    frame_out
    pointwise [k0_pay1, k0_pay2, dotT]
  · by_cases h1 : t.val % 4 = 3
    · rw [outsAt0_C m c t h0 h1]
      frame_out
      rw [read_unread_whole]
      pointwise [k0_pay2, dotT]
    · rw [outsAt0_B m c t h0 h1]
      frame_out
      rw [read_unread_whole]
      pointwise [k0_pay2, dotT]

/-- What the run leaves in the result is the reference's value. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h := (flush0_2 t).mp hf
  have h0 : ¬t.val % 4 = 0 := by omega
  blk_simp; rw [after0_2]
  have e : (outsAt0 m c t.val t.isLt).1 = (outsAt0 m c t.val t.isLt).2 := by
    rw [outsAt0_C m c t h0 h]; frame_out
  rw [e, acc m c t h y, zero_add]
  unfold dotT
  pointwise [REF]
  refine Fin.sum_mul_add_congr fun s k hl => ?_
  rw [mul_comm]
  blk_point [iblk, V, idx t, idx ⟨_, Pipeline.run_point_lt_of_flush t h s⟩]

end Cert.InprojDwH

end
-- ==== Proof.InprojDwR.lean ====
/- The gradient of the weights of the RWKV-7 columns: what the array holds after the run. -/
module

public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import Idealize.ShloMosaic.Lib.Pipeline.Value
public import Idealize.ShloMosaic.Lib.StableHlo.Run
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)
open scoped BigOperators

namespace Cert.InprojDwR

open Cert.Kernel16Ideal Cert.Kernel16Ideal.Gen

variable (m : (ℓ : Loc nD τ sig) → Buf (Elt Ideal) ℓ)

/-- The reference: the second array, transposed, times the first, transposed back. -/
abbrev REF (a0 : FVec Ideal Cert.Reference16Ideal.S4096x1024 .bf16) (a1 : FVec Ideal Cert.Reference16Ideal.S4096x1792 .f32) : FVec Ideal Cert.Reference16Ideal.S1024x1792 .f32 :=
  transpose Cert.Reference16Ideal.S1024x1792 [1, 0] (Host.dotGeneral Cert.Reference16Ideal.dot_S4096x1792_S4096x1024_S1792x1024_0_0_1_1_n_n none a1 (extf .f32 a0 Cert.Reference16Ideal.Gen.bitsLt_bf16_f32))
    Cert.Reference16Ideal.Gen.transposes_S1792x1024_S1024x1792_1_0

/-- The block indices of the windows at a grid point. -/
theorem idx : ∀ t : Fin cfg0.N, win0_0.index t = ![t.val % 4, 0]
    ∧ win0_1.index t = ![t.val % 4, t.val / 4]
    ∧ win0_2.index t = ![0, t.val / 4] :=
  (by decide +kernel : ∀ t : Fin grid0.N, _)

/-- The product of the transposed block `x` with the block `w`, at one entry. -/
abbrev dotT (x : FVec Ideal S1024x1024 .bf16) (w : FVec Ideal S1024x896 .f32) (j : S1024x896.Idx) : EReal :=
  ∑ k, (x (ix2 k (j 0)) : EReal) * w (ix2 k (j 1))

/-- The accumulator after the last point of a run: the sum of the run's four products. -/
theorem acc (c : Dev nD) (t : Fin cfg0.N) (h : t.val % 4 = 3) (j) :
    (outsAt0 m c t.val t.isLt).2 j = (0 : EReal) + ∑ s : Fin 4,
      dotT (iblk m c 0 ⟨4 * (t.val / 4) + s.val, Pipeline.run_point_lt_of_flush t h s⟩)
        (iblk m c 1 ⟨4 * (t.val / 4) + s.val, Pipeline.run_point_lt_of_flush t h s⟩) j := by
  refine Pipeline.eq_sum_fin_of_reset_step_apply_of_flush (M := EReal) (fun n h => (outsAt0 m c n h).2) 4 (fun _ => 0)
    (fun t j => dotT (iblk m c 0 t) (iblk m c 1 t) j) (fun t h0 j => ?_) (fun t h0 j => ?_) t h j
  · have h1 : ¬t.val % 4 = 3 := by omega
    rw [outsAt0_A m c t h0 h1]
    frame_out
    pointwise [k0_pay1, k0_pay2, dotT]
  · by_cases h1 : t.val % 4 = 3
    · rw [outsAt0_C m c t h0 h1]
      frame_out
      rw [read_unread_whole]
      pointwise [k0_pay2, dotT]
    · rw [outsAt0_B m c t h0 h1]
      frame_out
      rw [read_unread_whole]
      pointwise [k0_pay2, dotT]

/-- What the run leaves in the result is the reference's value. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h := (flush0_2 t).mp hf
  have h0 : ¬t.val % 4 = 0 := by omega
  blk_simp; rw [after0_2]
  have e : (outsAt0 m c t.val t.isLt).1 = (outsAt0 m c t.val t.isLt).2 := by
    rw [outsAt0_C m c t h0 h]; frame_out
  rw [e, acc m c t h y, zero_add]
  unfold dotT
  pointwise [REF]
  refine Fin.sum_mul_add_congr fun s k hl => ?_
  rw [mul_comm]
  blk_point [iblk, V, idx t, idx ⟨_, Pipeline.run_point_lt_of_flush t h s⟩]

end Cert.InprojDwR

end
-- ==== Proof.Rms.lean ====
/- The norm before the mixers: what the array holds after the run. -/
module

public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import Idealize.ShloMosaic.Lib.Pipeline.Value
public import Idealize.ShloMosaic.Lib.StableHlo.Run
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)
open scoped BigOperators

namespace Cert.Reference17Ideal.Formula

open Cert.Reference17Ideal Cert.Reference17Ideal.Gen

variable (x : FVec Ideal S4096x1024 .f32) (g : FVec Ideal S1x1024 .f32)

/-- A row's mean square plus the norm's constant. -/
abbrev meanSq : FVec Ideal S4096x1 .f32 :=
  addf (Host.divf (broadcastInDim S4096x1 ![0] bcast_S4096_S4096x1_0
      (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))

/-- The normalised rows times the norm's weight. -/
abbrev normed : FVec Ideal S4096x1024 .bf16 :=
  truncf .bf16 (mulf (mulf x (broadcastInDim S4096x1024 ![0, 1] bcast_S4096x1_S4096x1024_0_1 (Host.rsqrt (meanSq x))))
    (broadcastInDim S4096x1024 ![0, 1] bcast_S1x1024_S4096x1024_0_1 g)) bitsLt_bf16_f32

end Cert.Reference17Ideal.Formula

namespace Cert.Rms

open Cert.Kernel17Ideal Cert.Kernel17Ideal.Gen
open Cert.Reference17Ideal.Formula

variable (m : (ℓ : Loc nD τ sig) → Buf (Elt Ideal) ℓ)

/-- The block indices of the windows at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- What the run leaves in the result is the reference's value. -/
theorem final (c : Dev nD) : (dats m 0 c).arrAt 2 (cfgs 0).N = normed (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, normed, meanSq]
  blk_point [iblk, V, idx t]

end Cert.Rms

end
-- ==== Proof.Projections.lean ====
/- The input and output projections, forward and backward, and the norm before them: each call equals its reference. -/
module

public import proofs.«01_k».proof.Defs
public import proofs.«01_k».proof.Proof.InprojH
public import proofs.«01_k».proof.Proof.InprojR
public import proofs.«01_k».proof.Proof.Outproj
public import proofs.«01_k».proof.Proof.OutprojDo
public import proofs.«01_k».proof.Proof.OutprojDw
public import proofs.«01_k».proof.Proof.InprojDh
public import proofs.«01_k».proof.Proof.InprojDwH
public import proofs.«01_k».proof.Proof.InprojDwR
public import proofs.«01_k».proof.Proof.Rms
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import Idealize.ShloMosaic.Lib.Claim

@[expose] public section

set_option maxRecDepth 16384

namespace Cert.Projections

open Idealize.ShloMosaic Idealize.SL.Sem

/-- The projection onto the HGRN2 columns. -/
theorem inproj_h : Cert.algebraic_Kernel9Ideal_Reference9Ideal := by
  pair_intro
  · run_from Cert.Kernel9Ideal.Gen.run_main m g
  · run_from Cert.Reference9Ideal.Value.run m' g'
    exact (InprojH.final m _).symm

/-- The projection onto the RWKV-7 columns. -/
theorem inproj_r : Cert.algebraic_Kernel10Ideal_Reference10Ideal := by
  pair_intro
  · run_from Cert.Kernel10Ideal.Gen.run_main m g
  · run_from Cert.Reference10Ideal.Value.run m' g'
    exact (InprojR.final m _).symm

/-- The output projection with the residual. -/
theorem outproj : Cert.algebraic_Kernel11Ideal_Reference11Ideal := by
  pair_intro
  · run_from Cert.Kernel11Ideal.Gen.run_main m g
  · run_from Cert.Reference11Ideal.Value.run m' g'
    exact (Outproj.final m _).symm

/-- The gradient of the mixers' outputs. -/
theorem outproj_do : Cert.algebraic_Kernel12Ideal_Reference12Ideal := by
  pair_intro
  · run_from Cert.Kernel12Ideal.Gen.run_main m g
  · run_from Cert.Reference12Ideal.Value.run m' g'
    exact (OutprojDo.final m _).symm

/-- The gradient of the output projection's weights. -/
theorem outproj_dw : Cert.algebraic_Kernel13Ideal_Reference13Ideal := by
  pair_intro
  · run_from Cert.Kernel13Ideal.Gen.run_main m g
  · run_from Cert.Reference13Ideal.Value.run m' g'
    exact (OutprojDw.final m _).symm

/-- The gradient of the input projections' input. -/
theorem inproj_dh : Cert.algebraic_Kernel14Ideal_Reference14Ideal := by
  pair_intro
  · run_from Cert.Kernel14Ideal.Gen.run_main m g
  · run_from Cert.Reference14Ideal.Value.run m' g'
    exact (InprojDh.final m _).symm

/-- The gradient of the weights of the HGRN2 columns. -/
theorem inproj_dw_h : Cert.algebraic_Kernel15Ideal_Reference15Ideal := by
  pair_intro
  · run_from Cert.Kernel15Ideal.Gen.run_main m g
  · run_from Cert.Reference15Ideal.Value.run m' g'
    exact (InprojDwH.final m _).symm

/-- The gradient of the weights of the RWKV-7 columns. -/
theorem inproj_dw_r : Cert.algebraic_Kernel16Ideal_Reference16Ideal := by
  pair_intro
  · run_from Cert.Kernel16Ideal.Gen.run_main m g
  · run_from Cert.Reference16Ideal.Value.run m' g'
    exact (InprojDwR.final m _).symm

/-- The norm before the mixers. -/
theorem rms : Cert.algebraic_Kernel17Ideal_Reference17Ideal := by
  pair_intro
  · run_from Cert.Kernel17Ideal.Gen.run_main m g
  · run_from Cert.Reference17Ideal.Value.run m' g'
    exact (Rms.final m _).symm

end Cert.Projections
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Pre_finite
public import proofs.«01_k».proof.Proof.Gen.Pre_finite2
public import proofs.«01_k».proof.Proof.Gen.Pre_finite20
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run
public import proofs.«01_k».proof.Proof.FeedForward
public import proofs.«01_k».proof.Proof.FinalClaim
public import proofs.«01_k».proof.Proof.HgrnClaim
public import proofs.«01_k».proof.Proof.PostClaim
public import proofs.«01_k».proof.Proof.PostFwdClaim
public import proofs.«01_k».proof.Proof.Projections
public import Idealize.ShloMosaic.Adequacy
public import Idealize.ShloMosaic.Init

@[expose] public section

noncomputable section

namespace Cert.Proof

open Idealize.ShloMosaic Idealize.SL.Sem

/-- This reference halts, its arguments as they were; it has no semaphore. -/
theorem frame_reference : Cert.quiescent_ReferenceIdeal := fun m g _ =>
  (θ_run Cert.ReferenceIdeal.defs _ _).mono
    (fun r h => ⟨fun c => (h c).2.2.2.2.2.2.2.2, sem_eq_zero_of_no_sems (by decide) r.2⟩)
    (Cert.ReferenceIdeal.Value.run m g)

/-- This reference halts, its arguments as they were; it has no semaphore. -/
theorem frame_reference2 : Cert.quiescent_Reference2Ideal := fun m g _ =>
  (θ_run Cert.Reference2Ideal.defs _ _).mono
    (fun r h => ⟨fun c => (h c).2.2, sem_eq_zero_of_no_sems (by decide) r.2⟩)
    (Cert.Reference2Ideal.Value.run m g)

/-- This reference halts, its arguments as they were; it has no semaphore. -/
theorem frame_reference3 : Cert.quiescent_Reference3Ideal := fun m g _ =>
  (θ_run Cert.Reference3Ideal.defs _ _).mono
    (fun r h => ⟨fun c => (h c).2, sem_eq_zero_of_no_sems (by decide) r.2⟩)
    (Cert.Reference3Ideal.Value.run m g)

/-- This reference halts, its arguments as they were; it has no semaphore. -/
theorem frame_reference4 : Cert.quiescent_Reference4Ideal := fun m g _ =>
  (θ_run Cert.Reference4Ideal.defs _ _).mono
    (fun r h => ⟨fun c => (h c).2, sem_eq_zero_of_no_sems (by decide) r.2⟩)
    (Cert.Reference4Ideal.Value.run m g)

/-- This reference halts, its arguments as they were; it has no semaphore. -/
theorem frame_reference5 : Cert.quiescent_Reference5Ideal := fun m g _ =>
  (θ_run Cert.Reference5Ideal.defs _ _).mono
    (fun r h => ⟨fun c => (h c).2, sem_eq_zero_of_no_sems (by decide) r.2⟩)
    (Cert.Reference5Ideal.Value.run m g)

/-- This reference halts, its arguments as they were; it has no semaphore. -/
theorem frame_reference6 : Cert.quiescent_Reference6Ideal := fun m g _ =>
  (θ_run Cert.Reference6Ideal.defs _ _).mono
    (fun r h => ⟨fun c => (h c).2.2, sem_eq_zero_of_no_sems (by decide) r.2⟩)
    (Cert.Reference6Ideal.Value.run m g)

/-- This reference halts, its arguments as they were; it has no semaphore. -/
theorem frame_reference7 : Cert.quiescent_Reference7Ideal := fun m g _ =>
  (θ_run Cert.Reference7Ideal.defs _ _).mono
    (fun r h => ⟨fun c => (h c).2.2.2, sem_eq_zero_of_no_sems (by decide) r.2⟩)
    (Cert.Reference7Ideal.Value.run m g)

/-- This reference halts, its arguments as they were; it has no semaphore. -/
theorem frame_reference8 : Cert.quiescent_Reference8Ideal := fun m g _ =>
  (θ_run Cert.Reference8Ideal.defs _ _).mono
    (fun r h => ⟨fun c => (h c).2, sem_eq_zero_of_no_sems (by decide) r.2⟩)
    (Cert.Reference8Ideal.Value.run m g)

/-- This reference halts, its arguments as they were; it has no semaphore. -/
theorem frame_reference9 : Cert.quiescent_Reference9Ideal := fun m g _ =>
  (θ_run Cert.Reference9Ideal.defs _ _).mono
    (fun r h => ⟨fun c => (h c).2, sem_eq_zero_of_no_sems (by decide) r.2⟩)
    (Cert.Reference9Ideal.Value.run m g)

/-- This reference halts, its arguments as they were; it has no semaphore. -/
theorem frame_reference10 : Cert.quiescent_Reference10Ideal := fun m g _ =>
  (θ_run Cert.Reference10Ideal.defs _ _).mono
    (fun r h => ⟨fun c => (h c).2, sem_eq_zero_of_no_sems (by decide) r.2⟩)
    (Cert.Reference10Ideal.Value.run m g)

/-- This reference halts, its arguments as they were; it has no semaphore. -/
theorem frame_reference11 : Cert.quiescent_Reference11Ideal := fun m g _ =>
  (θ_run Cert.Reference11Ideal.defs _ _).mono
    (fun r h => ⟨fun c => (h c).2, sem_eq_zero_of_no_sems (by decide) r.2⟩)
    (Cert.Reference11Ideal.Value.run m g)

/-- This reference halts, its arguments as they were; it has no semaphore. -/
theorem frame_reference12 : Cert.quiescent_Reference12Ideal := fun m g _ =>
  (θ_run Cert.Reference12Ideal.defs _ _).mono
    (fun r h => ⟨fun c => (h c).2, sem_eq_zero_of_no_sems (by decide) r.2⟩)
    (Cert.Reference12Ideal.Value.run m g)

/-- This reference halts, its arguments as they were; it has no semaphore. -/
theorem frame_reference13 : Cert.quiescent_Reference13Ideal := fun m g _ =>
  (θ_run Cert.Reference13Ideal.defs _ _).mono
    (fun r h => ⟨fun c => (h c).2, sem_eq_zero_of_no_sems (by decide) r.2⟩)
    (Cert.Reference13Ideal.Value.run m g)

/-- This reference halts, its arguments as they were; it has no semaphore. -/
theorem frame_reference14 : Cert.quiescent_Reference14Ideal := fun m g _ =>
  (θ_run Cert.Reference14Ideal.defs _ _).mono
    (fun r h => ⟨fun c => (h c).2, sem_eq_zero_of_no_sems (by decide) r.2⟩)
    (Cert.Reference14Ideal.Value.run m g)

/-- This reference halts, its arguments as they were; it has no semaphore. -/
theorem frame_reference15 : Cert.quiescent_Reference15Ideal := fun m g _ =>
  (θ_run Cert.Reference15Ideal.defs _ _).mono
    (fun r h => ⟨fun c => (h c).2, sem_eq_zero_of_no_sems (by decide) r.2⟩)
    (Cert.Reference15Ideal.Value.run m g)

/-- This reference halts, its arguments as they were; it has no semaphore. -/
theorem frame_reference16 : Cert.quiescent_Reference16Ideal := fun m g _ =>
  (θ_run Cert.Reference16Ideal.defs _ _).mono
    (fun r h => ⟨fun c => (h c).2, sem_eq_zero_of_no_sems (by decide) r.2⟩)
    (Cert.Reference16Ideal.Value.run m g)

/-- This reference halts, its arguments as they were; it has no semaphore. -/
theorem frame_reference17 : Cert.quiescent_Reference17Ideal := fun m g _ =>
  (θ_run Cert.Reference17Ideal.defs _ _).mono
    (fun r h => ⟨fun c => (h c).2, sem_eq_zero_of_no_sems (by decide) r.2⟩)
    (Cert.Reference17Ideal.Value.run m g)

/-- This reference halts, its arguments as they were; it has no semaphore. -/
theorem frame_reference18 : Cert.quiescent_Reference18Ideal := fun m g _ =>
  (θ_run Cert.Reference18Ideal.defs _ _).mono
    (fun r h => ⟨fun c => (h c).2.2.2, sem_eq_zero_of_no_sems (by decide) r.2⟩)
    (Cert.Reference18Ideal.Value.run m g)

/-- This reference halts, its arguments as they were; it has no semaphore. -/
theorem frame_reference19 : Cert.quiescent_Reference19Ideal := fun m g _ =>
  (θ_run Cert.Reference19Ideal.defs _ _).mono
    (fun r h => ⟨fun c => (h c).2.2, sem_eq_zero_of_no_sems (by decide) r.2⟩)
    (Cert.Reference19Ideal.Value.run m g)

/-- This reference halts, its arguments as they were; it has no semaphore. -/
theorem frame_reference20 : Cert.quiescent_Reference20Ideal := fun m g _ =>
  (θ_run Cert.Reference20Ideal.defs _ _).mono
    (fun r h => ⟨fun c => (h c).2, sem_eq_zero_of_no_sems (by decide) r.2⟩)
    (Cert.Reference20Ideal.Value.run m g)

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Pre_finite.Gen.facts, Cert.Pre_finite2.Gen.facts, Cert.Pre_finite20.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    fun m g _ => Cert.Kernel2.Gen.frame m g,
    fun m g _ => Cert.Kernel2Ideal.Gen.frame m g,
    fun m g _ => Cert.Kernel2Ideal.Gen.frame m g,
    frame_reference2,
    fun m g _ => frame_reference2 m g trivial,
    fun m g _ => Cert.Kernel3.Gen.frame m g,
    fun m g _ => Cert.Kernel3Ideal.Gen.frame m g,
    frame_reference3,
    fun m g _ => Cert.Kernel4.Gen.frame m g,
    fun m g _ => Cert.Kernel4Ideal.Gen.frame m g,
    frame_reference4,
    fun m g _ => Cert.Kernel5.Gen.frame m g,
    fun m g _ => Cert.Kernel5Ideal.Gen.frame m g,
    frame_reference5,
    fun m g _ => Cert.Kernel6.Gen.frame m g,
    fun m g _ => Cert.Kernel6Ideal.Gen.frame m g,
    frame_reference6,
    fun m g _ => Cert.Kernel7.Gen.frame m g,
    fun m g _ => Cert.Kernel7Ideal.Gen.frame m g,
    frame_reference7,
    fun m g _ => Cert.Kernel8.Gen.frame m g,
    fun m g _ => Cert.Kernel8Ideal.Gen.frame m g,
    frame_reference8,
    fun m g _ => Cert.Kernel9.Gen.frame m g,
    fun m g _ => Cert.Kernel9Ideal.Gen.frame m g,
    frame_reference9,
    fun m g _ => Cert.Kernel10.Gen.frame m g,
    fun m g _ => Cert.Kernel10Ideal.Gen.frame m g,
    frame_reference10,
    fun m g _ => Cert.Kernel11.Gen.frame m g,
    fun m g _ => Cert.Kernel11Ideal.Gen.frame m g,
    frame_reference11,
    fun m g _ => Cert.Kernel12.Gen.frame m g,
    fun m g _ => Cert.Kernel12Ideal.Gen.frame m g,
    frame_reference12,
    fun m g _ => Cert.Kernel13.Gen.frame m g,
    fun m g _ => Cert.Kernel13Ideal.Gen.frame m g,
    frame_reference13,
    fun m g _ => Cert.Kernel14.Gen.frame m g,
    fun m g _ => Cert.Kernel14Ideal.Gen.frame m g,
    frame_reference14,
    fun m g _ => Cert.Kernel15.Gen.frame m g,
    fun m g _ => Cert.Kernel15Ideal.Gen.frame m g,
    frame_reference15,
    fun m g _ => Cert.Kernel16.Gen.frame m g,
    fun m g _ => Cert.Kernel16Ideal.Gen.frame m g,
    frame_reference16,
    fun m g _ => Cert.Kernel17.Gen.frame m g,
    fun m g _ => Cert.Kernel17Ideal.Gen.frame m g,
    frame_reference17,
    fun m g _ => Cert.Kernel18.Gen.frame m g,
    fun m g _ => Cert.Kernel18Ideal.Gen.frame m g,
    frame_reference18,
    fun m g _ => Cert.Kernel19.Gen.frame m g,
    fun m g _ => Cert.Kernel19Ideal.Gen.frame m g,
    frame_reference19,
    fun m g _ => Cert.Kernel20.Gen.frame m g,
    fun m g _ => Cert.Kernel20Ideal.Gen.frame m g,
    fun m g _ => Cert.Kernel20Ideal.Gen.frame m g,
    frame_reference20,
    fun m g _ => frame_reference20 m g trivial,
    trivial,
    PostClaim.claim,
    trivial,
    FeedForward.dact,
    trivial,
    FeedForward.dwd,
    trivial,
    FeedForward.dwg,
    trivial,
    FeedForward.dh,
    trivial,
    FeedForward.drms,
    trivial,
    FeedForward.gate_up,
    trivial,
    FeedForward.down,
    trivial,
    Projections.inproj_h,
    trivial,
    Projections.inproj_r,
    trivial,
    Projections.outproj,
    trivial,
    Projections.outproj_do,
    trivial,
    Projections.outproj_dw,
    trivial,
    Projections.inproj_dh,
    trivial,
    Projections.inproj_dw_h,
    trivial,
    Projections.inproj_dw_r,
    trivial,
    Projections.rms,
    trivial,
    FinalClaim.claim,
    trivial,
    HgrnClaim.claim,
    trivial,
    PostFwdClaim.claim⟩

end Cert.Proof

end
